-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 [hPre_table_ranges : Cert.Pre_table_ranges.Facts] (m : (ℓ : Loc Cert.Kernel2.nD Cert.Kernel2.τ Cert.Kernel2.sig) → Buf (Elt Bits) ℓ) : Prop :=
  ∀ c : Dev Cert.Kernel2.nD,
    (Cert.Pre_table_ranges.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).1 = (fun _ => 1#1)
    ∧ (Cert.Pre_table_ranges.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.1 = (fun _ => 1#1)
    ∧ (Cert.Pre_table_ranges.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2 = (fun _ => 1#1)

def Pre_Kernel2Ideal [hPre_table_ranges : Cert.Pre_table_ranges.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_table_ranges.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_table_ranges.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_table_ranges.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_table_ranges [hPre_table_ranges : Cert.Pre_table_ranges.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_table_ranges.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_table_ranges.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_table_ranges.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_samples [hPre_finite_samples : Cert.Pre_finite_samples.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_samples.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_finite_samples.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_finite_samples.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.1 = (fun _ => 1#1)
    ∧ (Cert.Pre_finite_samples.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.1 = (fun _ => 1#1)
    ∧ (Cert.Pre_finite_samples.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.1 = (fun _ => 1#1)
    ∧ (Cert.Pre_finite_samples.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.1 = (fun _ => 1#1)
    ∧ (Cert.Pre_finite_samples.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_samples [hPre_finite_samples : Cert.Pre_finite_samples.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_samples.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_finite_samples.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_finite_samples.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.1 = (fun _ => 1#1)
    ∧ (Cert.Pre_finite_samples.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.1 = (fun _ => 1#1)
    ∧ (Cert.Pre_finite_samples.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.1 = (fun _ => 1#1)
    ∧ (Cert.Pre_finite_samples.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.1 = (fun _ => 1#1)
    ∧ (Cert.Pre_finite_samples.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_table_ranges : Cert.Pre_table_ranges.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_table_ranges : Cert.Pre_table_ranges.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_table_ranges [hReference2Ideal : Cert.Reference2Ideal.Facts] [hPre_table_ranges : Cert.Pre_table_ranges.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_table_ranges m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_samples [hKernel5Ideal : Cert.Kernel5Ideal.Facts] [hPre_finite_samples : Cert.Pre_finite_samples.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_samples m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_samples [hReference5Ideal : Cert.Reference5Ideal.Facts] [hPre_finite_samples : Cert.Pre_finite_samples.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_samples m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_table_ranges : Cert.Pre_table_ranges.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_3) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_samples [hKernel5Ideal : Cert.Kernel5Ideal.Facts] [hReference5Ideal : Cert.Reference5Ideal.Facts] [hPre_finite_samples : Cert.Pre_finite_samples.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_samples m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_values : Cert.Pre_finite_values.Facts) (hPre_table_ranges : Cert.Pre_table_ranges.Facts) (hPre_finite_samples : Cert.Pre_finite_samples.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2) (hPre_table_ranges := hPre_table_ranges)
    ∧ quiescent_Kernel2Ideal (hKernel2Ideal := hKernel2Ideal) (hPre_table_ranges := hPre_table_ranges)
    ∧ quiescent_Reference2Ideal (hReference2Ideal := hReference2Ideal)
    ∧ quiescent_Reference2Ideal_pre_table_ranges (hReference2Ideal := hReference2Ideal) (hPre_table_ranges := hPre_table_ranges)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_samples (hKernel5Ideal := hKernel5Ideal) (hPre_finite_samples := hPre_finite_samples)
    ∧ quiescent_Reference5Ideal (hReference5Ideal := hReference5Ideal)
    ∧ quiescent_Reference5Ideal_pre_finite_samples (hReference5Ideal := hReference5Ideal) (hPre_finite_samples := hPre_finite_samples)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal) (hPre_table_ranges := hPre_table_ranges)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_samples (hKernel5Ideal := hKernel5Ideal) (hReference5Ideal := hReference5Ideal) (hPre_finite_samples := hPre_finite_samples)
-- ==== Pre_finite_samples.lean ====
abbrev S32768x1024 : Shape := ⟨2, ![32768, 1024]⟩
abbrev S64 : Shape := ⟨1, ![64]⟩
abbrev S128 : Shape := ⟨1, ![128]⟩
abbrev S16384x1024 : Shape := ⟨2, ![16384, 1024]⟩
abbrev S_ : Shape := ⟨0, ![]⟩

class Facts : Prop where
  slices_S32768x1024_S16384x1024_16384_0 : S32768x1024.Slices ![16384, 0] S16384x1024
  bitsLt_bf16_f32 : FTy.bits .bf16 < FTy.bits .f32
  bcast_S_S16384x1024 : S_.BroadcastsInDim S16384x1024 (![] : Fin 0 → Fin S16384x1024.rank)
  bcast_S_S64 : S_.BroadcastsInDim S64 (![] : Fin 0 → Fin S64.rank)

variable [Facts]

def fn_part1 {F : FTy → Type} [FloatOps F] (main_arg5 : FVec F S64 .f32) (main_arg6 : FVec F S64 .f32) (main_v6 : IVec S16384x1024 1) (main_v10 : IVec S16384x1024 1) (main_v14 : IVec S16384x1024 1) (main_v17 : IVec S64 1) (main_v18 : FVec F S64 .f32) (main_cst_3 : FVec F S_ .f32) : IVec S16384x1024 1 × IVec S16384x1024 1 × IVec S16384x1024 1 × IVec S64 1 × IVec S64 1 × IVec S64 1 × IVec S64 1 :=
  let main_v19 : FVec F S64 .f32 := broadcastInDim S64 ![] bcast_S_S64 main_cst_3
  let main_v20 : IVec S64 1 := cmpf .olt main_v18 main_v19
  let main_v21 : FVec F S64 .f32 := Host.absf main_arg5
  let main_cst_4 : FVec F S_ .f32 := constant S_ .f32 0x7F800000#32
  let main_v22 : FVec F S64 .f32 := broadcastInDim S64 ![] bcast_S_S64 main_cst_4
  let main_v23 : IVec S64 1 := cmpf .olt main_v21 main_v22
  let main_v24 : FVec F S64 .f32 := Host.absf main_arg6
  let main_cst_5 : FVec F S_ .f32 := constant S_ .f32 0x7F800000#32
  let main_v25 : FVec F S64 .f32 := broadcastInDim S64 ![] bcast_S_S64 main_cst_5
  let main_v26 : IVec S64 1 := cmpf .olt main_v24 main_v25
  (main_v6, main_v10, main_v14, main_v17, main_v20, main_v23, main_v26)

def fn {F : FTy → Type} [FloatOps F] (main_arg0 : FVec F S32768x1024 .bf16) (main_arg1 : FVec F S32768x1024 .bf16) (main_arg2 : FVec F S32768x1024 .bf16) (main_arg3 : FVec F S64 .f32) (main_arg4 : FVec F S64 .f32) (main_arg5 : FVec F S64 .f32) (main_arg6 : FVec F S64 .f32) (main_arg7 : FVec F S128 .f32) : IVec S16384x1024 1 × IVec S16384x1024 1 × IVec S16384x1024 1 × IVec S64 1 × IVec S64 1 × IVec S64 1 × IVec S64 1 :=
  let main_v0 : FVec F S16384x1024 .bf16 := (extractStridedSlice S16384x1024 ![16384, 0] · slices_S32768x1024_S16384x1024_16384_0) main_arg0
  let main_v1 : FVec F S16384x1024 .bf16 := (extractStridedSlice S16384x1024 ![16384, 0] · slices_S32768x1024_S16384x1024_16384_0) main_arg1
  let main_v2 : FVec F S16384x1024 .bf16 := (extractStridedSlice S16384x1024 ![16384, 0] · slices_S32768x1024_S16384x1024_16384_0) main_arg2
  let main_v3 : FVec F S16384x1024 .f32 := (extf .f32 · bitsLt_bf16_f32) main_v0
  let main_v4 : FVec F S16384x1024 .f32 := Host.absf main_v3
  let main_cst : FVec F S_ .f32 := constant S_ .f32 0x7F800000#32
  let main_v5 : FVec F S16384x1024 .f32 := broadcastInDim S16384x1024 ![] bcast_S_S16384x1024 main_cst
  let main_v6 : IVec S16384x1024 1 := cmpf .olt main_v4 main_v5
  let main_v7 : FVec F S16384x1024 .f32 := (extf .f32 · bitsLt_bf16_f32) main_v1
  let main_v8 : FVec F S16384x1024 .f32 := Host.absf main_v7
  let main_cst_0 : FVec F S_ .f32 := constant S_ .f32 0x7F800000#32
  let main_v9 : FVec F S16384x1024 .f32 := broadcastInDim S16384x1024 ![] bcast_S_S16384x1024 main_cst_0
  let main_v10 : IVec S16384x1024 1 := cmpf .olt main_v8 main_v9
  let main_v11 : FVec F S16384x1024 .f32 := (extf .f32 · bitsLt_bf16_f32) main_v2
  let main_v12 : FVec F S16384x1024 .f32 := Host.absf main_v11
  let main_cst_1 : FVec F S_ .f32 := constant S_ .f32 0x7F800000#32
  let main_v13 : FVec F S16384x1024 .f32 := broadcastInDim S16384x1024 ![] bcast_S_S16384x1024 main_cst_1
  let main_v14 : IVec S16384x1024 1 := cmpf .olt main_v12 main_v13
  let main_v15 : FVec F S64 .f32 := Host.absf main_arg3
  let main_cst_2 : FVec F S_ .f32 := constant S_ .f32 0x7F800000#32
  let main_v16 : FVec F S64 .f32 := broadcastInDim S64 ![] bcast_S_S64 main_cst_2
  let main_v17 : IVec S64 1 := cmpf .olt main_v15 main_v16
  let main_v18 : FVec F S64 .f32 := Host.absf main_arg4
  let main_cst_3 : FVec F S_ .f32 := constant S_ .f32 0x7F800000#32
  fn_part1 (F := F) main_arg5 main_arg6 main_v6 main_v10 main_v14 main_v17 main_v18 main_cst_3
-- ==== Pre_finite_values.lean ====
abbrev S32768x1024 : Shape := ⟨2, ![32768, 1024]⟩
abbrev S64 : Shape := ⟨1, ![64]⟩
abbrev S128 : Shape := ⟨1, ![128]⟩
abbrev S16384x1024 : Shape := ⟨2, ![16384, 1024]⟩
abbrev S_ : Shape := ⟨0, ![]⟩

class Facts : Prop where
  slices_S32768x1024_S16384x1024_0_0 : S32768x1024.Slices ![0, 0] S16384x1024
  bitsLt_bf16_f32 : FTy.bits .bf16 < FTy.bits .f32
  bcast_S_S16384x1024 : S_.BroadcastsInDim S16384x1024 (![] : Fin 0 → Fin S16384x1024.rank)
  bcast_S_S64 : S_.BroadcastsInDim S64 (![] : Fin 0 → Fin S64.rank)

variable [Facts]

def fn_part1 {F : FTy → Type} [FloatOps F] (main_arg5 : FVec F S64 .f32) (main_arg6 : FVec F S64 .f32) (main_v6 : IVec S16384x1024 1) (main_v10 : IVec S16384x1024 1) (main_v14 : IVec S16384x1024 1) (main_v17 : IVec S64 1) (main_v18 : FVec F S64 .f32) (main_cst_3 : FVec F S_ .f32) : IVec S16384x1024 1 × IVec S16384x1024 1 × IVec S16384x1024 1 × IVec S64 1 × IVec S64 1 × IVec S64 1 × IVec S64 1 :=
  let main_v19 : FVec F S64 .f32 := broadcastInDim S64 ![] bcast_S_S64 main_cst_3
  let main_v20 : IVec S64 1 := cmpf .olt main_v18 main_v19
  let main_v21 : FVec F S64 .f32 := Host.absf main_arg5
  let main_cst_4 : FVec F S_ .f32 := constant S_ .f32 0x7F800000#32
  let main_v22 : FVec F S64 .f32 := broadcastInDim S64 ![] bcast_S_S64 main_cst_4
  let main_v23 : IVec S64 1 := cmpf .olt main_v21 main_v22
  let main_v24 : FVec F S64 .f32 := Host.absf main_arg6
  let main_cst_5 : FVec F S_ .f32 := constant S_ .f32 0x7F800000#32
  let main_v25 : FVec F S64 .f32 := broadcastInDim S64 ![] bcast_S_S64 main_cst_5
  let main_v26 : IVec S64 1 := cmpf .olt main_v24 main_v25
  (main_v6, main_v10, main_v14, main_v17, main_v20, main_v23, main_v26)

def fn {F : FTy → Type} [FloatOps F] (main_arg0 : FVec F S32768x1024 .bf16) (main_arg1 : FVec F S32768x1024 .bf16) (main_arg2 : FVec F S32768x1024 .bf16) (main_arg3 : FVec F S64 .f32) (main_arg4 : FVec F S64 .f32) (main_arg5 : FVec F S64 .f32) (main_arg6 : FVec F S64 .f32) (main_arg7 : FVec F S128 .f32) : IVec S16384x1024 1 × IVec S16384x1024 1 × IVec S16384x1024 1 × IVec S64 1 × IVec S64 1 × IVec S64 1 × IVec S64 1 :=
  let main_v0 : FVec F S16384x1024 .bf16 := (extractStridedSlice S16384x1024 ![0, 0] · slices_S32768x1024_S16384x1024_0_0) main_arg0
  let main_v1 : FVec F S16384x1024 .bf16 := (extractStridedSlice S16384x1024 ![0, 0] · slices_S32768x1024_S16384x1024_0_0) main_arg1
  let main_v2 : FVec F S16384x1024 .bf16 := (extractStridedSlice S16384x1024 ![0, 0] · slices_S32768x1024_S16384x1024_0_0) main_arg2
  let main_v3 : FVec F S16384x1024 .f32 := (extf .f32 · bitsLt_bf16_f32) main_v0
  let main_v4 : FVec F S16384x1024 .f32 := Host.absf main_v3
  let main_cst : FVec F S_ .f32 := constant S_ .f32 0x7F800000#32
  let main_v5 : FVec F S16384x1024 .f32 := broadcastInDim S16384x1024 ![] bcast_S_S16384x1024 main_cst
  let main_v6 : IVec S16384x1024 1 := cmpf .olt main_v4 main_v5
  let main_v7 : FVec F S16384x1024 .f32 := (extf .f32 · bitsLt_bf16_f32) main_v1
  let main_v8 : FVec F S16384x1024 .f32 := Host.absf main_v7
  let main_cst_0 : FVec F S_ .f32 := constant S_ .f32 0x7F800000#32
  let main_v9 : FVec F S16384x1024 .f32 := broadcastInDim S16384x1024 ![] bcast_S_S16384x1024 main_cst_0
  let main_v10 : IVec S16384x1024 1 := cmpf .olt main_v8 main_v9
  let main_v11 : FVec F S16384x1024 .f32 := (extf .f32 · bitsLt_bf16_f32) main_v2
  let main_v12 : FVec F S16384x1024 .f32 := Host.absf main_v11
  let main_cst_1 : FVec F S_ .f32 := constant S_ .f32 0x7F800000#32
  let main_v13 : FVec F S16384x1024 .f32 := broadcastInDim S16384x1024 ![] bcast_S_S16384x1024 main_cst_1
  let main_v14 : IVec S16384x1024 1 := cmpf .olt main_v12 main_v13
  let main_v15 : FVec F S64 .f32 := Host.absf main_arg3
  let main_cst_2 : FVec F S_ .f32 := constant S_ .f32 0x7F800000#32
  let main_v16 : FVec F S64 .f32 := broadcastInDim S64 ![] bcast_S_S64 main_cst_2
  let main_v17 : IVec S64 1 := cmpf .olt main_v15 main_v16
  let main_v18 : FVec F S64 .f32 := Host.absf main_arg4
  let main_cst_3 : FVec F S_ .f32 := constant S_ .f32 0x7F800000#32
  fn_part1 (F := F) main_arg5 main_arg6 main_v6 main_v10 main_v14 main_v17 main_v18 main_cst_3
-- ==== Pre_table_ranges.lean ====
abbrev S288 : Shape := ⟨1, ![288]⟩
abbrev S147456x2048 : Shape := ⟨2, ![147456, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S288 32) (main_arg2 : IVec S288 32) (main_arg3 : FVec F S147456x2048 .bf16) (main_arg4 : FVec F S32x2048x4096 .f32) (main_arg5 : FVec F S32x4096 .f32) (main_arg6 : FVec F S32x2048x2048 .f32) (main_arg7 : FVec F S32x2048 .f32) : IVec S288 1 × IVec S288 1 × IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 0#32
  let main_v5 : IVec S288 32 := broadcastInDim S288 ![] bcast_S_S288 main_c_1
  let main_v6 : IVec S288 1 := cmpi .sge main_arg1 main_v5
  let main_c_2 : IVec S_ 32 := constantI S_ 32 288#32
  let main_v7 : IVec S288 32 := broadcastInDim S288 ![] bcast_S_S288 main_c_2
  let main_v8 : IVec S288 1 := cmpi .slt main_arg1 main_v7
  let main_v9 : IVec S288 1 := andi main_v6 main_v8
  let main_c_3 : IVec S_ 32 := constantI S_ 32 0#32
  let main_v10 : IVec S288 32 := broadcastInDim S288 ![] bcast_S_S288 main_c_3
  let main_v11 : IVec S288 1 := cmpi .sge main_arg2 main_v10
  (main_v4, main_v9, main_v11)
-- ==== Kernel.lean ====
abbrev S32768x1024 : Shape := ⟨2, ![32768, 1024]⟩
abbrev S64 : Shape := ⟨1, ![64]⟩
abbrev S128 : Shape := ⟨1, ![128]⟩
abbrev S1x64 : Shape := ⟨2, ![1, 64]⟩
abbrev S4x64 : Shape := ⟨2, ![4, 64]⟩
abbrev S1x128 : Shape := ⟨2, ![1, 128]⟩
abbrev S16384x1024 : Shape := ⟨2, ![16384, 1024]⟩
abbrev S256x128 : Shape := ⟨2, ![256, 128]⟩
abbrev S16384x128 : Shape := ⟨2, ![16384, 128]⟩
abbrev S256x1 : Shape := ⟨2, ![256, 1]⟩
abbrev S512x128 : Shape := ⟨2, ![512, 128]⟩
abbrev S256x512 : Shape := ⟨2, ![256, 512]⟩
abbrev S256 : Shape := ⟨1, ![256]⟩
abbrev S1 : Shape := ⟨1, ![1]⟩
abbrev S1x1 : Shape := ⟨2, ![1, 1]⟩

abbrev nBuf : Space → Nat
  | .hbm => 15
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x64, .f32⟩
  | .hbm, ⟨13, _⟩ => ⟨S1x128, .f32⟩
  | .hbm, ⟨14, _⟩ => ⟨S16384x1024, .bf16⟩
  | .local _ .vmem, ⟨0, _⟩ => ⟨S4x64, .f32⟩
  | .local _ .vmem, ⟨1, _⟩ => ⟨S1x128, .f32⟩
  | .local _ .vmem, ⟨2, _⟩ => ⟨S256x128, .bf16⟩
  | .local _ .vmem, ⟨3, _⟩ => ⟨S256x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S256x128, .bf16⟩
  | .local _ .vmem, ⟨9, _⟩ => ⟨S256x128, .bf16⟩
  | .local _ .vmem, ⟨10, _⟩ => ⟨S256x128, .f32⟩
  | .local _ .vmem, ⟨11, _⟩ => ⟨S256x128, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 8, 64], ![false, false, false]⟩

@[reducible] def k0_t1_loop : Scf.Loop 32 :=
  let c0_i32 : BitVec 32 := 0#32
  let c32_i32 : BitVec 32 := 32#32
  let v33 : BitVec 32 := Scalar.addi c0_i32 c32_i32
  let c1_i32 : BitVec 32 := 1#32
  ⟨c0_i32, v33, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32 : BitVec 32 := 512#32
  let v80 : BitVec 32 := Scalar.muli arg15 c512_i32
  v80
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32 : BitVec 32 := 512#32
  let v80 : BitVec 32 := Scalar.muli arg15 c512_i32
  let v81 : BitVec 32 := v80
  let v82 : Index := Scalar.indexCast v81
  let c0_42 : Index := 0#32
  ![v82.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32768x1024 : Shape := ⟨2, ![32768, 1024]⟩
abbrev S64 : Shape := ⟨1, ![64]⟩
abbrev S128 : Shape := ⟨1, ![128]⟩
abbrev S16384x1024 : Shape := ⟨2, ![16384, 1024]⟩
abbrev S16384x8x2x64 : Shape := ⟨4, ![16384, 8, 2, 64]⟩
abbrev S16384x8x128 : Shape := ⟨3, ![16384, 8, 128]⟩
abbrev S_ : Shape := ⟨0, ![]⟩
abbrev S8x2x16384x16384 : Shape := ⟨4, ![8, 2, 16384, 16384]⟩
abbrev S8x2x16384 : Shape := ⟨3, ![8, 2, 16384]⟩
abbrev S8x2x16384x1 : Shape := ⟨4, ![8, 2, 16384, 1]⟩
abbrev S8x1x16384x16384 : Shape := ⟨4, ![8, 1, 16384, 16384]⟩
abbrev S8x16384x16384 : Shape := ⟨3, ![8, 16384, 16384]⟩
abbrev S8x128x16384 : Shape := ⟨3, ![8, 128, 16384]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 73
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16384x1024, .bf16⟩
  | .hbm, ⟨9, _⟩ => ⟨S16384x1024, .f32⟩
  | .hbm, ⟨10, _⟩ => ⟨S16384x8x2x64, .f32⟩
  | .hbm, ⟨11, _⟩ => ⟨S16384x1024, .bf16⟩
  | .hbm, ⟨12, _⟩ => ⟨S16384x1024, .f32⟩
  | .hbm, ⟨13, _⟩ => ⟨S16384x8x2x64, .f32⟩
  | .hbm, ⟨14, _⟩ => ⟨S16384x1024, .bf16⟩
  | .hbm, ⟨15, _⟩ => ⟨S16384x1024, .f32⟩
  | .hbm, ⟨16, _⟩ => ⟨S16384x8x128, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x2x16384x16384, .f32⟩
  | .hbm, ⟨29, _⟩ => ⟨S_, .f32⟩
  | .hbm, ⟨30, _⟩ => ⟨S8x2x16384, .f32⟩
  | .hbm, ⟨31, _⟩ => ⟨S_, .f32⟩
  | .hbm, ⟨32, _⟩ => ⟨S8x2x16384, .f32⟩
  | .hbm, ⟨33, _⟩ => ⟨S8x2x16384, .f32⟩
  | .hbm, ⟨34, _⟩ => ⟨S8x2x16384x1, .f32⟩
  | .hbm, ⟨35, _⟩ => ⟨S8x2x16384x16384, .f32⟩
  | .hbm, ⟨36, _⟩ => ⟨S8x2x16384x16384, .f32⟩
  | .hbm, ⟨37, _⟩ => ⟨S8x2x16384x16384, .f32⟩
  | .hbm, ⟨38, _⟩ => ⟨S_, .f32⟩
  | .hbm, ⟨39, _⟩ => ⟨S8x2x16384, .f32⟩
  | .hbm, ⟨40, _⟩ => ⟨S8x2x16384x1, .f32⟩
  | .hbm, ⟨41, _⟩ => ⟨S8x2x16384x16384, .f32⟩
  | .hbm, ⟨42, _⟩ => ⟨S8x2x16384x16384, .f32⟩
  | .hbm, ⟨43, _⟩ => ⟨S8x1x16384x16384, .f32⟩
  | .hbm, ⟨44, _⟩ => ⟨S8x16384x16384, .f32⟩
  | .hbm, ⟨45, _⟩ => ⟨S8x1x16384x16384, .f32⟩
  | .hbm, ⟨46, _⟩ => ⟨S8x16384x16384, .f32⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S8x128x16384, .f32⟩
  | .hbm, ⟨51, _⟩ => ⟨S16384x8x128, .f32⟩
  | .hbm, ⟨52, _⟩ => ⟨S16384x8x128, .f32⟩
  | .hbm, ⟨53, _⟩ => ⟨S_, .f32⟩
  | .hbm, ⟨54, _⟩ => ⟨S16384x8, .f32⟩
  | .hbm, ⟨55, _⟩ => ⟨S16384x8x1, .f32⟩
  | .hbm, ⟨56, _⟩ => ⟨S_, .f32⟩
  | .hbm, ⟨57, _⟩ => ⟨S16384x8x1, .f32⟩
  | .hbm, ⟨58, _⟩ => ⟨S16384x8x1, .f32⟩
  | .hbm, ⟨59, _⟩ => ⟨S_, .f32⟩
  | .hbm, ⟨60, _⟩ => ⟨S16384x8x1, .f32⟩
  | .hbm, ⟨61, _⟩ => ⟨S16384x8x1, .f32⟩
  | .hbm, ⟨62, _⟩ => ⟨S16384x8x1, .f32⟩
  | .hbm, ⟨63, _⟩ => ⟨S16384x8x128, .f32⟩
  | .hbm, ⟨64, _⟩ => ⟨S16384x8x128, .f32⟩
  | .hbm, ⟨65, _⟩ => ⟨S1x1x128, .f32⟩
  | .hbm, ⟨66, _⟩ => ⟨S16384x8x128, .f32⟩
  | .hbm, ⟨67, _⟩ => ⟨S16384x8x128, .f32⟩
  | .hbm, ⟨68, _⟩ => ⟨S_, .f32⟩
  | .hbm, ⟨69, _⟩ => ⟨S16384x8x128, .f32⟩
  | .hbm, ⟨70, _⟩ => ⟨S16384x8x128, .f32⟩
  | .hbm, ⟨71, _⟩ => ⟨S16384x1024, .f32⟩
  | .hbm, ⟨72, _⟩ => ⟨S16384x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel2.lean ====
abbrev S288 : Shape := ⟨1, ![288]⟩
abbrev S147456x2048 : Shape := ⟨2, ![147456, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x2048 : Shape := ⟨3, ![32, 1, 2048]⟩
abbrev S512x2048 : Shape := ⟨2, ![512, 2048]⟩
abbrev S1 : Shape := ⟨1, ![1]⟩
abbrev S1x2048x512 : Shape := ⟨3, ![1, 2048, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S2048x512 : Shape := ⟨2, ![2048, 512]⟩
abbrev S512x512 : Shape := ⟨2, ![512, 512]⟩
abbrev S1x512 : Shape := ⟨2, ![1, 512]⟩
abbrev S1x2048 : Shape := ⟨2, ![1, 2048]⟩

abbrev nBuf : Space → Nat
  | .hbm => 16
  | .vmem => 16
  | .smem => 3
  | _ => 0

abbrev bufTy : (tb : Table) → Fin (tcTables nBuf tb) → BufTy
  | .hbm, ⟨0, _⟩ => ⟨S147456x2048, .bf16⟩
  | .hbm, ⟨1, _⟩ => ⟨S32x2048x4096, .f32⟩
  | .hbm, ⟨2, _⟩ => ⟨S32x4096, .f32⟩
  | .hbm, ⟨3, _⟩ => ⟨S32x2048x2048, .f32⟩
  | .hbm, ⟨4, _⟩ => ⟨S32x2048, .f32⟩
  | .hbm, ⟨5, _⟩ => ⟨S32x2048x2048, .f32⟩
  | .hbm, ⟨6, _⟩ => ⟨S32x2048x2048, .bf16⟩
  | .hbm, ⟨7, _⟩ => ⟨S32x2048x2048, .f32⟩
  | .hbm, ⟨8, _⟩ => ⟨S32x2048x2048, .bf16⟩
  | .hbm, ⟨9, _⟩ => ⟨S32x2048, .f32⟩
  | .hbm, ⟨10, _⟩ => ⟨S32x1x2048, .f32⟩
  | .hbm, ⟨11, _⟩ => ⟨S32x2048, .f32⟩
  | .hbm, ⟨12, _⟩ => ⟨S32x1x2048, .f32⟩
  | .hbm, ⟨13, _⟩ => ⟨S32x2048x2048, .bf16⟩
  | .hbm, ⟨14, _⟩ => ⟨S32x1x2048, .f32⟩
  | .hbm, ⟨15, _⟩ => ⟨S147456x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x512x2048, .bf16⟩
  | .local _ .vmem, ⟨11, _⟩ => ⟨S1x512x2048, .bf16⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .smem, ⟨0, _⟩ => ⟨S288, .i32⟩
  | .local _ .smem, ⟨1, _⟩ => ⟨S288, .i32⟩
  | .local _ .smem, ⟨2, _⟩ => ⟨S288, .i32⟩
  | _, _ => ⟨S147456x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![288, 4], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c0_i32_27 : BitVec 32 := 0#32
  let v44 : BitVec 1 := Scalar.cmpi .eq arg1 c0_i32_27
  let v45 : BitVec 32 := Scalar.extui v44
  let c0_i32_28 : BitVec 32 := 0#32
  let v46 : BitVec 1 := Scalar.cmpi .ne v45 c0_i32_28
  v46

def k0_cond3 (i : grid0.Coords) : BitVec 1 :=
  let arg1 : BitVec 32 := BitVec.ofNat 32 (i 1).val
  let c0_i32_29 : BitVec 32 := 0#32
  let v47 : BitVec 1 := Scalar.cmpi .sgt arg1 c0_i32_29
  let v48 : BitVec 32 := Scalar.extui v47
  let c0_i32_30 : BitVec 32 := 0#32
  let v49 : BitVec 1 := Scalar.cmpi .ne v48 c0_i32_30
  v49

def k0_cond4 (i : grid0.Coords) (v6 : BitVec 32) : BitVec 1 :=
  let c0_i32_1 : BitVec 32 := 0#32
  let v7 : BitVec 1 := Scalar.cmpi .eq v6 c0_i32_1
  let arg1 : BitVec 32 := BitVec.ofNat 32 (i 1).val
  let c0_i32_2 : BitVec 32 := 0#32
  let v8 : BitVec 1 := Scalar.cmpi .eq arg1 c0_i32_2
  let v9 : BitVec 1 := Scalar.andi v7 v8
  let v10 : BitVec 32 := Scalar.extui v9
  let c0_i32_3 : BitVec 32 := 0#32
  let v11 : BitVec 1 := Scalar.cmpi .ne v10 c0_i32_3
  v11

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let v2 : Index := Scalar.indexCast arg0
  let v3 : BitVec 32 := pf.at 2 (Rect.unit (s := S288) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let v2 : Index := Scalar.indexCast arg0
  let v3 : BitVec 32 := pf.at 2 (Rect.unit (s := S288) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let v2 : Index := Scalar.indexCast arg0
  let v3 : BitVec 32 := pf.at 2 (Rect.unit (s := S288) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c0_i32_0 : BitVec 32 := 0#32
  let c0_i32_1 : BitVec 32 := 0#32
  ![v1.toNat, c0_i32_0.toNat, v5.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let v2 : Index := Scalar.indexCast arg0
  let v3 : BitVec 32 := pf.at 2 (Rect.unit (s := S288) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c0_i32_0 : BitVec 32 := 0#32
  let c0_i32_1 : BitVec 32 := 0#32
  ![v1.toNat, c0_i32_0.toNat, v5.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let v2 : Index := Scalar.indexCast arg0
  let v3 : BitVec 32 := pf.at 2 (Rect.unit (s := S288) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c0_i32_0 : BitVec 32 := 0#32
  let c0_i32_1 : BitVec 32 := 0#32
  ![v1.toNat, v5.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S288 : Shape := ⟨1, ![288]⟩
abbrev S147456x2048 : Shape := ⟨2, ![147456, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S288x512x2048 : Shape := ⟨3, ![288, 512, 2048]⟩
abbrev S_ : Shape := ⟨0, ![]⟩
abbrev S288x1 : Shape := ⟨2, ![288, 1]⟩
abbrev S288x2048x4096 : Shape := ⟨3, ![288, 2048, 4096]⟩
abbrev S288x512x4096 : Shape := ⟨3, ![288, 512, 4096]⟩
abbrev S288x4096 : Shape := ⟨2, ![288, 4096]⟩
abbrev S288x1x4096 : Shape := ⟨3, ![288, 1, 4096]⟩
abbrev S288x2048x2048 : Shape := ⟨3, ![288, 2048, 2048]⟩
abbrev S288x2048 : Shape := ⟨2, ![288, 2048]⟩
abbrev S288x1x2048 : Shape := ⟨3, ![288, 1, 2048]⟩
abbrev S288x1x1 : Shape := ⟨3, ![288, 1, 1]⟩

abbrev nBuf : Space → Nat
  | .hbm => 102
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S288, .i32⟩
  | .hbm, ⟨3, _⟩ => ⟨S147456x2048, .bf16⟩
  | .hbm, ⟨4, _⟩ => ⟨S32x2048x4096, .f32⟩
  | .hbm, ⟨5, _⟩ => ⟨S32x4096, .f32⟩
  | .hbm, ⟨6, _⟩ => ⟨S32x2048x2048, .f32⟩
  | .hbm, ⟨7, _⟩ => ⟨S32x2048, .f32⟩
  | .hbm, ⟨8, _⟩ => ⟨S147456x2048, .f32⟩
  | .hbm, ⟨9, _⟩ => ⟨S288x512x2048, .f32⟩
  | .hbm, ⟨10, _⟩ => ⟨S_, .i32⟩
  | .hbm, ⟨11, _⟩ => ⟨S288, .i32⟩
  | .hbm, ⟨12, _⟩ => ⟨S288, .i1⟩
  | .hbm, ⟨13, _⟩ => ⟨S_, .i32⟩
  | .hbm, ⟨14, _⟩ => ⟨S288, .i32⟩
  | .hbm, ⟨15, _⟩ => ⟨S288, .i32⟩
  | .hbm, ⟨16, _⟩ => ⟨S288, .i32⟩
  | .hbm, ⟨17, _⟩ => ⟨S288x1, .i32⟩
  | .hbm, ⟨18, _⟩ => ⟨S288x512x2048, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x2048x4096, .f32⟩
  | .hbm, ⟨28, _⟩ => ⟨S288x512x4096, .f32⟩
  | .hbm, ⟨29, _⟩ => ⟨S_, .i32⟩
  | .hbm, ⟨30, _⟩ => ⟨S288, .i32⟩
  | .hbm, ⟨31, _⟩ => ⟨S288, .i1⟩
  | .hbm, ⟨32, _⟩ => ⟨S_, .i32⟩
  | .hbm, ⟨33, _⟩ => ⟨S288, .i32⟩
  | .hbm, ⟨34, _⟩ => ⟨S288, .i32⟩
  | .hbm, ⟨35, _⟩ => ⟨S288, .i32⟩
  | .hbm, ⟨36, _⟩ => ⟨S288x1, .i32⟩
  | .hbm, ⟨37, _⟩ => ⟨S288x4096, .f32⟩
  | .hbm, ⟨38, _⟩ => ⟨S288x1x4096, .f32⟩
  | .hbm, ⟨39, _⟩ => ⟨S288x512x4096, .f32⟩
  | .hbm, ⟨40, _⟩ => ⟨S288x512x4096, .f32⟩
  | .hbm, ⟨41, _⟩ => ⟨S288x512x2048, .f32⟩
  | .hbm, ⟨42, _⟩ => ⟨S288x512x2048, .f32⟩
  | .hbm, ⟨43, _⟩ => ⟨S_, .f32⟩
  | .hbm, ⟨44, _⟩ => ⟨S288x512x2048, .f32⟩
  | .hbm, ⟨45, _⟩ => ⟨S288x512x2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S288x512x2048, .f32⟩
  | .hbm, ⟨50, _⟩ => ⟨S288x512x2048, .f32⟩
  | .hbm, ⟨51, _⟩ => ⟨S_, .f32⟩
  | .hbm, ⟨52, _⟩ => ⟨S288x512x2048, .f32⟩
  | .hbm, ⟨53, _⟩ => ⟨S288x512x2048, .f32⟩
  | .hbm, ⟨54, _⟩ => ⟨S_, .f32⟩
  | .hbm, ⟨55, _⟩ => ⟨S288x512x2048, .f32⟩
  | .hbm, ⟨56, _⟩ => ⟨S288x512x2048, .f32⟩
  | .hbm, ⟨57, _⟩ => ⟨S288x512x2048, .f32⟩
  | .hbm, ⟨58, _⟩ => ⟨S288x512x2048, .f32⟩
  | .hbm, ⟨59, _⟩ => ⟨S_, .f32⟩
  | .hbm, ⟨60, _⟩ => ⟨S288x512x2048, .f32⟩
  | .hbm, ⟨61, _⟩ => ⟨S288x512x2048, .f32⟩
  | .hbm, ⟨62, _⟩ => ⟨S_, .f32⟩
  | .hbm, ⟨63, _⟩ => ⟨S288x512x2048, .f32⟩
  | .hbm, ⟨64, _⟩ => ⟨S288x512x2048, .f32⟩
  | .hbm, ⟨65, _⟩ => ⟨S288x512x2048, .f32⟩
  | .hbm, ⟨66, _⟩ => ⟨S_, .f32⟩
  | .hbm, ⟨67, _⟩ => ⟨S288x512x2048, .f32⟩
  | .hbm, ⟨68, _⟩ => ⟨S288x512x2048, .f32⟩
  | .hbm, ⟨69, _⟩ => ⟨S288x512x2048, .f32⟩
  | .hbm, ⟨70, _⟩ => ⟨S_, .i32⟩
  | .hbm, ⟨71, _⟩ => ⟨S288, .i32⟩
  | .hbm, ⟨72, _⟩ => ⟨S288, .i1⟩
  | .hbm, ⟨73, _⟩ => ⟨S_, .i32⟩
  | .hbm, ⟨74, _⟩ => ⟨S288, .i32⟩
  | .hbm, ⟨75, _⟩ => ⟨S288, .i32⟩
  | .hbm, ⟨76, _⟩ => ⟨S288, .i32⟩
  | .hbm, ⟨77, _⟩ => ⟨S288x1, .i32⟩
  | .hbm, ⟨78, _⟩ => ⟨S288x2048x2048, .f32⟩
  | .hbm, ⟨79, _⟩ => ⟨S288x512x2048, .f32⟩
  | .hbm, ⟨80, _⟩ => ⟨S_, .i32⟩
  | .hbm, ⟨81, _⟩ => ⟨S288, .i32⟩
  | .hbm, ⟨82, _⟩ => ⟨S288, .i1⟩
  | .hbm, ⟨83, _⟩ => ⟨S_, .i32⟩
  | .hbm, ⟨84, _⟩ => ⟨S288, .i32⟩
  | .hbm, ⟨85, _⟩ => ⟨S288, .i32⟩
  | .hbm, ⟨86, _⟩ => ⟨S288, .i32⟩
  | .hbm, ⟨87, _⟩ => ⟨S288x1, .i32⟩
  | .hbm, ⟨88, _⟩ => ⟨S288x2048, .f32⟩
  | .hbm, ⟨89, _⟩ => ⟨S288x1x2048, .f32⟩
  | .hbm, ⟨90, _⟩ => ⟨S288x512x2048, .f32⟩
  | .hbm, ⟨91, _⟩ => ⟨S288x512x2048, .f32⟩
  | .hbm, ⟨92, _⟩ => ⟨S288x1x1, .i32⟩
  | .hbm, ⟨93, _⟩ => ⟨S_, .i32⟩
  | .hbm, ⟨94, _⟩ => ⟨S288x1x1, .i32⟩
  | .hbm, ⟨95, _⟩ => ⟨S288x1x1, .i1⟩
  | .hbm, ⟨96, _⟩ => ⟨S_, .f32⟩
  | .hbm, ⟨97, _⟩ => ⟨S_, .f32⟩
  | .hbm, ⟨98, _⟩ => ⟨S288x512x2048, .i1⟩
  | .hbm, ⟨99, _⟩ => ⟨S288x512x2048, .f32⟩
  | .hbm, ⟨100, _⟩ => ⟨S288x512x2048, .f32⟩
  | .hbm, ⟨101, _⟩ => ⟨S147456x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_cst_6 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_v52 : Ref sig .tc := ⟨.hbm, 81, rfl⟩
abbrev main_v53 : Ref sig .tc := ⟨.hbm, 82, rfl⟩
abbrev main_c_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_15 : Ref sig .tc := ⟨.hbm, 93, rfl⟩
abbrev main_v63 : Ref sig .tc := ⟨.hbm, 94, rfl⟩
abbrev main_v64 : Ref sig .tc := ⟨.hbm, 95, rfl⟩
abbrev main_cst_16 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S1x2048 : Shape := ⟨2, ![1, 2048]⟩
abbrev S1x32 : Shape := ⟨2, ![1, 32]⟩
abbrev S32768x4 : Shape := ⟨2, ![32768, 4]⟩
abbrev S32768x512 : Shape := ⟨2, ![32768, 512]⟩
abbrev S512x1024 : Shape := ⟨2, ![512, 1024]⟩
abbrev S512x2048 : Shape := ⟨2, ![512, 2048]⟩
abbrev S512x4 : Shape := ⟨2, ![512, 4]⟩
abbrev S512x512 : Shape := ⟨2, ![512, 512]⟩
abbrev S1024x2048 : Shape := ⟨2, ![1024, 2048]⟩
abbrev S512 : Shape := ⟨1, ![512]⟩
abbrev S512x1 : Shape := ⟨2, ![512, 1]⟩
abbrev S512x32 : Shape := ⟨2, ![512, 32]⟩
abbrev S512x128 : Shape := ⟨2, ![512, 128]⟩

abbrev nBuf : Space → Nat
  | .hbm => 15
  | .vmem => 18
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S2048x2048, .f32⟩
  | .hbm, ⟨4, _⟩ => ⟨S2048, .f32⟩
  | .hbm, ⟨5, _⟩ => ⟨S2048x32, .f32⟩
  | .hbm, ⟨6, _⟩ => ⟨S32, .f32⟩
  | .hbm, ⟨7, _⟩ => ⟨S2048x2048, .bf16⟩
  | .hbm, ⟨8, _⟩ => ⟨S1x2048, .f32⟩
  | .hbm, ⟨9, _⟩ => ⟨S2048x32, .bf16⟩
  | .hbm, ⟨10, _⟩ => ⟨S1x32, .f32⟩
  | .hbm, ⟨11, _⟩ => ⟨S32768x2048, .f32⟩
  | .hbm, ⟨12, _⟩ => ⟨S32768x2048, .bf16⟩
  | .hbm, ⟨13, _⟩ => ⟨S32768x4, .i32⟩
  | .hbm, ⟨14, _⟩ => ⟨S32768x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S2048x32, .bf16⟩
  | .local _ .vmem, ⟨9, _⟩ => ⟨S1x32, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x4, .i32⟩
  | .local _ .vmem, ⟨15, _⟩ => ⟨S512x4, .i32⟩
  | .local _ .vmem, ⟨16, _⟩ => ⟨S512x512, .f32⟩
  | .local _ .vmem, ⟨17, _⟩ => ⟨S512x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32768x1024 : Shape := ⟨2, ![32768, 1024]⟩
abbrev S32768x2048 : Shape := ⟨2, ![32768, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S2048x2048, .f32⟩
  | .hbm, ⟨4, _⟩ => ⟨S2048, .f32⟩
  | .hbm, ⟨5, _⟩ => ⟨S2048x32, .f32⟩
  | .hbm, ⟨6, _⟩ => ⟨S32, .f32⟩
  | .hbm, ⟨7, _⟩ => ⟨S32768x2048, .bf16⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x2048, .f32⟩
  | .hbm, ⟨23, _⟩ => ⟨S32768x2048, .f32⟩
  | .hbm, ⟨24, _⟩ => ⟨S1x2048, .f32⟩
  | .hbm, ⟨25, _⟩ => ⟨S32768x2048, .f32⟩
  | .hbm, ⟨26, _⟩ => ⟨S32768x2048, .f32⟩
  | .hbm, ⟨27, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel4.lean ====
abbrev S32768x2048 : Shape := ⟨2, ![32768, 2048]⟩
abbrev S2048 : Shape := ⟨1, ![2048]⟩
abbrev S2048x4096 : Shape := ⟨2, ![2048, 4096]⟩
abbrev S64 : Shape := ⟨1, ![64]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1x2048 : Shape := ⟨2, ![1, 2048]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S32768x1024 : Shape := ⟨2, ![32768, 1024]⟩
abbrev S512x2048 : Shape := ⟨2, ![512, 2048]⟩
abbrev S2048x1024 : Shape := ⟨2, ![2048, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩

abbrev nBuf : Space → Nat
  | .hbm => 44
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x4096, .f32⟩
  | .hbm, ⟨3, _⟩ => ⟨S64, .f32⟩
  | .hbm, ⟨4, _⟩ => ⟨S64, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S16384, .f32⟩
  | .hbm, ⟨22, _⟩ => ⟨S16384x1, .f32⟩
  | .hbm, ⟨23, _⟩ => ⟨S1x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S1x2048, .f32⟩
  | .hbm, ⟨31, _⟩ => ⟨S2048x4096, .bf16⟩
  | .hbm, ⟨32, _⟩ => ⟨S1x64, .f32⟩
  | .hbm, ⟨33, _⟩ => ⟨S2x64, .f32⟩
  | .hbm, ⟨34, _⟩ => ⟨S128, .f32⟩
  | .hbm, ⟨35, _⟩ => ⟨S1x128, .f32⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S32768x1024, .bf16⟩
  | .hbm, ⟨41, _⟩ => ⟨S32768x1024, .bf16⟩
  | .hbm, ⟨42, _⟩ => ⟨S32768x1024, .bf16⟩
  | .hbm, ⟨43, _⟩ => ⟨S32768x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x128, .f32⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let v12 : BitVec 32 := Scalar.select v0 arg0 v11
  let c0_i32_4 : BitVec 32 := 0#32
  let c0_i32_5 : BitVec 32 := 0#32
  ![v12.toNat, c0_i32_4.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let v12 : BitVec 32 := Scalar.select v0 arg0 v11
  let c0_i32_4 : BitVec 32 := 0#32
  let c0_i32_5 : BitVec 32 := 0#32
  ![v12.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference4Ideal.lean ====
abbrev S32768x2048 : Shape := ⟨2, ![32768, 2048]⟩
abbrev S2048 : Shape := ⟨1, ![2048]⟩
abbrev S2048x4096 : Shape := ⟨2, ![2048, 4096]⟩
abbrev S64 : Shape := ⟨1, ![64]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x4096 : Shape := ⟨2, ![32768, 4096]⟩
abbrev S32768x1024 : Shape := ⟨2, ![32768, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x4096, .f32⟩
  | .hbm, ⟨3, _⟩ => ⟨S64, .f32⟩
  | .hbm, ⟨4, _⟩ => ⟨S64, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x4096, .f32⟩
  | .hbm, ⟨22, _⟩ => ⟨S32768x1024, .f32⟩
  | .hbm, ⟨23, _⟩ => ⟨S32768x1024, .bf16⟩
  | .hbm, ⟨24, _⟩ => ⟨S32768x1024, .f32⟩
  | .hbm, ⟨25, _⟩ => ⟨S32768x1024, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel5.lean ====
abbrev S32768x1024 : Shape := ⟨2, ![32768, 1024]⟩
abbrev S64 : Shape := ⟨1, ![64]⟩
abbrev S128 : Shape := ⟨1, ![128]⟩
abbrev S1x64 : Shape := ⟨2, ![1, 64]⟩
abbrev S4x64 : Shape := ⟨2, ![4, 64]⟩
abbrev S1x128 : Shape := ⟨2, ![1, 128]⟩
abbrev S16384x1024 : Shape := ⟨2, ![16384, 1024]⟩
abbrev S256x128 : Shape := ⟨2, ![256, 128]⟩
abbrev S2048x128 : Shape := ⟨2, ![2048, 128]⟩
abbrev S256x1 : Shape := ⟨2, ![256, 1]⟩
abbrev S512x128 : Shape := ⟨2, ![512, 128]⟩
abbrev S256x512 : Shape := ⟨2, ![256, 512]⟩
abbrev S256 : Shape := ⟨1, ![256]⟩
abbrev S1 : Shape := ⟨1, ![1]⟩
abbrev S1x1 : Shape := ⟨2, ![1, 1]⟩

abbrev nBuf : Space → Nat
  | .hbm => 15
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x64, .f32⟩
  | .hbm, ⟨13, _⟩ => ⟨S1x128, .f32⟩
  | .hbm, ⟨14, _⟩ => ⟨S16384x1024, .bf16⟩
  | .local _ .vmem, ⟨0, _⟩ => ⟨S4x64, .f32⟩
  | .local _ .vmem, ⟨1, _⟩ => ⟨S1x128, .f32⟩
  | .local _ .vmem, ⟨2, _⟩ => ⟨S256x128, .bf16⟩
  | .local _ .vmem, ⟨3, _⟩ => ⟨S256x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S256x128, .f32⟩
  | .local _ .vmem, ⟨11, _⟩ => ⟨S256x128, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 8], ![false, false, false]⟩

@[reducible] def k0_t1_loop : Scf.Loop 32 :=
  let c0_i32 : BitVec 32 := 0#32
  let c4_i32 : BitVec 32 := 4#32
  let v33 : BitVec 32 := Scalar.addi c0_i32 c4_i32
  let c1_i32 : BitVec 32 := 1#32
  ⟨c0_i32, v33, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32 : BitVec 32 := 512#32
  let v80 : BitVec 32 := Scalar.muli arg15 c512_i32
  v80
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32 : BitVec 32 := 512#32
  let v80 : BitVec 32 := Scalar.muli arg15 c512_i32
  let v81 : BitVec 32 := v80
  let v82 : Index := Scalar.indexCast v81
  let c0_42 : Index := 0#32
  ![v82.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c64_i32 : BitVec 32 := 64#32
  let v1 : BitVec 32 := Scalar.addi c64_i32 v0
  let v2 : BitVec 32 := Scalar.addi v1 arg2
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S32768x1024 : Shape := ⟨2, ![32768, 1024]⟩
abbrev S64 : Shape := ⟨1, ![64]⟩
abbrev S128 : Shape := ⟨1, ![128]⟩
abbrev S16384x1024 : Shape := ⟨2, ![16384, 1024]⟩
abbrev S8x2048x8x2x64 : Shape := ⟨5, ![8, 2048, 8, 2, 64]⟩
abbrev S8x2048x8x128 : Shape := ⟨4, ![8, 2048, 8, 128]⟩
abbrev S_ : Shape := ⟨0, ![]⟩
abbrev S8x8x2x2048x2048 : Shape := ⟨5, ![8, 8, 2, 2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 73
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16384x1024, .bf16⟩
  | .hbm, ⟨9, _⟩ => ⟨S16384x1024, .f32⟩
  | .hbm, ⟨10, _⟩ => ⟨S8x2048x8x2x64, .f32⟩
  | .hbm, ⟨11, _⟩ => ⟨S16384x1024, .bf16⟩
  | .hbm, ⟨12, _⟩ => ⟨S16384x1024, .f32⟩
  | .hbm, ⟨13, _⟩ => ⟨S8x2048x8x2x64, .f32⟩
  | .hbm, ⟨14, _⟩ => ⟨S16384x1024, .bf16⟩
  | .hbm, ⟨15, _⟩ => ⟨S16384x1024, .f32⟩
  | .hbm, ⟨16, _⟩ => ⟨S8x2048x8x128, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x8x2x2048x2048, .f32⟩
  | .hbm, ⟨29, _⟩ => ⟨S_, .f32⟩
  | .hbm, ⟨30, _⟩ => ⟨S8x8x2x2048, .f32⟩
  | .hbm, ⟨31, _⟩ => ⟨S_, .f32⟩
  | .hbm, ⟨32, _⟩ => ⟨S8x8x2x2048, .f32⟩
  | .hbm, ⟨33, _⟩ => ⟨S8x8x2x2048, .f32⟩
  | .hbm, ⟨34, _⟩ => ⟨S8x8x2x2048x1, .f32⟩
  | .hbm, ⟨35, _⟩ => ⟨S8x8x2x2048x2048, .f32⟩
  | .hbm, ⟨36, _⟩ => ⟨S8x8x2x2048x2048, .f32⟩
  | .hbm, ⟨37, _⟩ => ⟨S8x8x2x2048x2048, .f32⟩
  | .hbm, ⟨38, _⟩ => ⟨S_, .f32⟩
  | .hbm, ⟨39, _⟩ => ⟨S8x8x2x2048, .f32⟩
  | .hbm, ⟨40, _⟩ => ⟨S8x8x2x2048x1, .f32⟩
  | .hbm, ⟨41, _⟩ => ⟨S8x8x2x2048x2048, .f32⟩
  | .hbm, ⟨42, _⟩ => ⟨S8x8x2x2048x2048, .f32⟩
  | .hbm, ⟨43, _⟩ => ⟨S8x8x1x2048x2048, .f32⟩
  | .hbm, ⟨44, _⟩ => ⟨S8x8x2048x2048, .f32⟩
  | .hbm, ⟨45, _⟩ => ⟨S8x8x1x2048x2048, .f32⟩
  | .hbm, ⟨46, _⟩ => ⟨S8x8x2048x2048, .f32⟩
  | .hbm, ⟨47, _⟩ => ⟨S8x8x2048x2048, .f32⟩
  | .hbm, ⟨48, _⟩ => ⟨S8x8x2048x2048, .f32⟩
  | .hbm, ⟨49, _⟩ => ⟨S8x8x2048x2048, .f32⟩
  | .hbm, ⟨50, _⟩ => ⟨S8x8x128x2048, .f32⟩
  | .hbm, ⟨51, _⟩ => ⟨S8x2048x8x128, .f32⟩
  | .hbm, ⟨52, _⟩ => ⟨S8x2048x8x128, .f32⟩
  | .hbm, ⟨53, _⟩ => ⟨S_, .f32⟩
  | .hbm, ⟨54, _⟩ => ⟨S8x2048x8, .f32⟩
  | .hbm, ⟨55, _⟩ => ⟨S8x2048x8x1, .f32⟩
  | .hbm, ⟨56, _⟩ => ⟨S_, .f32⟩
  | .hbm, ⟨57, _⟩ => ⟨S8x2048x8x1, .f32⟩
  | .hbm, ⟨58, _⟩ => ⟨S8x2048x8x1, .f32⟩
  | .hbm, ⟨59, _⟩ => ⟨S_, .f32⟩
  | .hbm, ⟨60, _⟩ => ⟨S8x2048x8x1, .f32⟩
  | .hbm, ⟨61, _⟩ => ⟨S8x2048x8x1, .f32⟩
  | .hbm, ⟨62, _⟩ => ⟨S8x2048x8x1, .f32⟩
  | .hbm, ⟨63, _⟩ => ⟨S8x2048x8x128, .f32⟩
  | .hbm, ⟨64, _⟩ => ⟨S8x2048x8x128, .f32⟩
  | .hbm, ⟨65, _⟩ => ⟨S1x1x1x128, .f32⟩
  | .hbm, ⟨66, _⟩ => ⟨S8x2048x8x128, .f32⟩
  | .hbm, ⟨67, _⟩ => ⟨S8x2048x8x128, .f32⟩
  | .hbm, ⟨68, _⟩ => ⟨S_, .f32⟩
  | .hbm, ⟨69, _⟩ => ⟨S8x2048x8x128, .f32⟩
  | .hbm, ⟨70, _⟩ => ⟨S8x2048x8x128, .f32⟩
  | .hbm, ⟨71, _⟩ => ⟨S16384x1024, .f32⟩
  | .hbm, ⟨72, _⟩ => ⟨S16384x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Proof.Kernel5IdealBody.lean ====
/-
  The attention kernel's body as a function: one trip of its key loop, the loop by an invariant, the whole body's triple.
-/
module

public import proofs.«01_k».proof.Proof.Gen.Kernel5Ideal.Frame
public import proofs.«01_k».proof.Proof.Gen.Kernel5Ideal.Loops
public import Idealize.ShloMosaic.Lib.VecWindow
public import Idealize.ShloMosaic.Lib.Pipeline.TableIdle

@[expose] public section

set_option maxRecDepth 16384

noncomputable section

namespace Cert.Kernel5Ideal.Attn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The six running buffers of the online softmax: numerators, maxima and denominators of both score maps. -/
structure St (F : FTy → Type) where
  acc0 : Vec F S256x128 .f32
  acc1 : Vec F S256x128 .f32
  m0 : Vec F S256x1 .f32
  m1 : Vec F S256x1 .f32
  l0 : Vec F S256x1 .f32
  l1 : Vec F S256x1 .f32

/-- Rows `512 k …` of a key or value block. -/
def rows (X : Vec F S2048x128 .bf16) (k : Fin k0_t1_loop.trips) : Vec F S512x128 .bf16 :=
  VecWindow.window X (k0_off1 k) S512x128.size (k0_off1_inb k)

/-- The buffers after a trip over the key rows `kb` and the value rows `vb`. -/
def next (v5 v8 : Vec F S256x128 .bf16) (kb vb : Vec F S512x128 .bf16) (s : St F) : St F where
  l0 := k0_pay6 v5 kb s.m0 s.l0
  acc0 := k0_pay7 v5 kb vb s.m0 s.acc0
  m0 := k0_pay8 v5 kb s.m0
  l1 := k0_pay23 v8 kb (constant S256x512 .f32 0x00000000#32) s.m1 s.l1
  acc1 := k0_pay24 v8 kb vb (constant S256x512 .f32 0x00000000#32) s.m1 s.acc1
  m1 := k0_pay25 v8 kb (constant S256x512 .f32 0x00000000#32) s.m1

/-- The buffers before trip `k`, from the state `s₀` at loop entry. -/
def st (v5 v8 : Vec F S256x128 .bf16) (X6 X7 : Vec F S2048x128 .bf16) (s₀ : St F) : ℕ → St F
  | 0 => s₀
  | k + 1 => if h : k < k0_t1_loop.trips then next v5 v8 (rows X6 ⟨k, h⟩) (rows X7 ⟨k, h⟩) (st v5 v8 X6 X7 s₀ k) else st v5 v8 X6 X7 s₀ k

/-- The state after one more tile. -/
theorem st_succ (v5 v8 : Vec F S256x128 .bf16) (X6 X7 : Vec F S2048x128 .bf16) (s₀ : St F) (k : Fin k0_t1_loop.trips) :
    st v5 v8 X6 X7 s₀ (k.val + 1) = next v5 v8 (rows X6 k) (rows X7 k) (st v5 v8 X6 X7 s₀ k.val) := by
  rw [st]; exact dif_pos k.isLt

/-- ONE TRIP: key and value block kept, the six buffers stepped by `next`. -/
theorem trip (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (v5 v8 : Vec F S256x128 .bf16) (v29 : FVec F S256x1 .f32)
    (X6 X7 : Vec F S2048x128 .bf16) (s : St F) (E : Set ℕ) (k : Fin k0_t1_loop.trips) :
    (iprop((arg6.view.loc (c : Thread nD τ) ↦[arg6.view.set]{fullShare} arg6.view.rep X6) ∗ (arg7.view.loc (c : Thread nD τ) ↦[arg7.view.set]{fullShare} arg7.view.rep X7)
      ∗ owns (c : Thread nD τ) arg9 fullShare s.acc0 ∗ owns (c : Thread nD τ) arg10 fullShare s.acc1
      ∗ owns (c : Thread nD τ) arg11 fullShare s.m0 ∗ owns (c : Thread nD τ) arg12 fullShare s.m1
      ∗ owns (c : Thread nD τ) arg13 fullShare s.l0 ∗ owns (c : Thread nD τ) arg14 fullShare s.l1) : sProp 𝕄)
    ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 v5 v8 v29 k PUnit.unit)
      (fun _ => (iprop((arg6.view.loc (c : Thread nD τ) ↦[arg6.view.set]{fullShare} arg6.view.rep X6) ∗ (arg7.view.loc (c : Thread nD τ) ↦[arg7.view.set]{fullShare} arg7.view.rep X7)
      ∗ owns (c : Thread nD τ) arg9 fullShare (next v5 v8 (rows X6 k) (rows X7 k) s).acc0 ∗ owns (c : Thread nD τ) arg10 fullShare (next v5 v8 (rows X6 k) (rows X7 k) s).acc1
      ∗ owns (c : Thread nD τ) arg11 fullShare (next v5 v8 (rows X6 k) (rows X7 k) s).m0 ∗ owns (c : Thread nD τ) arg12 fullShare (next v5 v8 (rows X6 k) (rows X7 k) s).m1
      ∗ owns (c : Thread nD τ) arg13 fullShare (next v5 v8 (rows X6 k) (rows X7 k) s).l0 ∗ owns (c : Thread nD τ) arg14 fullShare (next v5 v8 (rows X6 k) (rows X7 k) s).l1) : sProp 𝕄)) := by
  have hk : k.val < 4 := Nat.lt_of_lt_of_le k.isLt k0_t1_abs.2.1
  obtain ⟨a0, a1, m0, m1, l0, l1⟩ := s
  dsimp only
  simp only [owns_eq_rep (c : Thread nD τ) arg9 fullShare a0, owns_eq_rep (c : Thread nD τ) arg10 fullShare a1, owns_eq_rep (c : Thread nD τ) arg11 fullShare m0, owns_eq_rep (c : Thread nD τ) arg12 fullShare m1, owns_eq_rep (c : Thread nD τ) arg13 fullShare l0, owns_eq_rep (c : Thread nD τ) arg14 fullShare l1]
  unfold k0_t1_body
  iintro ⟨H6, H7, H9, H10, H11, H12, H13, H14⟩
  sl_exec
  sl_step
  have e6 : arg6.view.readAt (Elt F) (Rect.unit (s := S2048x128) (k0_off1 k) ![512, 128] (k0_off1_inb k)).toLoadRect (arg6.view.rep X6) = rows X6 k := View.readAt_rep_unit _ _ _ rfl _
  have e7 : arg7.view.readAt (Elt F) (Rect.unit (s := S2048x128) (k0_off1 k) ![512, 128] (k0_off1_inb k)).toLoadRect (arg7.view.rep X7) = rows X7 k := View.readAt_rep_unit _ _ _ rfl _
  have e9 : arg9.view.readAt (Elt F) (Rect.unit (s := S256x128) ![0, 0] ![256, 128] inb_S256x128_S256x128_0_0).toLoadRect (arg9.view.rep a0) = a0 := View.readAt_rep_full _ _ _
  have e10 : arg10.view.readAt (Elt F) (Rect.unit (s := S256x128) ![0, 0] ![256, 128] inb_S256x128_S256x128_0_0).toLoadRect (arg10.view.rep a1) = a1 := View.readAt_rep_full _ _ _
  have e11 : arg11.view.readAt (Elt F) (Rect.unit (s := S256x1) ![0, 0] ![256, 1] inb_S256x1_S256x1_0_0).toLoadRect (arg11.view.rep m0) = m0 := View.readAt_rep_full _ _ _
  have e12 : arg12.view.readAt (Elt F) (Rect.unit (s := S256x1) ![0, 0] ![256, 1] inb_S256x1_S256x1_0_0).toLoadRect (arg12.view.rep m1) = m1 := View.readAt_rep_full _ _ _
  have e13 : arg13.view.readAt (Elt F) (Rect.unit (s := S256x1) ![0, 0] ![256, 1] inb_S256x1_S256x1_0_0).toLoadRect (arg13.view.rep l0) = l0 := View.readAt_rep_full _ _ _
  have e14 : arg14.view.readAt (Elt F) (Rect.unit (s := S256x1) ![0, 0] ![256, 1] inb_S256x1_S256x1_0_0).toLoadRect (arg14.view.rep l1) = l1 := View.readAt_rep_full _ _ _
  have r6 : trip.sl.r arg6 X6 k = rows X6 k := e6
  have r7 : trip.sl.r_1 arg7 X7 k = rows X7 k := e7
  have rc : (trip.sl.cst_60 : FVec F S256x512 .f32) = constant S256x512 .f32 0x00000000#32 := rfl
  isplitl [H6]; · iexact H6
  isplitl [H7]; · iexact H7
  isplitl [H9]
  · unfold owns; iexists _; isplitr; swap; · iexact H9
    ipureintro
    refine (View.read_writes_full _ _ _ _ _).trans ?_
    simp only [r6, r7, rc, e6, e7, e9, e10, e11, e12, e13, e14, next]
  isplitl [H10]
  · unfold owns; iexists _; isplitr; swap; · iexact H10
    ipureintro
    refine (View.read_writes_full _ _ _ _ _).trans ?_
    simp only [r6, r7, rc, e6, e7, e9, e10, e11, e12, e13, e14, next]
  isplitl [H11]
  · unfold owns; iexists _; isplitr; swap; · iexact H11
    ipureintro
    refine (View.read_writes_full _ _ _ _ _).trans ?_
    simp only [r6, r7, rc, e6, e7, e9, e10, e11, e12, e13, e14, next]
  isplitl [H12]
  · unfold owns; iexists _; isplitr; swap; · iexact H12
    ipureintro
    refine (View.read_writes_full _ _ _ _ _).trans ?_
    simp only [r6, r7, rc, e6, e7, e9, e10, e11, e12, e13, e14, next]
  isplitl [H13]
  · unfold owns; iexists _; isplitr; swap; · iexact H13
    ipureintro
    refine (View.read_writes_full _ _ _ _ _).trans ?_
    simp only [r6, r7, rc, e6, e7, e9, e10, e11, e12, e13, e14, next]
  unfold owns; iexists _; isplitr; swap; · iexact H14
  ipureintro
  refine (View.read_writes_full _ _ _ _ _).trans ?_
  simp only [r6, r7, rc, e6, e7, e9, e10, e11, e12, e13, e14, next]

/-- The resources before trip `k`: the blocks read, the six buffers at the state `st`. -/
abbrev inv (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (v5 v8 : Vec F S256x128 .bf16)
    (X6 X7 : Vec F S2048x128 .bf16) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (k : ℕ) (_u : PUnit) : sProp 𝕄 :=
  iprop((arg6.view.loc (c : Thread nD τ) ↦[arg6.view.set]{fullShare} arg6.view.rep X6) ∗ (arg7.view.loc (c : Thread nD τ) ↦[arg7.view.set]{fullShare} arg7.view.rep X7) ∗ (∃ f, (arg9.view.loc (c : Thread nD τ) ↦[arg9.view.set]{fullShare} f) ∗ ⌜arg9.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).acc0⌝) ∗ (∃ f, (arg10.view.loc (c : Thread nD τ) ↦[arg10.view.set]{fullShare} f) ∗ ⌜arg10.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).acc1⌝) ∗ (∃ f, (arg11.view.loc (c : Thread nD τ) ↦[arg11.view.set]{fullShare} f) ∗ ⌜arg11.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).m0⌝) ∗ (∃ f, (arg12.view.loc (c : Thread nD τ) ↦[arg12.view.set]{fullShare} f) ∗ ⌜arg12.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).m1⌝) ∗ (∃ f, (arg13.view.loc (c : Thread nD τ) ↦[arg13.view.set]{fullShare} f) ∗ ⌜arg13.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).l0⌝) ∗ (∃ f, (arg14.view.loc (c : Thread nD τ) ↦[arg14.view.set]{fullShare} f) ∗ ⌜arg14.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).l1⌝))

set_option warn.classDefReducibility false in
/-- The key loop by its invariant. -/
@[sl_loop] def loopInv_k0_t1 (c : Dev nD) (E : Set ℕ) (i : grid0.Coords) (arg3 : Memref sig .tc .vmem S4x64 .f32) (harg3 : arg3.IsWhole) (arg4 : Memref sig .tc .vmem S1x128 .f32) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (v5 v8 : Vec F S256x128 .bf16) (v29 : FVec F S256x1 .f32)
    (X6 X7 : Vec F S2048x128 .bf16) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) :
    Gen.LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 v5 v8 v29 where
  inv := inv (F := F) c i arg3 harg3 arg4 harg4 arg5 harg5 arg6 harg6 arg7 harg7 arg8 harg8 arg9 harg9 arg10 harg10 arg11 harg11 arg12 harg12 arg13 harg13 arg14 harg14 v5 v8 X6 X7 G9 G10 G11 G12 G13 G14
  step k acc := by
    unfold inv
    rw [st_succ]
    generalize st v5 v8 X6 X7 _ k.val = s
    iintro ⟨H6, H7, ⟨%f9, H9, %h9⟩, ⟨%f10, H10, %h10⟩, ⟨%f11, H11, %h11⟩, ⟨%f12, H12, %h12⟩, ⟨%f13, H13, %h13⟩, ⟨%f14, H14, %h14⟩⟩
    iapply (wp_wand_r Idealize.ShloMosaic.frame (wpE (defs₀ (F := F)) Variants.none (c : Thread nD τ) none) E)
    isplitl [H6 H7 H9 H10 H11 H12 H13 H14]
    · iapply (trip (F := F) c i arg3 harg3 arg4 harg4 arg5 harg5 arg6 harg6 arg7 harg7 arg8 harg8 arg9 harg9 arg10 harg10 arg11 harg11 arg12 harg12 arg13 harg13 arg14 harg14 v5 v8 v29 X6 X7 s E k)
      isplitl [H6]; · iexact H6
      isplitl [H7]; · iexact H7
      isplitl [H9]
      · unfold owns; iexists _; isplitr; swap; · iexact H9
        ipureintro; exact h9
      isplitl [H10]
      · unfold owns; iexists _; isplitr; swap; · iexact H10
        ipureintro; exact h10
      isplitl [H11]
      · unfold owns; iexists _; isplitr; swap; · iexact H11
        ipureintro; exact h11
      isplitl [H12]
      · unfold owns; iexists _; isplitr; swap; · iexact H12
        ipureintro; exact h12
      isplitl [H13]
      · unfold owns; iexists _; isplitr; swap; · iexact H13
        ipureintro; exact h13
      unfold owns; iexists _; isplitr; swap; · iexact H14
      ipureintro; exact h14
    · unfold owns
      iintro %_ ⟨H6, H7, ⟨%g9, %h9, H9⟩, ⟨%g10, %h10, H10⟩, ⟨%g11, %h11, H11⟩, ⟨%g12, %h12, H12⟩, ⟨%g13, %h13, H13⟩, ⟨%g14, %h14, H14⟩⟩
      isplitl [H6]; · iexact H6
      isplitl [H7]; · iexact H7
      isplitl [H9]
      · iexists _; isplitl [H9]; · iexact H9
        ipureintro; exact h9
      isplitl [H10]
      · iexists _; isplitl [H10]; · iexact H10
        ipureintro; exact h10
      isplitl [H11]
      · iexists _; isplitl [H11]; · iexact H11
        ipureintro; exact h11
      isplitl [H12]
      · iexists _; isplitl [H12]; · iexact H12
        ipureintro; exact h12
      isplitl [H13]
      · iexists _; isplitl [H13]; · iexact H13
        ipureintro; exact h13
      iexists _; isplitl [H14]; · iexact H14
      ipureintro; exact h14

/-- The state at loop entry: zero numerators, maxima at minus infinity, zero denominators. -/
def st0 : St F := ⟨k0_pay12, k0_pay15, k0_pay13, k0_pay16, k0_pay14, k0_pay18 k0_pay17⟩

/-- The state after the key loop. -/
def stF (x5 : Vec F S256x128 .bf16) (x6 x7 : Vec F S2048x128 .bf16) : St F :=
  st (k0_pay10 x5) (k0_pay11 x5) x6 x7 st0 k0_t1_loop.trips

/-- The block the body stores: both attention maps combined with the weight from `x3`, normalized, scaled by `x4`. -/
def outv (x3 : Vec F S4x64 .f32) (x4 : Vec F S1x128 .f32) (x5 : Vec F S256x128 .bf16) (x6 x7 : Vec F S2048x128 .bf16) : Vec F S256x128 .bf16 :=
  k0_pay1 (k0_pay26 x3 (stF x5 x6 x7).acc0 (stF x5 x6 x7).l0 (stF x5 x6 x7).acc1 (stF x5 x6 x7).l1)
    (k0_pay27 x3 (stF x5 x6 x7).acc0 (stF x5 x6 x7).l0 (stF x5 x6 x7).acc1 (stF x5 x6 x7).l1)
    (Scalar.ofBits .f32 0x3727C5AC#32) x4

set_option maxHeartbeats 1000000 in
/-- THE BODY on any whole memrefs: inputs kept, the output block at `outv`, the six buffers at something. -/
theorem run (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (x3 : Vec F S4x64 .f32) (x4 : Vec F S1x128 .f32) (x5 : Vec F S256x128 .bf16) (x6 x7 : Vec F S2048x128 .bf16) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outv x3 x4 x5 x6 x7) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13 arg14 harg14) K := by
  simp only [cc0_diff_attn_eq_skeleton]; unfold cc0_diff_attn_skel
  simp only [owns_eq_rep (c : Thread nD τ) arg3 fullShare x3, owns_eq_rep (c : Thread nD τ) arg4 fullShare x4, owns_eq_rep (c : Thread nD τ) arg5 fullShare x5, owns_eq_rep (c : Thread nD τ) arg6 fullShare x6, owns_eq_rep (c : Thread nD τ) arg7 fullShare x7]
  simp only [owns]
  iintro ⟨H3, H4, H5, H6, H7, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec
  sl_step
  iapply Hk
  have r0 : run.sl.r arg5 x5 = k0_pay10 x5 := congrArg k0_pay10 (View.readAt_rep_full arg5.view x5 _)
  have r1 : run.sl.r_1 arg5 x5 = k0_pay11 x5 := congrArg k0_pay11 (View.readAt_rep_full arg5.view x5 _)
  have hs : (⟨arg9.view.read (Elt F) (arg9.view.writes (Elt F) arg9.view.junk run.sl.H9_1), arg10.view.read (Elt F) (arg10.view.writes (Elt F) arg10.view.junk run.sl.H10_1), arg11.view.read (Elt F) (arg11.view.writes (Elt F) arg11.view.junk run.sl.H11_1), arg12.view.read (Elt F) (arg12.view.writes (Elt F) arg12.view.junk run.sl.H12_1), arg13.view.read (Elt F) (arg13.view.writes (Elt F) arg13.view.junk run.sl.H13_1), arg14.view.read (Elt F) (arg14.view.writes (Elt F) arg14.view.junk run.sl.H14_1)⟩ : St F) = st0 := by
    have h9 : arg9.view.read (Elt F) (arg9.view.writes (Elt F) arg9.view.junk run.sl.H9_1) = k0_pay12 := View.read_writes_full _ _ _ _ _
    have h10 : arg10.view.read (Elt F) (arg10.view.writes (Elt F) arg10.view.junk run.sl.H10_1) = k0_pay15 := View.read_writes_full _ _ _ _ _
    have h11 : arg11.view.read (Elt F) (arg11.view.writes (Elt F) arg11.view.junk run.sl.H11_1) = k0_pay13 := View.read_writes_full _ _ _ _ _
    have h12 : arg12.view.read (Elt F) (arg12.view.writes (Elt F) arg12.view.junk run.sl.H12_1) = k0_pay16 := View.read_writes_full _ _ _ _ _
    have h13 : arg13.view.read (Elt F) (arg13.view.writes (Elt F) arg13.view.junk run.sl.H13_1) = k0_pay14 := View.read_writes_full _ _ _ _ _
    have h14 : arg14.view.read (Elt F) (arg14.view.writes (Elt F) arg14.view.junk run.sl.H14_1) = k0_pay18 k0_pay17 := View.read_writes_full _ _ _ _ _
    rw [h9, h10, h11, h12, h13, h14]; rfl
  simp only [r0, r1, hs] at hL3 hL5 hL7 hL9 hL11 hL13
  have e3 : arg3.view.readAt (Elt F) (Rect.unit (s := S4x64) ![0, 0] ![4, 64] inb_S4x64_S4x64_0_0).toLoadRect (arg3.view.rep x3) = x3 := View.readAt_rep_full _ _ _
  have e4 : arg4.view.readAt (Elt F) (Rect.unit (s := S1x128) ![0, 0] ![1, 128] inb_S1x128_S1x128_0_0).toLoadRect (arg4.view.rep x4) = x4 := View.readAt_rep_full _ _ _
  have e9 : arg9.view.readAt (Elt F) (Rect.unit (s := S256x128) ![0, 0] ![256, 128] inb_S256x128_S256x128_0_0).toLoadRect fL0 = (stF x5 x6 x7).acc0 := (View.readAt_full _ _ _).trans hL3
  have e10 : arg10.view.readAt (Elt F) (Rect.unit (s := S256x128) ![0, 0] ![256, 128] inb_S256x128_S256x128_0_0).toLoadRect fL1 = (stF x5 x6 x7).acc1 := (View.readAt_full _ _ _).trans hL5
  have e13 : arg13.view.readAt (Elt F) (Rect.unit (s := S256x1) ![0, 0] ![256, 1] inb_S256x1_S256x1_0_0).toLoadRect fL4 = (stF x5 x6 x7).l0 := (View.readAt_full _ _ _).trans hL11
  have e14 : arg14.view.readAt (Elt F) (Rect.unit (s := S256x1) ![0, 0] ![256, 1] inb_S256x1_S256x1_0_0).toLoadRect fL5 = (stF x5 x6 x7).l1 := (View.readAt_full _ _ _).trans hL13
  have r2 : run.sl.r_2 c arg3 arg9 arg10 arg13 arg14 x3 fL0 fL1 fL4 fL5 = k0_pay26 x3 (stF x5 x6 x7).acc0 (stF x5 x6 x7).l0 (stF x5 x6 x7).acc1 (stF x5 x6 x7).l1 :=
    (by rw [e3, e9, e10, e13, e14] : k0_pay26 (arg3.view.readAt (Elt F) (Rect.unit (s := S4x64) ![0, 0] ![4, 64] inb_S4x64_S4x64_0_0).toLoadRect (arg3.view.rep x3)) (arg9.view.readAt (Elt F) (Rect.unit (s := S256x128) ![0, 0] ![256, 128] inb_S256x128_S256x128_0_0).toLoadRect fL0) (arg13.view.readAt (Elt F) (Rect.unit (s := S256x1) ![0, 0] ![256, 1] inb_S256x1_S256x1_0_0).toLoadRect fL4) (arg10.view.readAt (Elt F) (Rect.unit (s := S256x128) ![0, 0] ![256, 128] inb_S256x128_S256x128_0_0).toLoadRect fL1) (arg14.view.readAt (Elt F) (Rect.unit (s := S256x1) ![0, 0] ![256, 1] inb_S256x1_S256x1_0_0).toLoadRect fL5) = _)
  have r3 : run.sl.r_3 c arg3 arg9 arg10 arg13 arg14 x3 fL0 fL1 fL4 fL5 = k0_pay27 x3 (stF x5 x6 x7).acc0 (stF x5 x6 x7).l0 (stF x5 x6 x7).acc1 (stF x5 x6 x7).l1 :=
    (by rw [e3, e9, e10, e13, e14] : k0_pay27 (arg3.view.readAt (Elt F) (Rect.unit (s := S4x64) ![0, 0] ![4, 64] inb_S4x64_S4x64_0_0).toLoadRect (arg3.view.rep x3)) (arg9.view.readAt (Elt F) (Rect.unit (s := S256x128) ![0, 0] ![256, 128] inb_S256x128_S256x128_0_0).toLoadRect fL0) (arg13.view.readAt (Elt F) (Rect.unit (s := S256x1) ![0, 0] ![256, 1] inb_S256x1_S256x1_0_0).toLoadRect fL4) (arg10.view.readAt (Elt F) (Rect.unit (s := S256x128) ![0, 0] ![256, 128] inb_S256x128_S256x128_0_0).toLoadRect fL1) (arg14.view.readAt (Elt F) (Rect.unit (s := S256x1) ![0, 0] ![256, 1] inb_S256x1_S256x1_0_0).toLoadRect fL5) = _)
  isplitl [H3]; · iexact H3
  isplitl [H4]; · iexact H4
  isplitl [H5]; · iexact H5
  isplitl [H6]; · iexact H6
  isplitl [H7]; · iexact H7
  isplitl [H8]
  · iexists _; isplitr; swap; · iexact H8
    ipureintro
    refine (View.read_writes_full _ _ _ _ _).trans ?_
    rw [r2, r3, e4]; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel5Ideal.Attn

end
-- ==== Proof.Kernel5IdealRun.lean ====
/-
  The attention launch: the pipeline's data, the body at every point, the run, the frame and the result array.
-/
module

public import proofs.«01_k».proof.Proof.Kernel5IdealBody
public import Idealize.ShloMosaic.Lib.Pipeline.FrameBody
public import Idealize.ShloMosaic.Lib.Pipeline.Frame
public import Idealize.ShloMosaic.Lib.Claim

@[expose] public section

set_option maxRecDepth 16384

noncomputable section

namespace Cert.Kernel5Ideal.Attn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Scratch buffer 0 of the kernel. -/
abbrev sc0 : Memref sig .tc .vmem S256x128 .f32 := Memref.whole cc0_scratch0
/-- Scratch buffer 1 of the kernel. -/
abbrev sc1 : Memref sig .tc .vmem S256x128 .f32 := Memref.whole cc0_scratch1
/-- Scratch buffer 2 of the kernel. -/
abbrev sc2 : Memref sig .tc .vmem S256x1 .f32 := Memref.whole cc0_scratch2
/-- Scratch buffer 3 of the kernel. -/
abbrev sc3 : Memref sig .tc .vmem S256x1 .f32 := Memref.whole cc0_scratch3
/-- Scratch buffer 4 of the kernel. -/
abbrev sc4 : Memref sig .tc .vmem S256x1 .f32 := Memref.whole cc0_scratch4
/-- Scratch buffer 5 of the kernel. -/
abbrev sc5 : Memref sig .tc .vmem S256x1 .f32 := Memref.whole cc0_scratch5

/-- The invariant between points: the scratch buffers at something, and the generator register. -/
theorem phi_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The output block after point `t`: the body's function of the point's input blocks. -/
def outAt (c : Dev nD) (t : Fin cfg0.N) : Vec F S256x128 .bf16 :=
  outv (iblk m c 0 t) (iblk m c 1 t) (iblk m c 2 t) (iblk m c 3 t) (iblk m c 4 t)

/-- The pipeline's data on core `c`: arrays as found, inputs left in place, the output block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

/-- The data's arrays are what the region finds. -/
theorem A_eq (c : Dev nD) (w : Fin cfg0.W) : (dats m 0 c).A w = V m c (Pipeline.arrRef spec0 w) := by
  dsimp only [dats]

/-- What the body leaves in window 0's buffer. -/
theorem after_0 (c : Dev nD) (t : Fin cfg0.N) : (dats m 0 c).after 0 t = iblk m c 0 t := by dsimp only [dats]
/-- What the body leaves in window 1's buffer. -/
theorem after_1 (c : Dev nD) (t : Fin cfg0.N) : (dats m 0 c).after 1 t = iblk m c 1 t := by dsimp only [dats]
/-- What the body leaves in window 2's buffer. -/
theorem after_2 (c : Dev nD) (t : Fin cfg0.N) : (dats m 0 c).after 2 t = iblk m c 2 t := by dsimp only [dats]
/-- What the body leaves in window 3's buffer. -/
theorem after_3 (c : Dev nD) (t : Fin cfg0.N) : (dats m 0 c).after 3 t = iblk m c 3 t := by dsimp only [dats]
/-- What the body leaves in window 4's buffer. -/
theorem after_4 (c : Dev nD) (t : Fin cfg0.N) : (dats m 0 c).after 4 t = iblk m c 4 t := by dsimp only [dats]
/-- What the body leaves in window 5's buffer. -/
theorem after_5 (c : Dev nD) (t : Fin cfg0.N) : (dats m 0 c).after 5 t = outAt m c t := by dsimp only [dats]
/-- Window 0's buffer holds its block when the body starts. -/
theorem before_0 (c : Dev nD) (t : Fin cfg0.N) (d) : (dats m 0 c).before 0 t d = iblk m c 0 t :=
  before0_0_of m (dats m 0 c) (A_eq m c 0) (after_0 m c) t d
/-- Window 1's buffer holds its block when the body starts. -/
theorem before_1 (c : Dev nD) (t : Fin cfg0.N) (d) : (dats m 0 c).before 1 t d = iblk m c 1 t :=
  before0_1_of m (dats m 0 c) (A_eq m c 1) (after_1 m c) t d
/-- Window 2's buffer holds its block when the body starts. -/
theorem before_2 (c : Dev nD) (t : Fin cfg0.N) (d) : (dats m 0 c).before 2 t d = iblk m c 2 t :=
  before0_2_of m (dats m 0 c) (A_eq m c 2) (after_2 m c) t d
/-- Window 3's buffer holds its block when the body starts. -/
theorem before_3 (c : Dev nD) (t : Fin cfg0.N) (d) : (dats m 0 c).before 3 t d = iblk m c 3 t :=
  before0_3_of m (dats m 0 c) (A_eq m c 3) (after_3 m c) t d
/-- Window 4's buffer holds its block when the body starts. -/
theorem before_4 (c : Dev nD) (t : Fin cfg0.N) (d) : (dats m 0 c).before 4 t d = iblk m c 4 t :=
  before0_4_of m (dats m 0 c) (A_eq m c 4) (after_4 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at point `t`. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point takes `pre` to `post`. -/
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, phi_eq]
  unfold outAt
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply (run (F := F) c (grid0.coords t) _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body at the point's buffers. -/
theorem row (t : Fin cfg0.N) :
    defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The launch terminates, with every array at what the data say and every counter at zero. -/
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end as launched and every counter ends at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (frame_of m ρ (dats m) (A_eq m) ((θ_run defs _ _).mono (fun _ h => h.1) (launch m ρ))) ((θ_run defs _ _).mono (fun _ h => h.2) (launch m ρ))

/-- The launch with the result array named. -/
theorem result : θ_run defs (onTc (τ := τ) (main (F := F))) ⟨m, fun _ => 0, ρ⟩ (fun r => ∀ c : Dev nD,
      r.2.mem ((c.tc : Thread nD τ).loc main_v6) = (dats m 0 c).arrAt 5 cfg0.N) :=
  (θ_run defs _ _).mono (fun r h c => (h.1 c).1 5) (launch m ρ)

end Cert.Kernel5Ideal.Attn

end
-- ==== Proof.KernelIdealBody.lean ====
/-
  The attention kernel's body as a function: one trip of its key loop, the loop by an invariant, the whole body's triple.
-/
module

public import proofs.«01_k».proof.Proof.Gen.KernelIdeal.Frame
public import proofs.«01_k».proof.Proof.Gen.KernelIdeal.Loops
public import Idealize.ShloMosaic.Lib.VecWindow
public import Idealize.ShloMosaic.Lib.Pipeline.TableIdle

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The six running buffers of the online softmax: numerators, maxima and denominators of both score maps. -/
structure St (F : FTy → Type) where
  acc0 : Vec F S256x128 .f32
  acc1 : Vec F S256x128 .f32
  m0 : Vec F S256x1 .f32
  m1 : Vec F S256x1 .f32
  l0 : Vec F S256x1 .f32
  l1 : Vec F S256x1 .f32

/-- Rows `512 k …` of a key or value block. -/
def rows (X : Vec F S16384x128 .bf16) (k : Fin k0_t1_loop.trips) : Vec F S512x128 .bf16 :=
  VecWindow.window X (k0_off1 k) S512x128.size (k0_off1_inb k)

/-- The buffers after a trip over the key rows `kb` and the value rows `vb`. -/
def next (v5 v8 : Vec F S256x128 .bf16) (kb vb : Vec F S512x128 .bf16) (s : St F) : St F where
  l0 := k0_pay6 v5 kb s.m0 s.l0
  acc0 := k0_pay7 v5 kb vb s.m0 s.acc0
  m0 := k0_pay8 v5 kb s.m0
  l1 := k0_pay23 v8 kb (constant S256x512 .f32 0x00000000#32) s.m1 s.l1
  acc1 := k0_pay24 v8 kb vb (constant S256x512 .f32 0x00000000#32) s.m1 s.acc1
  m1 := k0_pay25 v8 kb (constant S256x512 .f32 0x00000000#32) s.m1

/-- The buffers before trip `k`, from the state `s₀` at loop entry. -/
def st (v5 v8 : Vec F S256x128 .bf16) (X6 X7 : Vec F S16384x128 .bf16) (s₀ : St F) : ℕ → St F
  | 0 => s₀
  | k + 1 => if h : k < k0_t1_loop.trips then next v5 v8 (rows X6 ⟨k, h⟩) (rows X7 ⟨k, h⟩) (st v5 v8 X6 X7 s₀ k) else st v5 v8 X6 X7 s₀ k

/-- The state after one more tile. -/
theorem st_succ (v5 v8 : Vec F S256x128 .bf16) (X6 X7 : Vec F S16384x128 .bf16) (s₀ : St F) (k : Fin k0_t1_loop.trips) :
    st v5 v8 X6 X7 s₀ (k.val + 1) = next v5 v8 (rows X6 k) (rows X7 k) (st v5 v8 X6 X7 s₀ k.val) := by
  rw [st]; exact dif_pos k.isLt

/-- ONE TRIP: key and value block kept, the six buffers stepped by `next`. -/
theorem trip (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S256x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (v5 v8 : Vec F S256x128 .bf16) (v29 : FVec F S256x1 .f32)
    (X6 X7 : Vec F S16384x128 .bf16) (s : St F) (E : Set ℕ) (k : Fin k0_t1_loop.trips) :
    (iprop((arg6.view.loc (c : Thread nD τ) ↦[arg6.view.set]{fullShare} arg6.view.rep X6) ∗ (arg7.view.loc (c : Thread nD τ) ↦[arg7.view.set]{fullShare} arg7.view.rep X7)
      ∗ owns (c : Thread nD τ) arg9 fullShare s.acc0 ∗ owns (c : Thread nD τ) arg10 fullShare s.acc1
      ∗ owns (c : Thread nD τ) arg11 fullShare s.m0 ∗ owns (c : Thread nD τ) arg12 fullShare s.m1
      ∗ owns (c : Thread nD τ) arg13 fullShare s.l0 ∗ owns (c : Thread nD τ) arg14 fullShare s.l1) : sProp 𝕄)
    ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 v5 v8 v29 k PUnit.unit)
      (fun _ => (iprop((arg6.view.loc (c : Thread nD τ) ↦[arg6.view.set]{fullShare} arg6.view.rep X6) ∗ (arg7.view.loc (c : Thread nD τ) ↦[arg7.view.set]{fullShare} arg7.view.rep X7)
      ∗ owns (c : Thread nD τ) arg9 fullShare (next v5 v8 (rows X6 k) (rows X7 k) s).acc0 ∗ owns (c : Thread nD τ) arg10 fullShare (next v5 v8 (rows X6 k) (rows X7 k) s).acc1
      ∗ owns (c : Thread nD τ) arg11 fullShare (next v5 v8 (rows X6 k) (rows X7 k) s).m0 ∗ owns (c : Thread nD τ) arg12 fullShare (next v5 v8 (rows X6 k) (rows X7 k) s).m1
      ∗ owns (c : Thread nD τ) arg13 fullShare (next v5 v8 (rows X6 k) (rows X7 k) s).l0 ∗ owns (c : Thread nD τ) arg14 fullShare (next v5 v8 (rows X6 k) (rows X7 k) s).l1) : sProp 𝕄)) := by
  have hk : k.val < 32 := Nat.lt_of_lt_of_le k.isLt k0_t1_abs.2.1
  obtain ⟨a0, a1, m0, m1, l0, l1⟩ := s
  dsimp only
  simp only [owns_eq_rep (c : Thread nD τ) arg9 fullShare a0, owns_eq_rep (c : Thread nD τ) arg10 fullShare a1, owns_eq_rep (c : Thread nD τ) arg11 fullShare m0, owns_eq_rep (c : Thread nD τ) arg12 fullShare m1, owns_eq_rep (c : Thread nD τ) arg13 fullShare l0, owns_eq_rep (c : Thread nD τ) arg14 fullShare l1]
  unfold k0_t1_body
  iintro ⟨H6, H7, H9, H10, H11, H12, H13, H14⟩
  sl_exec
  sl_step
  have e6 : arg6.view.readAt (Elt F) (Rect.unit (s := S16384x128) (k0_off1 k) ![512, 128] (k0_off1_inb k)).toLoadRect (arg6.view.rep X6) = rows X6 k := View.readAt_rep_unit _ _ _ rfl _
  have e7 : arg7.view.readAt (Elt F) (Rect.unit (s := S16384x128) (k0_off1 k) ![512, 128] (k0_off1_inb k)).toLoadRect (arg7.view.rep X7) = rows X7 k := View.readAt_rep_unit _ _ _ rfl _
  have e9 : arg9.view.readAt (Elt F) (Rect.unit (s := S256x128) ![0, 0] ![256, 128] inb_S256x128_S256x128_0_0).toLoadRect (arg9.view.rep a0) = a0 := View.readAt_rep_full _ _ _
  have e10 : arg10.view.readAt (Elt F) (Rect.unit (s := S256x128) ![0, 0] ![256, 128] inb_S256x128_S256x128_0_0).toLoadRect (arg10.view.rep a1) = a1 := View.readAt_rep_full _ _ _
  have e11 : arg11.view.readAt (Elt F) (Rect.unit (s := S256x1) ![0, 0] ![256, 1] inb_S256x1_S256x1_0_0).toLoadRect (arg11.view.rep m0) = m0 := View.readAt_rep_full _ _ _
  have e12 : arg12.view.readAt (Elt F) (Rect.unit (s := S256x1) ![0, 0] ![256, 1] inb_S256x1_S256x1_0_0).toLoadRect (arg12.view.rep m1) = m1 := View.readAt_rep_full _ _ _
  have e13 : arg13.view.readAt (Elt F) (Rect.unit (s := S256x1) ![0, 0] ![256, 1] inb_S256x1_S256x1_0_0).toLoadRect (arg13.view.rep l0) = l0 := View.readAt_rep_full _ _ _
  have e14 : arg14.view.readAt (Elt F) (Rect.unit (s := S256x1) ![0, 0] ![256, 1] inb_S256x1_S256x1_0_0).toLoadRect (arg14.view.rep l1) = l1 := View.readAt_rep_full _ _ _
  have r6 : trip.sl.r arg6 X6 k = rows X6 k := e6
  have r7 : trip.sl.r_1 arg7 X7 k = rows X7 k := e7
  have rc : (trip.sl.cst_60 : FVec F S256x512 .f32) = constant S256x512 .f32 0x00000000#32 := rfl
  isplitl [H6]; · iexact H6
  isplitl [H7]; · iexact H7
  isplitl [H9]
  · unfold owns; iexists _; isplitr; swap; · iexact H9
    ipureintro
    refine (View.read_writes_full _ _ _ _ _).trans ?_
    simp only [r6, r7, rc, e6, e7, e9, e10, e11, e12, e13, e14, next]
  isplitl [H10]
  · unfold owns; iexists _; isplitr; swap; · iexact H10
    ipureintro
    refine (View.read_writes_full _ _ _ _ _).trans ?_
    simp only [r6, r7, rc, e6, e7, e9, e10, e11, e12, e13, e14, next]
  isplitl [H11]
  · unfold owns; iexists _; isplitr; swap; · iexact H11
    ipureintro
    refine (View.read_writes_full _ _ _ _ _).trans ?_
    simp only [r6, r7, rc, e6, e7, e9, e10, e11, e12, e13, e14, next]
  isplitl [H12]
  · unfold owns; iexists _; isplitr; swap; · iexact H12
    ipureintro
    refine (View.read_writes_full _ _ _ _ _).trans ?_
    simp only [r6, r7, rc, e6, e7, e9, e10, e11, e12, e13, e14, next]
  isplitl [H13]
  · unfold owns; iexists _; isplitr; swap; · iexact H13
    ipureintro
    refine (View.read_writes_full _ _ _ _ _).trans ?_
    simp only [r6, r7, rc, e6, e7, e9, e10, e11, e12, e13, e14, next]
  unfold owns; iexists _; isplitr; swap; · iexact H14
  ipureintro
  refine (View.read_writes_full _ _ _ _ _).trans ?_
  simp only [r6, r7, rc, e6, e7, e9, e10, e11, e12, e13, e14, next]

/-- The resources before trip `k`: the blocks read, the six buffers at the state `st`. -/
abbrev inv (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S256x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (v5 v8 : Vec F S256x128 .bf16)
    (X6 X7 : Vec F S16384x128 .bf16) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (k : ℕ) (_u : PUnit) : sProp 𝕄 :=
  iprop((arg6.view.loc (c : Thread nD τ) ↦[arg6.view.set]{fullShare} arg6.view.rep X6) ∗ (arg7.view.loc (c : Thread nD τ) ↦[arg7.view.set]{fullShare} arg7.view.rep X7) ∗ (∃ f, (arg9.view.loc (c : Thread nD τ) ↦[arg9.view.set]{fullShare} f) ∗ ⌜arg9.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).acc0⌝) ∗ (∃ f, (arg10.view.loc (c : Thread nD τ) ↦[arg10.view.set]{fullShare} f) ∗ ⌜arg10.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).acc1⌝) ∗ (∃ f, (arg11.view.loc (c : Thread nD τ) ↦[arg11.view.set]{fullShare} f) ∗ ⌜arg11.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).m0⌝) ∗ (∃ f, (arg12.view.loc (c : Thread nD τ) ↦[arg12.view.set]{fullShare} f) ∗ ⌜arg12.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).m1⌝) ∗ (∃ f, (arg13.view.loc (c : Thread nD τ) ↦[arg13.view.set]{fullShare} f) ∗ ⌜arg13.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).l0⌝) ∗ (∃ f, (arg14.view.loc (c : Thread nD τ) ↦[arg14.view.set]{fullShare} f) ∗ ⌜arg14.view.read (Elt F) f = (st v5 v8 X6 X7 ⟨arg9.view.read (Elt F) G9, arg10.view.read (Elt F) G10, arg11.view.read (Elt F) G11, arg12.view.read (Elt F) G12, arg13.view.read (Elt F) G13, arg14.view.read (Elt F) G14⟩ k).l1⌝))

set_option warn.classDefReducibility false in
/-- The key loop by its invariant. -/
@[sl_loop] def loopInv_k0_t1 (c : Dev nD) (E : Set ℕ) (i : grid0.Coords) (arg3 : Memref sig .tc .vmem S4x64 .f32) (harg3 : arg3.IsWhole) (arg4 : Memref sig .tc .vmem S1x128 .f32) (harg4 : arg4.IsWhole) (arg5 : Memref sig .tc .vmem S256x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (v5 v8 : Vec F S256x128 .bf16) (v29 : FVec F S256x1 .f32)
    (X6 X7 : Vec F S16384x128 .bf16) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) :
    Gen.LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 v5 v8 v29 where
  inv := inv (F := F) c i arg3 harg3 arg4 harg4 arg5 harg5 arg6 harg6 arg7 harg7 arg8 harg8 arg9 harg9 arg10 harg10 arg11 harg11 arg12 harg12 arg13 harg13 arg14 harg14 v5 v8 X6 X7 G9 G10 G11 G12 G13 G14
  step k acc := by
    unfold inv
    rw [st_succ]
    generalize st v5 v8 X6 X7 _ k.val = s
    iintro ⟨H6, H7, ⟨%f9, H9, %h9⟩, ⟨%f10, H10, %h10⟩, ⟨%f11, H11, %h11⟩, ⟨%f12, H12, %h12⟩, ⟨%f13, H13, %h13⟩, ⟨%f14, H14, %h14⟩⟩
    iapply (wp_wand_r Idealize.ShloMosaic.frame (wpE (defs₀ (F := F)) Variants.none (c : Thread nD τ) none) E)
    isplitl [H6 H7 H9 H10 H11 H12 H13 H14]
    · iapply (trip (F := F) c i arg3 harg3 arg4 harg4 arg5 harg5 arg6 harg6 arg7 harg7 arg8 harg8 arg9 harg9 arg10 harg10 arg11 harg11 arg12 harg12 arg13 harg13 arg14 harg14 v5 v8 v29 X6 X7 s E k)
      isplitl [H6]; · iexact H6
      isplitl [H7]; · iexact H7
      isplitl [H9]
      · unfold owns; iexists _; isplitr; swap; · iexact H9
        ipureintro; exact h9
      isplitl [H10]
      · unfold owns; iexists _; isplitr; swap; · iexact H10
        ipureintro; exact h10
      isplitl [H11]
      · unfold owns; iexists _; isplitr; swap; · iexact H11
        ipureintro; exact h11
      isplitl [H12]
      · unfold owns; iexists _; isplitr; swap; · iexact H12
        ipureintro; exact h12
      isplitl [H13]
      · unfold owns; iexists _; isplitr; swap; · iexact H13
        ipureintro; exact h13
      unfold owns; iexists _; isplitr; swap; · iexact H14
      ipureintro; exact h14
    · unfold owns
      iintro %_ ⟨H6, H7, ⟨%g9, %h9, H9⟩, ⟨%g10, %h10, H10⟩, ⟨%g11, %h11, H11⟩, ⟨%g12, %h12, H12⟩, ⟨%g13, %h13, H13⟩, ⟨%g14, %h14, H14⟩⟩
      isplitl [H6]; · iexact H6
      isplitl [H7]; · iexact H7
      isplitl [H9]
      · iexists _; isplitl [H9]; · iexact H9
        ipureintro; exact h9
      isplitl [H10]
      · iexists _; isplitl [H10]; · iexact H10
        ipureintro; exact h10
      isplitl [H11]
      · iexists _; isplitl [H11]; · iexact H11
        ipureintro; exact h11
      isplitl [H12]
      · iexists _; isplitl [H12]; · iexact H12
        ipureintro; exact h12
      isplitl [H13]
      · iexists _; isplitl [H13]; · iexact H13
        ipureintro; exact h13
      iexists _; isplitl [H14]; · iexact H14
      ipureintro; exact h14

/-- The state at loop entry: zero numerators, maxima at minus infinity, zero denominators. -/
def st0 : St F := ⟨k0_pay12, k0_pay15, k0_pay13, k0_pay16, k0_pay14, k0_pay18 k0_pay17⟩

/-- The state after the key loop. -/
def stF (x5 : Vec F S256x128 .bf16) (x6 x7 : Vec F S16384x128 .bf16) : St F :=
  st (k0_pay10 x5) (k0_pay11 x5) x6 x7 st0 k0_t1_loop.trips

/-- The block the body stores: both attention maps combined with the weight from `x3`, normalized, scaled by `x4`. -/
def outv (x3 : Vec F S4x64 .f32) (x4 : Vec F S1x128 .f32) (x5 : Vec F S256x128 .bf16) (x6 x7 : Vec F S16384x128 .bf16) : Vec F S256x128 .bf16 :=
  k0_pay1 (k0_pay26 x3 (stF x5 x6 x7).acc0 (stF x5 x6 x7).l0 (stF x5 x6 x7).acc1 (stF x5 x6 x7).l1)
    (k0_pay27 x3 (stF x5 x6 x7).acc0 (stF x5 x6 x7).l0 (stF x5 x6 x7).acc1 (stF x5 x6 x7).l1)
    (Scalar.ofBits .f32 0x3727C5AC#32) x4

set_option maxHeartbeats 1000000 in
/-- THE BODY on any whole memrefs: inputs kept, the output block at `outv`, the six buffers at something. -/
theorem run (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S256x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S256x1 .f32) (harg14 : arg14.IsWhole) (x3 : Vec F S4x64 .f32) (x4 : Vec F S1x128 .f32) (x5 : Vec F S256x128 .bf16) (x6 x7 : Vec F S16384x128 .bf16) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outv x3 x4 x5 x6 x7) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13 arg14 harg14) K := by
  simp only [cc0_diff_attn_eq_skeleton]; unfold cc0_diff_attn_skel
  simp only [owns_eq_rep (c : Thread nD τ) arg3 fullShare x3, owns_eq_rep (c : Thread nD τ) arg4 fullShare x4, owns_eq_rep (c : Thread nD τ) arg5 fullShare x5, owns_eq_rep (c : Thread nD τ) arg6 fullShare x6, owns_eq_rep (c : Thread nD τ) arg7 fullShare x7]
  simp only [owns]
  iintro ⟨H3, H4, H5, H6, H7, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec
  sl_step
  iapply Hk
  have r0 : run.sl.r arg5 x5 = k0_pay10 x5 := congrArg k0_pay10 (View.readAt_rep_full arg5.view x5 _)
  have r1 : run.sl.r_1 arg5 x5 = k0_pay11 x5 := congrArg k0_pay11 (View.readAt_rep_full arg5.view x5 _)
  have hs : (⟨arg9.view.read (Elt F) (arg9.view.writes (Elt F) arg9.view.junk run.sl.H9_1), arg10.view.read (Elt F) (arg10.view.writes (Elt F) arg10.view.junk run.sl.H10_1), arg11.view.read (Elt F) (arg11.view.writes (Elt F) arg11.view.junk run.sl.H11_1), arg12.view.read (Elt F) (arg12.view.writes (Elt F) arg12.view.junk run.sl.H12_1), arg13.view.read (Elt F) (arg13.view.writes (Elt F) arg13.view.junk run.sl.H13_1), arg14.view.read (Elt F) (arg14.view.writes (Elt F) arg14.view.junk run.sl.H14_1)⟩ : St F) = st0 := by
    have h9 : arg9.view.read (Elt F) (arg9.view.writes (Elt F) arg9.view.junk run.sl.H9_1) = k0_pay12 := View.read_writes_full _ _ _ _ _
    have h10 : arg10.view.read (Elt F) (arg10.view.writes (Elt F) arg10.view.junk run.sl.H10_1) = k0_pay15 := View.read_writes_full _ _ _ _ _
    have h11 : arg11.view.read (Elt F) (arg11.view.writes (Elt F) arg11.view.junk run.sl.H11_1) = k0_pay13 := View.read_writes_full _ _ _ _ _
    have h12 : arg12.view.read (Elt F) (arg12.view.writes (Elt F) arg12.view.junk run.sl.H12_1) = k0_pay16 := View.read_writes_full _ _ _ _ _
    have h13 : arg13.view.read (Elt F) (arg13.view.writes (Elt F) arg13.view.junk run.sl.H13_1) = k0_pay14 := View.read_writes_full _ _ _ _ _
    have h14 : arg14.view.read (Elt F) (arg14.view.writes (Elt F) arg14.view.junk run.sl.H14_1) = k0_pay18 k0_pay17 := View.read_writes_full _ _ _ _ _
    rw [h9, h10, h11, h12, h13, h14]; rfl
  simp only [r0, r1, hs] at hL3 hL5 hL7 hL9 hL11 hL13
  have e3 : arg3.view.readAt (Elt F) (Rect.unit (s := S4x64) ![0, 0] ![4, 64] inb_S4x64_S4x64_0_0).toLoadRect (arg3.view.rep x3) = x3 := View.readAt_rep_full _ _ _
  have e4 : arg4.view.readAt (Elt F) (Rect.unit (s := S1x128) ![0, 0] ![1, 128] inb_S1x128_S1x128_0_0).toLoadRect (arg4.view.rep x4) = x4 := View.readAt_rep_full _ _ _
  have e9 : arg9.view.readAt (Elt F) (Rect.unit (s := S256x128) ![0, 0] ![256, 128] inb_S256x128_S256x128_0_0).toLoadRect fL0 = (stF x5 x6 x7).acc0 := (View.readAt_full _ _ _).trans hL3
  have e10 : arg10.view.readAt (Elt F) (Rect.unit (s := S256x128) ![0, 0] ![256, 128] inb_S256x128_S256x128_0_0).toLoadRect fL1 = (stF x5 x6 x7).acc1 := (View.readAt_full _ _ _).trans hL5
  have e13 : arg13.view.readAt (Elt F) (Rect.unit (s := S256x1) ![0, 0] ![256, 1] inb_S256x1_S256x1_0_0).toLoadRect fL4 = (stF x5 x6 x7).l0 := (View.readAt_full _ _ _).trans hL11
  have e14 : arg14.view.readAt (Elt F) (Rect.unit (s := S256x1) ![0, 0] ![256, 1] inb_S256x1_S256x1_0_0).toLoadRect fL5 = (stF x5 x6 x7).l1 := (View.readAt_full _ _ _).trans hL13
  have r2 : run.sl.r_2 c arg3 arg9 arg10 arg13 arg14 x3 fL0 fL1 fL4 fL5 = k0_pay26 x3 (stF x5 x6 x7).acc0 (stF x5 x6 x7).l0 (stF x5 x6 x7).acc1 (stF x5 x6 x7).l1 :=
    (by rw [e3, e9, e10, e13, e14] : k0_pay26 (arg3.view.readAt (Elt F) (Rect.unit (s := S4x64) ![0, 0] ![4, 64] inb_S4x64_S4x64_0_0).toLoadRect (arg3.view.rep x3)) (arg9.view.readAt (Elt F) (Rect.unit (s := S256x128) ![0, 0] ![256, 128] inb_S256x128_S256x128_0_0).toLoadRect fL0) (arg13.view.readAt (Elt F) (Rect.unit (s := S256x1) ![0, 0] ![256, 1] inb_S256x1_S256x1_0_0).toLoadRect fL4) (arg10.view.readAt (Elt F) (Rect.unit (s := S256x128) ![0, 0] ![256, 128] inb_S256x128_S256x128_0_0).toLoadRect fL1) (arg14.view.readAt (Elt F) (Rect.unit (s := S256x1) ![0, 0] ![256, 1] inb_S256x1_S256x1_0_0).toLoadRect fL5) = _)
  have r3 : run.sl.r_3 c arg3 arg9 arg10 arg13 arg14 x3 fL0 fL1 fL4 fL5 = k0_pay27 x3 (stF x5 x6 x7).acc0 (stF x5 x6 x7).l0 (stF x5 x6 x7).acc1 (stF x5 x6 x7).l1 :=
    (by rw [e3, e9, e10, e13, e14] : k0_pay27 (arg3.view.readAt (Elt F) (Rect.unit (s := S4x64) ![0, 0] ![4, 64] inb_S4x64_S4x64_0_0).toLoadRect (arg3.view.rep x3)) (arg9.view.readAt (Elt F) (Rect.unit (s := S256x128) ![0, 0] ![256, 128] inb_S256x128_S256x128_0_0).toLoadRect fL0) (arg13.view.readAt (Elt F) (Rect.unit (s := S256x1) ![0, 0] ![256, 1] inb_S256x1_S256x1_0_0).toLoadRect fL4) (arg10.view.readAt (Elt F) (Rect.unit (s := S256x128) ![0, 0] ![256, 128] inb_S256x128_S256x128_0_0).toLoadRect fL1) (arg14.view.readAt (Elt F) (Rect.unit (s := S256x1) ![0, 0] ![256, 1] inb_S256x1_S256x1_0_0).toLoadRect fL5) = _)
  isplitl [H3]; · iexact H3
  isplitl [H4]; · iexact H4
  isplitl [H5]; · iexact H5
  isplitl [H6]; · iexact H6
  isplitl [H7]; · iexact H7
  isplitl [H8]
  · iexists _; isplitr; swap; · iexact H8
    ipureintro
    refine (View.read_writes_full _ _ _ _ _).trans ?_
    rw [r2, r3, e4]; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Attn

end
-- ==== Proof.Online.lean ====
/-
  The online softmax over extended reals: finite scores taken a tile at a time, with a running maximum, a running
  denominator and a running numerator, give the softmax's own maximum, denominator and numerator.
-/
module

public import Idealize.ShloMosaic.PureOps.Ideal

@[expose] public section

noncomputable section

namespace Cert.Online

open Idealize.ShloMosaic

/-- A sum of reals is the sum of the same extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The f32 word of minus infinity reads as the least extended real. -/
theorem ofBits_neg_inf : Ideal.ofBits .f32 0xFF800000#32 = (⊥ : EReal) := by
  have e1 : (BitVec.extractLsb' 23 8 (0xFF800000#32)).toNat = 255 := by decide
  have e2 : (BitVec.extractLsb' 0 23 (0xFF800000#32)).toNat = 0 := by decide
  have e3 : (0xFF800000#32 : BitVec 32).getLsbD 31 = true := by decide
  simp [Ideal.ofBits, Ideal.ieee]

/-- The f32 word of plus infinity reads as the greatest extended real. -/
theorem ofBits_inf : Ideal.ofBits .f32 0x7F800000#32 = (⊤ : EReal) := by
  simp [Ideal.ofBits, Ideal.ieee]

/-- `M` is the greatest of the scores `s i j`, `i < k`. -/
def Greatest {n : ℕ} (s : ℕ → Fin n → ℝ) (k : ℕ) (M : ℝ) : Prop :=
  (∀ i < k, ∀ j, s i j ≤ M) ∧ ∃ i < k, ∃ j, s i j = M

/-- The greatest of finitely many reals, as the fold of `max` from minus infinity. -/
theorem fold_coe {n : ℕ} [NeZero n] (s : Fin n → ℝ) :
    ∃ M : ℝ, Finset.univ.fold max (⊥ : EReal) (fun j => (s j : EReal)) = M ∧ (∀ j, s j ≤ M) ∧ ∃ j, s j = M := by
  obtain ⟨j, -, h⟩ := Finset.exists_max_image Finset.univ s ⟨0, Finset.mem_univ _⟩
  refine ⟨s j, le_antisymm ?_ ?_, fun i => h i (Finset.mem_univ _), j, rfl⟩
  · exact Finset.fold_max_le _ |>.2 ⟨bot_le, fun i hi => EReal.coe_le_coe_iff.2 (h i hi)⟩
  · exact Finset.le_fold_max _ |>.2 (Or.inr ⟨j, Finset.mem_univ _, le_rfl⟩)

/-- The state after `k` tiles: greatest score, denominator and numerator, all relative to that greatest score. -/
def State {n : ℕ} (s v : ℕ → Fin n → ℝ) (k : ℕ) (m l a : EReal) : Prop :=
  ∃ M : ℝ, m = M ∧ Greatest s k M ∧ l = ((∑ i ∈ Finset.range k, ∑ j, Real.exp (s i j - M) : ℝ) : EReal)
    ∧ a = ((∑ i ∈ Finset.range k, ∑ j, Real.exp (s i j - M) * v i j : ℝ) : EReal)

variable {n : ℕ} [NeZero n] (s v : ℕ → Fin n → ℝ)

/-- The denominator's next value. -/
def nextl (t : Fin n → EReal) (m l : EReal) : EReal :=
  Ideal.exp (m - max m (Finset.univ.fold max ⊥ t)) * l + ∑ j, Ideal.exp (t j - max m (Finset.univ.fold max ⊥ t))

/-- The numerator's next value. -/
def nexta (t w : Fin n → EReal) (m a : EReal) : EReal :=
  Ideal.exp (m - max m (Finset.univ.fold max ⊥ t)) * a + ∑ j, Ideal.exp (t j - max m (Finset.univ.fold max ⊥ t)) * w j

/-- The first tile, from the empty state. -/
theorem first :
    State s v 1 (max ⊥ (Finset.univ.fold max ⊥ fun j => (s 0 j : EReal))) (nextl (fun j => (s 0 j : EReal)) ⊥ 0)
      (nexta (fun j => (s 0 j : EReal)) (fun j => (v 0 j : EReal)) ⊥ 0) := by
  obtain ⟨M, hM, hle, j, hj⟩ := fold_coe (s 0)
  have hm : max (⊥ : EReal) (Finset.univ.fold max ⊥ fun j => (s 0 j : EReal)) = M := by rw [hM]; exact max_eq_right bot_le
  refine ⟨M, hm, ⟨fun i hi => ?_, 0, Nat.one_pos, j, hj⟩, ?_, ?_⟩
  · obtain rfl : i = 0 := by omega
    exact hle
  · unfold nextl; rw [hm, mul_zero, zero_add, Finset.sum_range_one, coe_sum]
    exact Finset.sum_congr rfl fun j _ => by rw [← EReal.coe_sub, Ideal.exp_coe]
  · unfold nexta; rw [hm, mul_zero, zero_add, Finset.sum_range_one, coe_sum]
    exact Finset.sum_congr rfl fun j _ => by rw [← EReal.coe_sub, Ideal.exp_coe, EReal.coe_mul]

/-- A further tile. -/
theorem more (k : ℕ) (m l a : EReal) (h : State s v k m l a) :
    State s v (k + 1) (max m (Finset.univ.fold max ⊥ fun j => (s k j : EReal))) (nextl (fun j => (s k j : EReal)) m l)
      (nexta (fun j => (s k j : EReal)) (fun j => (v k j : EReal)) m a) := by
  obtain ⟨M, rfl, ⟨hle, i₀, hi₀, j₀, hj₀⟩, rfl, rfl⟩ := h
  obtain ⟨B, hB, hBle, j₁, hj₁⟩ := fold_coe (s k)
  have hm : max (M : EReal) (Finset.univ.fold max ⊥ fun j => (s k j : EReal)) = (max M B : ℝ) := by
    rw [hB]; exact (EReal.coe_strictMono.monotone.map_max).symm
  have hx : ∀ x : ℝ, Real.exp (M - max M B) * Real.exp (x - M) = Real.exp (x - max M B) := fun x => by
    rw [← Real.exp_add]; congr 1; ring
  refine ⟨max M B, hm, ⟨fun i hi j => ?_, ?_⟩, ?_, ?_⟩
  · rcases Nat.lt_succ_iff_lt_or_eq.1 hi with h | rfl
    · exact (hle i h j).trans (le_max_left _ _)
    · exact (hBle j).trans (le_max_right _ _)
  · rcases le_total M B with h | h
    · exact ⟨k, Nat.lt_succ_self _, j₁, by rw [hj₁, max_eq_right h]⟩
    · exact ⟨i₀, hi₀.trans (Nat.lt_succ_self _), j₀, by rw [hj₀, max_eq_left h]⟩
  · unfold nextl
    rw [hm, ← EReal.coe_sub, Ideal.exp_coe, ← EReal.coe_mul, Finset.sum_range_succ, EReal.coe_add, Finset.mul_sum]
    congr 1
    · congr 1
      exact Finset.sum_congr rfl fun i _ => by rw [Finset.mul_sum]; exact Finset.sum_congr rfl fun j _ => hx _
    · rw [coe_sum]
      exact Finset.sum_congr rfl fun j _ => by rw [← EReal.coe_sub, Ideal.exp_coe]
  · unfold nexta
    rw [hm, ← EReal.coe_sub, Ideal.exp_coe, ← EReal.coe_mul, Finset.sum_range_succ, EReal.coe_add, Finset.mul_sum]
    congr 1
    · congr 1
      exact Finset.sum_congr rfl fun i _ => by
        rw [Finset.mul_sum]; exact Finset.sum_congr rfl fun j _ => by rw [← mul_assoc, hx]
    · rw [coe_sum]
      exact Finset.sum_congr rfl fun j _ => by rw [← EReal.coe_sub, Ideal.exp_coe, EReal.coe_mul]

/-- All `K` tiles of a recursion that starts empty and takes `nextl`, `nexta` and the maximum at every tile. -/
theorem all (K : ℕ) (hK : 0 < K) (m l a : ℕ → EReal) (t w : ℕ → Fin n → EReal) (m0 : m 0 = ⊥) (l0 : l 0 = 0) (a0 : a 0 = 0)
    (ht : ∀ k < K, t k = fun j => (s k j : EReal)) (hw : ∀ k < K, w k = fun j => (v k j : EReal))
    (hm : ∀ k < K, m (k + 1) = max (m k) (Finset.univ.fold max ⊥ (t k)))
    (hl : ∀ k < K, l (k + 1) = nextl (t k) (m k) (l k)) (ha : ∀ k < K, a (k + 1) = nexta (t k) (w k) (m k) (a k)) :
    State s v K (m K) (l K) (a K) := by
  have key : ∀ k, k < K → State s v (k + 1) (m (k + 1)) (l (k + 1)) (a (k + 1)) := by
    intro k
    induction k with
    | zero =>
      intro h
      rw [hm 0 h, hl 0 h, ha 0 h, m0, l0, a0, ht 0 h, hw 0 h]
      exact first s v
    | succ k ih =>
      intro h
      rw [hm _ h, hl _ h, ha _ h, ht _ h, hw _ h]
      exact more s v (k + 1) _ _ _ (ih (by omega))
  obtain ⟨k, rfl⟩ : ∃ k, K = k + 1 := ⟨K - 1, by omega⟩
  exact key k (Nat.lt_succ_self _)

end Cert.Online

end
-- ==== Proof.Soft.lean ====
/-
  The softmax of a row of reals, as the reference takes it and as the tiled recursion leaves it.
-/
module

public import proofs.«01_k».proof.Proof.Online
public import Idealize.ShloMosaic.Lib.Pointwise

@[expose] public section

noncomputable section

namespace Cert.Online

open Idealize.ShloMosaic

/-- The greatest entry of a row. -/
def top {N : ℕ} [NeZero N] (S : Fin N → ℝ) : ℝ := (fold_coe S).choose

/-- The fold of the maximum from minus infinity is the greatest entry. -/
theorem fold_top {N : ℕ} [NeZero N] (S : Fin N → ℝ) : Finset.univ.fold max (⊥ : EReal) (fun j => (S j : EReal)) = top S :=
  (fold_coe S).choose_spec.1

/-- An upper bound that is attained is the greatest entry. -/
theorem eq_top {N : ℕ} [NeZero N] (S : Fin N → ℝ) (M : ℝ) (h : ∀ j, S j ≤ M) (h' : ∃ j, S j = M) : M = top S := by
  obtain ⟨-, hle, j, hj⟩ := (fold_coe S).choose_spec
  obtain ⟨i, hi⟩ := h'
  exact le_antisymm (hi ▸ hle i) (show (fold_coe S).choose ≤ M from hj ▸ h j)

/-- The denominator of the softmax. -/
def den {N : ℕ} [NeZero N] (S : Fin N → ℝ) : ℝ := ∑ j, Real.exp (S j - top S)

/-- The softmax of a row. -/
def soft {N : ℕ} [NeZero N] (S : Fin N → ℝ) (j : Fin N) : ℝ := Real.exp (S j - top S) * (1 / den S)

/-- The denominator is positive. -/
theorem den_ne {N : ℕ} [NeZero N] (S : Fin N → ℝ) : den S ≠ 0 :=
  (Finset.sum_pos (fun j _ => Real.exp_pos _) ⟨0, Finset.mem_univ _⟩).ne'

/-- The softmax as the reference takes it, over finite scores. -/
theorem soft_eq {N : ℕ} [NeZero N] (S : Fin N → ℝ) (t : Fin N → EReal) (ht : ∀ j, t j = S j) (B : EReal)
    (hB : B = max ⊥ (Finset.univ.fold max ⊥ t)) (j : Fin N) :
    Ideal.div (Ideal.exp (t j - B)) (∑ x, Ideal.exp (t x - B)) = soft S j := by
  have hB' : B = (top S : EReal) := by
    rw [hB, funext ht, fold_top]; exact max_eq_right bot_le
  have he : ∀ x, Ideal.exp (t x - B) = ((Real.exp (S x - top S) : ℝ) : EReal) := fun x => by
    rw [ht, hB', ← EReal.coe_sub, Ideal.exp_coe]
  rw [he, Finset.sum_congr rfl fun x _ => he x, ← coe_sum, show (∑ x, Real.exp (S x - top S)) = den S from rfl,
    Ideal.div_coe (den_ne S), ← EReal.coe_mul]
  rfl

/-- A row cut into `T` tiles of `n`. -/
def tiled {N : ℕ} (T n : ℕ) (hN : T * n = N) (S : Fin N → ℝ) (i : ℕ) (j : Fin n) : ℝ :=
  if h : i < T then S ⟨i * n + j.val, hN ▸ by nlinarith [j.isLt, Nat.mul_le_mul_right n (Nat.succ_le_of_lt h)]⟩ else 0

/-- An entry of a tile. -/
theorem tiled_at {N : ℕ} (T n : ℕ) (hN : T * n = N) (S : Fin N → ℝ) (i : ℕ) (j : Fin n) (hi : i < T) (h : i * n + j.val < N) :
    tiled T n hN S i j = S ⟨i * n + j.val, h⟩ := dif_pos hi

/-- A sum over the tiles is the sum over the row. -/
theorem sum_tiled {N : ℕ} (T n : ℕ) (hN : T * n = N) (f : ℕ → Fin n → ℝ) (g : Fin N → ℝ)
    (h : ∀ (i : Fin T) (j : Fin n) (h : i.val * n + j.val < N), f i j = g ⟨i.val * n + j.val, h⟩) :
    ∑ i ∈ Finset.range T, ∑ j, f i j = ∑ k, g k := by
  subst hN
  rw [Finset.sum_range, Fin.sum_univ_tiles T n rfl g]
  exact Finset.sum_congr rfl fun i _ => Finset.sum_congr rfl fun j _ => h i j _

/-- What the recursion leaves, divided: the softmax's mean of the values. -/
theorem soft_of_state {N : ℕ} [NeZero N] (T n : ℕ) (hT : 0 < T) (hN : T * n = N) (S w : Fin N → ℝ) (m l a : EReal)
    (h : State (tiled T n hN S) (tiled T n hN w) T m l a) :
    Ideal.div a l = ((∑ j, soft S j * w j : ℝ) : EReal) := by
  obtain ⟨M, -, ⟨hle, i₀, hi₀, j₀, hj₀⟩, rfl, rfl⟩ := h
  have ht : ∀ (X : Fin N → ℝ) (i : Fin T) (j : Fin n) (h : i.val * n + j.val < N), tiled T n hN X i j = X ⟨i.val * n + j.val, h⟩ :=
    fun X i j _ => dif_pos i.isLt
  have hM : M = top S := by
    refine eq_top S M (fun k => ?_) ⟨_, (ht S ⟨i₀, hi₀⟩ j₀ (hN ▸ by nlinarith [j₀.isLt, Nat.mul_le_mul_right n (Nat.succ_le_of_lt hi₀)])).symm.trans hj₀⟩
    have hn : 0 < n := Nat.pos_of_ne_zero fun h => by subst h; exact absurd k.isLt (by omega)
    have hk : k.val / n < T := (Nat.div_lt_iff_lt_mul hn).2 (hN ▸ k.isLt)
    have hkk : k.val / n * n + k.val % n = k.val := by rw [mul_comm]; exact Nat.div_add_mod _ _
    have := hle (k.val / n) hk ⟨k.val % n, Nat.mod_lt _ hn⟩
    rw [ht S ⟨k.val / n, hk⟩ ⟨k.val % n, Nat.mod_lt _ hn⟩ (by rw [hkk]; exact k.isLt)] at this
    exact (congrArg S (Fin.ext hkk.symm)).le.trans this
  rw [sum_tiled T n hN _ (fun k => Real.exp (S k - top S) * w k) fun i j h => by rw [ht S i j h, ht w i j h, hM],
    sum_tiled T n hN _ (fun k => Real.exp (S k - top S)) fun i j h => by rw [ht S i j h, hM],
    show (∑ x, Real.exp (S x - top S)) = den S from rfl, Ideal.div_coe (den_ne S), ← EReal.coe_mul, Finset.sum_mul]
  exact congrArg _ (Finset.sum_congr rfl fun j _ => by unfold soft; ring)

end Cert.Online

end
-- ==== Proof.KernelVal.lean ====
/-
  The block the body stores, read at a row and a lane.
-/
module

public import proofs.«01_k».proof.Proof.KernelIdealBody
public import proofs.«01_k».proof.Proof.Soft
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem

/-- The scores of row `r` of the queries with the rows of a tile of keys. -/
def tile (x : FVec Ideal S256x128 .bf16) (kb : FVec Ideal S512x128 .bf16) (r : Fin 256) (j : Fin 512) : EReal :=
  ∑ u : Fin 128, (x (ix2 r u) * kb (ix2 j u) : EReal)

/-- The running maximum's next value. -/
theorem nextm_at (x : FVec Ideal S256x128 .bf16) (kb : FVec Ideal S512x128 .bf16) (m : FVec Ideal S256x1 .f32) (r : Fin 256) :
    (k0_pay8 (F := Ideal) x kb m (ix2 r 0) : EReal) = max (m (ix2 r 0)) (Finset.univ.fold max ⊥ (tile x kb r)) := by
  rw [← Online.ofBits_neg_inf]
  pointwise [k0_pay8, k0_pay3, k0_pay2, tile]

/-- The running denominator's next value. -/
theorem nextl_at (x : FVec Ideal S256x128 .bf16) (kb : FVec Ideal S512x128 .bf16) (m l : FVec Ideal S256x1 .f32) (r : Fin 256) :
    (k0_pay6 (F := Ideal) x kb m l (ix2 r 0) : EReal) = Online.nextl (tile x kb r) (m (ix2 r 0)) (l (ix2 r 0)) := by
  unfold Online.nextl
  rw [← Online.ofBits_neg_inf]
  pointwise [k0_pay6, k0_pay5, k0_pay4, k0_pay3, k0_pay2, tile]

/-- The running numerator's next value. -/
theorem nexta_at (x : FVec Ideal S256x128 .bf16) (kb vb : FVec Ideal S512x128 .bf16) (m : FVec Ideal S256x1 .f32) (a : FVec Ideal S256x128 .f32) (r : Fin 256) (u : Fin 128) :
    (k0_pay7 (F := Ideal) x kb vb m a (ix2 r u) : EReal) = Online.nexta (tile x kb r) (fun j => vb (ix2 j u)) (m (ix2 r 0)) (a (ix2 r u)) := by
  unfold Online.nexta
  rw [← Online.ofBits_neg_inf]
  pointwise [k0_pay7, k0_pay5, k0_pay4, k0_pay3, k0_pay2, tile]

/-- The queries of the first map: lanes below 64. -/
theorem first_at (x : FVec Ideal S256x128 .bf16) (r : Fin 256) (u : Fin 128) :
    (k0_pay10 (F := Ideal) x (ix2 r u) : EReal) = if u.val < 64 then x (ix2 r u) else 0 := by
  have h : ∀ u : Fin 128, IntOp.cmpi .slt (BitVec.ofNat 32 u.val) 64#32 = if u.val < 64 then 1#1 else 0#1 := by decide +kernel
  pointwise [k0_pay10, k0_pay9]
  rw [h]
  split_ifs <;> rfl

/-- The queries of the second map: lanes from 64 on. -/
theorem second_at (x : FVec Ideal S256x128 .bf16) (r : Fin 256) (u : Fin 128) :
    (k0_pay11 (F := Ideal) x (ix2 r u) : EReal) = if u.val < 64 then 0 else x (ix2 r u) := by
  have h : ∀ u : Fin 128, IntOp.cmpi .sge (BitVec.ofNat 32 u.val) 64#32 = if u.val < 64 then 0#1 else 1#1 := by decide +kernel
  pointwise [k0_pay11, k0_pay9]
  rw [h]
  split_ifs <;> rfl

/-- The loop takes 32 trips. -/
theorem trips_eq : k0_t1_loop.trips = 32 := by decide +kernel

/-- The rows a trip reads. -/
theorem rows_at (X : FVec Ideal S16384x128 .bf16) (k : Fin k0_t1_loop.trips) (j : Fin 512) (u : Fin 128) :
    (rows (F := Ideal) X k (ix2 j u) : EReal) = X (ix2 ⟨k.val * 512 + j.val, by have := k.isLt.trans_eq trips_eq; omega⟩ u) := by
  unfold rows VecWindow.window
  refine congrArg X (funext fun a => Fin.ext ((ValueKit.rect_emb_unit_val _ _ _ _ a).trans ?_))
  refine (congrArg (· + _) (congrFun (k0_off1_eq k) a)).trans ?_
  fin_cases a
  · exact congrArg (· + j.val) (Nat.mul_comm 512 k.val)
  · exact Nat.zero_add u.val

/-- The state at loop entry. -/
theorem st0_at (r : Fin 256) (u : Fin 128) :
    ((st0 (F := Ideal)).m0 (ix2 r 0) : EReal) = ⊥ ∧ ((st0 (F := Ideal)).m1 (ix2 r 0) : EReal) = ⊥
    ∧ ((st0 (F := Ideal)).l0 (ix2 r 0) : EReal) = 0 ∧ ((st0 (F := Ideal)).l1 (ix2 r 0) : EReal) = 0
    ∧ ((st0 (F := Ideal)).acc0 (ix2 r u) : EReal) = 0 ∧ ((st0 (F := Ideal)).acc1 (ix2 r u) : EReal) = 0 := by
  rw [← Online.ofBits_neg_inf]
  unfold st0
  refine ⟨?_, ?_, ?_, ?_, ?_, ?_⟩ <;> pointwise [k0_pay12, k0_pay13, k0_pay14, k0_pay15, k0_pay16, k0_pay17, k0_pay18]

/-- The first map's buffers after the loop hold the softmax's state over the tiles. -/
theorem state0 (x5 : FVec Ideal S256x128 .bf16) (x6 x7 : FVec Ideal S16384x128 .bf16) (s w : ℕ → Fin 512 → ℝ) (r : Fin 256) (u : Fin 128)
    (hs : ∀ (k : Fin k0_t1_loop.trips) (j : Fin 512), tile (k0_pay10 (F := Ideal) x5) (rows (F := Ideal) x6 k) r j = s k j)
    (hw : ∀ (k : Fin k0_t1_loop.trips) (j : Fin 512), (rows (F := Ideal) x7 k (ix2 j u) : EReal) = w k j) :
    Online.State s w 32 ((stF (F := Ideal) x5 x6 x7).m0 (ix2 r 0)) ((stF (F := Ideal) x5 x6 x7).l0 (ix2 r 0)) ((stF (F := Ideal) x5 x6 x7).acc0 (ix2 r u)) := by
  unfold stF
  rw [trips_eq]
  refine Online.all s w 32 (by norm_num) (fun k => (st (F := Ideal) (k0_pay10 x5) (k0_pay11 x5) x6 x7 st0 k).m0 (ix2 r 0)) (fun k => (st (F := Ideal) (k0_pay10 x5) (k0_pay11 x5) x6 x7 st0 k).l0 (ix2 r 0))
    (fun k => (st (F := Ideal) (k0_pay10 x5) (k0_pay11 x5) x6 x7 st0 k).acc0 (ix2 r u)) (fun k => if h : k < k0_t1_loop.trips then tile (k0_pay10 (F := Ideal) x5) (rows (F := Ideal) x6 ⟨k, h⟩) r else fun _ => 0)
    (fun k => if h : k < k0_t1_loop.trips then (fun j => (rows (F := Ideal) x7 ⟨k, h⟩ (ix2 j u) : EReal)) else fun _ => 0)
    (st0_at r u).1 (st0_at r u).2.2.1 (st0_at r u).2.2.2.2.1 ?_ ?_ ?_ ?_ ?_
  all_goals intro k hk; have hk' : k < k0_t1_loop.trips := hk.trans_eq trips_eq.symm
  · rw [dif_pos hk']; exact funext fun j => hs ⟨k, hk'⟩ j
  · rw [dif_pos hk']; exact funext fun j => hw ⟨k, hk'⟩ j
  · simp only [dif_pos hk']
    rw [st_succ _ _ _ _ _ ⟨k, hk'⟩]
    exact nextm_at _ _ _ r
  · simp only [dif_pos hk']
    rw [st_succ _ _ _ _ _ ⟨k, hk'⟩]
    exact nextl_at _ _ _ _ r
  · simp only [dif_pos hk']
    rw [st_succ _ _ _ _ _ ⟨k, hk'⟩]
    exact nexta_at _ _ _ _ _ r u

/-- The second map's buffers after the loop hold the softmax's state over the tiles. -/
theorem state1 (x5 : FVec Ideal S256x128 .bf16) (x6 x7 : FVec Ideal S16384x128 .bf16) (s w : ℕ → Fin 512 → ℝ) (r : Fin 256) (u : Fin 128)
    (hs : ∀ (k : Fin k0_t1_loop.trips) (j : Fin 512), tile (k0_pay11 (F := Ideal) x5) (rows (F := Ideal) x6 k) r j = s k j)
    (hw : ∀ (k : Fin k0_t1_loop.trips) (j : Fin 512), (rows (F := Ideal) x7 k (ix2 j u) : EReal) = w k j) :
    Online.State s w 32 ((stF (F := Ideal) x5 x6 x7).m1 (ix2 r 0)) ((stF (F := Ideal) x5 x6 x7).l1 (ix2 r 0)) ((stF (F := Ideal) x5 x6 x7).acc1 (ix2 r u)) := by
  unfold stF
  rw [trips_eq]
  refine Online.all s w 32 (by norm_num) (fun k => (st (F := Ideal) (k0_pay10 x5) (k0_pay11 x5) x6 x7 st0 k).m1 (ix2 r 0)) (fun k => (st (F := Ideal) (k0_pay10 x5) (k0_pay11 x5) x6 x7 st0 k).l1 (ix2 r 0))
    (fun k => (st (F := Ideal) (k0_pay10 x5) (k0_pay11 x5) x6 x7 st0 k).acc1 (ix2 r u)) (fun k => if h : k < k0_t1_loop.trips then tile (k0_pay11 (F := Ideal) x5) (rows (F := Ideal) x6 ⟨k, h⟩) r else fun _ => 0)
    (fun k => if h : k < k0_t1_loop.trips then (fun j => (rows (F := Ideal) x7 ⟨k, h⟩ (ix2 j u) : EReal)) else fun _ => 0)
    (st0_at r u).2.1 (st0_at r u).2.2.2.1 (st0_at r u).2.2.2.2.2 ?_ ?_ ?_ ?_ ?_
  all_goals intro k hk; have hk' : k < k0_t1_loop.trips := hk.trans_eq trips_eq.symm
  · rw [dif_pos hk']; exact funext fun j => hs ⟨k, hk'⟩ j
  · rw [dif_pos hk']; exact funext fun j => hw ⟨k, hk'⟩ j
  · simp only [dif_pos hk']
    rw [st_succ _ _ _ _ _ ⟨k, hk'⟩]
    exact nextm_at _ _ _ r
  · simp only [dif_pos hk']
    rw [st_succ _ _ _ _ _ ⟨k, hk'⟩]
    exact nextl_at _ _ _ _ r
  · simp only [dif_pos hk']
    rw [st_succ _ _ _ _ _ ⟨k, hk'⟩]
    exact nexta_at _ _ _ _ _ r u

/-- A tile's score over the first map's lanes. -/
theorem tile0 (x5 : FVec Ideal S256x128 .bf16) (kb : FVec Ideal S512x128 .bf16) (r : Fin 256) (j : Fin 512) :
    tile (k0_pay10 (F := Ideal) x5) kb r j = ∑ x : Fin 64, (x5 (ix2 r ⟨x.val, by omega⟩) * kb (ix2 j ⟨x.val, by omega⟩) : EReal) := by
  unfold tile
  rw [Fin.sum_univ_two_halves 64 64 rfl]
  refine (congrArg₂ (· + ·) (Finset.sum_congr rfl fun x _ => ?_) (Finset.sum_eq_zero fun x _ => ?_)).trans (add_zero _)
  · rw [first_at, if_pos x.isLt]
  · rw [first_at, if_neg (by simp), zero_mul]

/-- A tile's score over the second map's lanes. -/
theorem tile1 (x5 : FVec Ideal S256x128 .bf16) (kb : FVec Ideal S512x128 .bf16) (r : Fin 256) (j : Fin 512) :
    tile (k0_pay11 (F := Ideal) x5) kb r j = ∑ x : Fin 64, (x5 (ix2 r ⟨64 + x.val, by omega⟩) * kb (ix2 j ⟨64 + x.val, by omega⟩) : EReal) := by
  unfold tile
  rw [Fin.sum_univ_two_halves 64 64 rfl]
  refine (congrArg₂ (· + ·) (Finset.sum_eq_zero fun x _ => ?_) (Finset.sum_congr rfl fun x _ => ?_)).trans (zero_add _)
  · rw [second_at, if_pos x.isLt, zero_mul]
  · rw [second_at, if_neg (by simp)]

/-- The first map's output of a row: the softmax's mean of the values. -/
theorem out0 (x5 : FVec Ideal S256x128 .bf16) (x6 x7 : FVec Ideal S16384x128 .bf16) (S w : Fin 16384 → ℝ) (r : Fin 256) (u : Fin 128)
    (hS : ∀ J, ∑ x : Fin 64, (x5 (ix2 r ⟨x.val, by omega⟩) * x6 (ix2 J ⟨x.val, by omega⟩) : EReal) = S J) (hw : ∀ J, (x7 (ix2 J u) : EReal) = w J) :
    Ideal.div ((stF (F := Ideal) x5 x6 x7).acc0 (ix2 r u)) ((stF (F := Ideal) x5 x6 x7).l0 (ix2 r 0)) = ((∑ J, Online.soft S J * w J : ℝ) : EReal) :=
  Online.soft_of_state 32 512 (by norm_num) rfl S w _ _ _ (state0 x5 x6 x7 _ _ r u
    (fun k j => (tile0 _ _ r j).trans ((Finset.sum_congr rfl fun x _ => congrArg (_ * ·) (rows_at x6 k j _)).trans ((hS _).trans (congrArg _ (Online.tiled_at 32 512 rfl _ k.val j (k.isLt.trans_eq trips_eq) _).symm))))
    fun k j => (rows_at x7 k j u).trans ((hw _).trans (congrArg _ (Online.tiled_at 32 512 rfl _ k.val j (k.isLt.trans_eq trips_eq) _).symm)))

/-- The second map's output of a row: the softmax's mean of the values. -/
theorem out1 (x5 : FVec Ideal S256x128 .bf16) (x6 x7 : FVec Ideal S16384x128 .bf16) (S w : Fin 16384 → ℝ) (r : Fin 256) (u : Fin 128)
    (hS : ∀ J, ∑ x : Fin 64, (x5 (ix2 r ⟨64 + x.val, by omega⟩) * x6 (ix2 J ⟨64 + x.val, by omega⟩) : EReal) = S J) (hw : ∀ J, (x7 (ix2 J u) : EReal) = w J) :
    Ideal.div ((stF (F := Ideal) x5 x6 x7).acc1 (ix2 r u)) ((stF (F := Ideal) x5 x6 x7).l1 (ix2 r 0)) = ((∑ J, Online.soft S J * w J : ℝ) : EReal) :=
  Online.soft_of_state 32 512 (by norm_num) rfl S w _ _ _ (state1 x5 x6 x7 _ _ r u
    (fun k j => (tile1 _ _ r j).trans ((Finset.sum_congr rfl fun x _ => congrArg (_ * ·) (rows_at x6 k j _)).trans ((hS _).trans (congrArg _ (Online.tiled_at 32 512 rfl _ k.val j (k.isLt.trans_eq trips_eq) _).symm))))
    fun k j => (rows_at x7 k j u).trans ((hw _).trans (congrArg _ (Online.tiled_at 32 512 rfl _ k.val j (k.isLt.trans_eq trips_eq) _).symm)))

/-- The output before its norm, from the two maps' numerators and denominators. -/
def mix (x3 : FVec Ideal S4x64 .f32) (a0 a1 : FVec Ideal S256x128 .f32) (l0 l1 : FVec Ideal S256x1 .f32) (r : Fin 256) (u : Fin 128) : EReal :=
  Ideal.div (a0 (ix2 r u)) (l0 (ix2 r 0)) - (Ideal.exp (∑ x : Fin 64, x3 (ix2 0 x) * x3 (ix2 1 x)) - Ideal.exp (∑ x : Fin 64, x3 (ix2 2 x) * x3 (ix2 3 x)) + Ideal.ofBits .f32 0x3E4CCCCD#32) * Ideal.div (a1 (ix2 r u)) (l1 (ix2 r 0))

/-- The block's entry from the two maps' numerators and denominators. -/
theorem end_at (x3 : FVec Ideal S4x64 .f32) (x4 : FVec Ideal S1x128 .f32) (a0 a1 : FVec Ideal S256x128 .f32) (l0 l1 : FVec Ideal S256x1 .f32) (r : Fin 256) (u : Fin 128) :
   (k0_pay1 (F := Ideal) (k0_pay26 x3 a0 l0 a1 l1) (k0_pay27 x3 a0 l0 a1 l1) (Scalar.ofBits .f32 0x3727C5AC#32) x4 (ix2 r u) : EReal)
    = mix x3 a0 a1 l0 l1 r u * Ideal.rsqrt (Ideal.div (∑ x : Fin 128, mix x3 a0 a1 l0 l1 r x * mix x3 a0 a1 l0 l1 r x) (Ideal.ofBits .f32 0x43000000#32) + Ideal.ofBits .f32 0x3727C5AC#32) * x4 (ix2 0 u) * Ideal.ofBits .f32 0x3F4CCCCD#32 := by
  pointwise [k0_pay1, k0_pay26, k0_pay27, mix]

end Cert.KernelIdeal.Attn

end
-- ==== Proof.RefVal.lean ====
/-
  The reference's result read at a row, a head and a lane.
-/
module

public import proofs.«01_k».proof.Proof.Gen.ReferenceIdeal.Run
public import proofs.«01_k».proof.Proof.Online
public import Idealize.ShloMosaic.Lib.Pointwise

@[expose] public section

set_option maxRecDepth 16384

noncomputable section

namespace Cert.ReferenceIdeal.Attn

open Cert.ReferenceIdeal Cert.ReferenceIdeal.Gen
open Idealize.ShloMosaic Idealize.ShloMosaic.TcCoe Idealize.SL.Sem

variable {F : FTy → Type} [FloatOps F]

/-- The scores of both maps of every head. -/
def scores (q k : FVec F S32768x1024 .bf16) : FVec F S8x2x16384x16384 .f32 :=
  Host.dotGeneral dot_S16384x8x2x64_S16384x8x2x64_S8x2x16384x16384_3_3_0_0_12_12 none (shapeCast _ (extf .f32 (extractStridedSlice S16384x1024 ![0, 0] q slices_S32768x1024_S16384x1024_0_0) bitsLt_bf16_f32) shapeCasts_S16384x1024_S16384x8x2x64) (shapeCast _ (extf .f32 (extractStridedSlice S16384x1024 ![0, 0] k slices_S32768x1024_S16384x1024_0_0) bitsLt_bf16_f32) shapeCasts_S16384x1024_S16384x8x2x64)

/-- The greatest score of every row. -/
def tops (s : FVec F S8x2x16384x16384 .f32) : FVec F S8x2x16384 .f32 :=
  maximumf (broadcastInDim S8x2x16384 ![] bcast_S_S8x2x16384 (constant S_ .f32 0xFF800000#32)) (Host.reduce FloatOps.maximumf s (constant S_ .f32 0xFF800000#32) reducesTo_S8x2x16384x16384_S8x2x16384_d3 h_S_)

/-- The exponentials of the scores relative to the greatest one. -/
def exps (s : FVec F S8x2x16384x16384 .f32) : FVec F S8x2x16384x16384 .f32 :=
  Host.exp (subf s (broadcastInDim S8x2x16384x16384 ![0, 1, 2, 3] bcast_S8x2x16384x1_S8x2x16384x16384_0_1_2_3 (broadcastInDim S8x2x16384x1 ![0, 1, 2] bcast_S8x2x16384_S8x2x16384x1_0_1_2 (tops s))))

/-- The softmax of the scores. -/
def probs (s : FVec F S8x2x16384x16384 .f32) : FVec F S8x2x16384x16384 .f32 :=
  Host.divf (exps s) (broadcastInDim S8x2x16384x16384 ![0, 1, 2, 3] bcast_S8x2x16384x1_S8x2x16384x16384_0_1_2_3 (broadcastInDim S8x2x16384x1 ![0, 1, 2] bcast_S8x2x16384_S8x2x16384x1_0_1_2 (Host.reduceAdd (exps s) (constant S_ .f32 0x00000000#32) reducesTo_S8x2x16384x16384_S8x2x16384_d3 h_S_)))

/-- The weight of the second map. -/
def weight (a b c d : FVec F S64 .f32) : FVec F S_ .f32 :=
  addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_))) (constant S_ .f32 0x3E4CCCCD#32)

/-- The attention's output before its norm. -/
def mixed (q k v : FVec F S32768x1024 .bf16) (a b c d : FVec F S64 .f32) : FVec F S16384x8x128 .f32 :=
  transpose S16384x8x128 [2, 0, 1] (Host.dotGeneral dot_S16384x8x128_S8x16384x16384_S8x128x16384_0_2_2_1_1_0 none (shapeCast _ (extf .f32 (extractStridedSlice S16384x1024 ![0, 0] v slices_S32768x1024_S16384x1024_0_0) bitsLt_bf16_f32) shapeCasts_S16384x1024_S16384x8x128)
    (subf (shapeCast _ (extractStridedSlice S8x1x16384x16384 ![0, 0, 0, 0] (probs (scores q k)) slices_S8x2x16384x16384_S8x1x16384x16384_0_0_0_0) shapeCasts_S8x1x16384x16384_S8x16384x16384) (mulf (broadcastInDim S8x16384x16384 ![] bcast_S_S8x16384x16384 (weight a b c d)) (shapeCast _ (extractStridedSlice S8x1x16384x16384 ![0, 1, 0, 0] (probs (scores q k)) slices_S8x2x16384x16384_S8x1x16384x16384_0_1_0_0) shapeCasts_S8x1x16384x16384_S8x16384x16384)))) transposes_S8x128x16384_S16384x8x128_2_0_1

/-- The norm of the output, its gain and its last factor. -/
def normed (o : FVec F S16384x8x128 .f32) (g : FVec F S128 .f32) : FVec F S16384x1024 .bf16 :=
  truncf .bf16 (shapeCast _ (mulf (mulf (mulf o (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf o o) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x3727C5AC#32)))))) (broadcastInDim S16384x8x128 ![0, 1, 2] bcast_S1x1x128_S16384x8x128_0_1_2 (broadcastInDim S1x1x128 ![2] bcast_S128_S1x1x128_2 g))) (broadcastInDim S16384x8x128 ![] bcast_S_S16384x8x128 (constant S_ .f32 0x3F4CCCCD#32))) shapeCasts_S16384x8x128_S16384x1024) bitsLt_bf16_f32

/-- The run's result is the norm of the mixed attention. -/
theorem result_eq (m : (ℓ : Loc nD τ sig) → Buf (Elt F) ℓ) (c : Dev nD) :
    Value.res_main_v54 m c = normed (mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) := rfl

/-- The host's maximum along the last of four axes, at an index. -/
theorem reduce_max_at {A B C N : ℕ} {u : Shape} (s : FVec Ideal ⟨4, ![A, B, C, N]⟩ .f32) (init : FVec Ideal u .f32) (hu : 0 < u.numel)
    (h : (⟨4, ![A, B, C, N]⟩ : Shape).ReducesTo [3] ⟨3, ![A, B, C]⟩) (a : Fin A) (b : Fin B) (c : Fin C) :
    Host.reduce (FloatOps.maximumf (F := Ideal) (φ := .f32)) s init h hu (ix3 a b c)
      = Finset.univ.fold max (init (Shape.Idx.first hu)) fun x : Fin N => (s (ix4 a b c x) : EReal) := by
  pointwise []

/-- The maximum with a broadcast constant, at an index. -/
theorem max_const_at {A B C : ℕ} (w : BitVec 32) (x : FVec Ideal ⟨3, ![A, B, C]⟩ .f32) (hb : S_.BroadcastsInDim ⟨3, ![A, B, C]⟩ (![] : Fin 0 → Fin 3)) (i) :
    (maximumf (broadcastInDim ⟨3, ![A, B, C]⟩ ![] hb (constant (F := Ideal) S_ .f32 w)) x i : EReal) = max (Ideal.ofBits .f32 w) (x i) := by
  pointwise []

/-- The host's maximum of a constant and the greatest along the last of four axes, at an index. -/
theorem max_reduce_at {A B C N : ℕ} (s : FVec Ideal ⟨4, ![A, B, C, N]⟩ .f32) (hb : S_.BroadcastsInDim ⟨3, ![A, B, C]⟩ (![] : Fin 0 → Fin 3)) (hu : 0 < S_.numel)
    (h : (⟨4, ![A, B, C, N]⟩ : Shape).ReducesTo [3] ⟨3, ![A, B, C]⟩) (w : BitVec 32) (a : Fin A) (b : Fin B) (c : Fin C) :
    (maximumf (broadcastInDim ⟨3, ![A, B, C]⟩ ![] hb (constant (F := Ideal) S_ .f32 w)) (Host.reduce (FloatOps.maximumf (F := Ideal) (φ := .f32)) s (constant S_ .f32 w) h hu) (ix3 a b c) : EReal)
      = max (Ideal.ofBits .f32 w) (Finset.univ.fold max (Ideal.ofBits .f32 w) fun x : Fin N => (s (ix4 a b c x) : EReal)) :=
  (max_const_at w _ hb _).trans (congrArg (max (Ideal.ofBits .f32 w)) (reduce_max_at s _ hu h a b c))

/-- The greatest score of a row is the fold of the maximum over the row. -/
theorem tops_at (s : FVec Ideal S8x2x16384x16384 .f32) (h : Fin 8) (e : Fin 2) (r : Fin 16384) :
    (tops (F := Ideal) s (ix3 h e r) : EReal)
      = max (Ideal.ofBits .f32 0xFF800000#32) (Finset.univ.fold max (Ideal.ofBits .f32 0xFF800000#32) fun x : Fin 16384 => (s (ix4 h e r x) : EReal)) := by
  delta tops
  exact max_reduce_at (A := 8) (B := 2) (C := 16384) (N := 16384) s bcast_S_S8x2x16384 h_S_ reducesTo_S8x2x16384x16384_S8x2x16384_d3 0xFF800000#32 h e r

/-- The exponential of a score relative to the row's greatest. -/
theorem exps_at (s : FVec Ideal S8x2x16384x16384 .f32) (h : Fin 8) (e : Fin 2) (r j : Fin 16384) :
    exps (F := Ideal) s (ix4 h e r j) = Ideal.exp (s (ix4 h e r j) - tops s (ix3 h e r)) := by
  pointwise [exps]

/-- The softmax at an index. -/
theorem probs_at (s : FVec Ideal S8x2x16384x16384 .f32) (h : Fin 8) (e : Fin 2) (r j : Fin 16384) :
    probs (F := Ideal) s (ix4 h e r j) = Ideal.div (exps s (ix4 h e r j)) (∑ x : Fin 16384, exps s (ix4 h e r x)) := by
  pointwise [probs]

/-- The weight of the second map. -/
theorem weight_at (a b c d : FVec Ideal S64 .f32) (i) :
    weight (F := Ideal) a b c d i = Ideal.exp (∑ x : Fin 64, a (ix1 x) * b (ix1 x)) - Ideal.exp (∑ x : Fin 64, c (ix1 x) * d (ix1 x)) + Ideal.ofBits .f32 0x3E4CCCCD#32 := by
  pointwise [weight]

/-- A score is the inner product of a query and a key over the map's 64 lanes. -/
theorem scores_at (q k : FVec Ideal S32768x1024 .bf16) (h : Fin 8) (e : Fin 2) (r j : Fin 16384) :
    (scores (F := Ideal) q k (ix4 h e r j) : EReal) = ∑ x : Fin 64, (q (ix2 ⟨r.val, by omega⟩ ⟨h.val * 128 + e.val * 64 + x.val, by omega⟩) * k (ix2 ⟨j.val, by omega⟩ ⟨h.val * 128 + e.val * 64 + x.val, by omega⟩) : EReal) := by
  pointwise [scores]

/-- The norm at an index. -/
theorem normed_at (o : FVec Ideal S16384x8x128 .f32) (g : FVec Ideal S128 .f32) (r : Fin 16384) (y : Fin 1024) :
    (normed (F := Ideal) o g (ix2 r y) : EReal) = (o (ix3 r ⟨y.val / 128, by omega⟩ ⟨y.val % 128, by omega⟩) * Ideal.rsqrt (Ideal.div (∑ x : Fin 128, o (ix3 r ⟨y.val / 128, by omega⟩ x) * o (ix3 r ⟨y.val / 128, by omega⟩ x)) (Ideal.ofBits .f32 0x43000000#32) + Ideal.ofBits .f32 0x3727C5AC#32) * g (ix1 ⟨y.val % 128, by omega⟩) * Ideal.ofBits .f32 0x3F4CCCCD#32 : EReal) := by
  pointwise [normed]

/-- The product of the values and the mixed probabilities, at an index. -/
theorem dot_at (l : FVec Ideal S16384x8x128 .f32) (x : FVec Ideal S8x16384x16384 .f32) (r : Fin 16384) (h : Fin 8) (u : Fin 128) :
    (Host.dotGeneral dot_S16384x8x128_S8x16384x16384_S8x128x16384_0_2_2_1_1_0 none l x : FVec Ideal S8x128x16384 .f32) (ix3 h u r) = ∑ k : Fin 16384, l (ix3 k h u) * x (ix3 h r k) := by
  pointwise [Host.dotGeneral]

/-- The values of the first batch, one row of 128 per head. -/
def vals (v : FVec F S32768x1024 .bf16) : FVec F S16384x8x128 .f32 :=
  shapeCast _ (extf .f32 (extractStridedSlice S16384x1024 ![0, 0] v slices_S32768x1024_S16384x1024_0_0) bitsLt_bf16_f32) shapeCasts_S16384x1024_S16384x8x128

/-- The difference of the two maps, the second by its weight. -/
def maps (p : FVec F S8x2x16384x16384 .f32) (w : FVec F S_ .f32) : FVec F S8x16384x16384 .f32 :=
  subf (shapeCast _ (extractStridedSlice S8x1x16384x16384 ![0, 0, 0, 0] p slices_S8x2x16384x16384_S8x1x16384x16384_0_0_0_0) shapeCasts_S8x1x16384x16384_S8x16384x16384) (mulf (broadcastInDim S8x16384x16384 ![] bcast_S_S8x16384x16384 w) (shapeCast _ (extractStridedSlice S8x1x16384x16384 ![0, 1, 0, 0] p slices_S8x2x16384x16384_S8x1x16384x16384_0_1_0_0) shapeCasts_S8x1x16384x16384_S8x16384x16384))

/-- A value at an index. -/
theorem vals_at (v : FVec Ideal S32768x1024 .bf16) (j : Fin 16384) (h : Fin 8) (u : Fin 128) :
    (vals (F := Ideal) v (ix3 j h u) : EReal) = v (ix2 ⟨j.val, by omega⟩ ⟨h.val * 128 + u.val, by omega⟩) := by
  pointwise [vals]

/-- The difference of the maps at an index. -/
theorem maps_at (p : FVec Ideal S8x2x16384x16384 .f32) (w : FVec Ideal S_ .f32) (h : Fin 8) (r j : Fin 16384) :
    (maps (F := Ideal) p w (ix3 h r j) : EReal) = p (ix4 h 0 r j) - w ix0 * p (ix4 h 1 r j) := by
  pointwise [maps]

/-- The turn of the product's axes, at an index. -/
theorem turn_at (x : FVec Ideal S8x128x16384 .f32) (r : Fin 16384) (h : Fin 8) (u : Fin 128) :
    transpose S16384x8x128 [2, 0, 1] x transposes_S8x128x16384_S16384x8x128_2_0_1 (ix3 r h u) = x (ix3 h u r) := by
  pointwise []

/-- The attention's output at an index, before its norm. -/
theorem mixed_at (q k v : FVec Ideal S32768x1024 .bf16) (a b c d : FVec Ideal S64 .f32) (r : Fin 16384) (h : Fin 8) (u : Fin 128) :
    (mixed (F := Ideal) q k v a b c d (ix3 r h u) : EReal)
      = ∑ j : Fin 16384, v (ix2 ⟨j.val, by omega⟩ ⟨h.val * 128 + u.val, by omega⟩) * (probs (scores q k) (ix4 h 0 r j) - weight a b c d ix0 * probs (scores q k) (ix4 h 1 r j)) :=
  (turn_at _ r h u).trans ((dot_at (vals v) (maps (probs (scores q k)) (weight a b c d)) r h u).trans
    (Finset.sum_congr rfl fun j _ => congrArg₂ (· * ·) (vals_at v j h u) (maps_at (probs (scores q k)) (weight a b c d) h r j)))

end Cert.ReferenceIdeal.Attn

end
-- ==== Proof.Meet.lean ====
/-
  Kernel block and reference agree: over finite queries, keys, values and lambda vectors both are the softmax's mean of
  the values, the second map by its weight, normed.
-/
module

public import proofs.«01_k».proof.Proof.KernelVal
public import proofs.«01_k».proof.Proof.RefVal

@[expose] public section

set_option maxRecDepth 16384

noncomputable section

namespace Cert.Meet

open Cert.ReferenceIdeal Cert.ReferenceIdeal.Attn
open Idealize.ShloMosaic Idealize.ShloMosaic.TcCoe

/-- Every entry of the first 16384 rows is a real. -/
def Fin2 (X : FVec Ideal S32768x1024 .bf16) : Prop :=
  ∀ (r : Fin 16384) (y : Fin 1024), ∃ x : ℝ, (X (ix2 ⟨r.val, by omega⟩ y) : EReal) = x

/-- Every entry is a real. -/
def Fin1 (X : FVec Ideal S64 .f32) : Prop := ∀ y : Fin 64, ∃ x : ℝ, (X (ix1 y) : EReal) = x

/-- A real read back from the extended real it is. -/
theorem real_of {x : EReal} (h : ∃ r : ℝ, x = r) : x = (x.toReal : EReal) := by
  obtain ⟨r, rfl⟩ := h; rfl

/-- A finite sum of products of reals is a real. -/
theorem sum_mul_real {n : ℕ} (f g : Fin n → EReal) (hf : ∀ i, ∃ r : ℝ, f i = r) (hg : ∀ i, ∃ r : ℝ, g i = r) :
    ∑ i, f i * g i = ((∑ i, (f i).toReal * (g i).toReal : ℝ) : EReal) := by
  rw [Online.coe_sum]
  exact Finset.sum_congr rfl fun i _ => by rw [EReal.coe_mul, ← real_of (hf i), ← real_of (hg i)]

/-- The score of a query and a key as a real. -/
def score (q k : FVec Ideal S32768x1024 .bf16) (h : Fin 8) (e : Fin 2) (r j : Fin 16384) : ℝ :=
  (scores (F := Ideal) q k (ix4 h e r j) : EReal).toReal

/-- Every score is a real. -/
theorem score_eq (q k : FVec Ideal S32768x1024 .bf16) (hq : Fin2 q) (hk : Fin2 k) (h : Fin 8) (e : Fin 2) (r j : Fin 16384) :
    (scores (F := Ideal) q k (ix4 h e r j) : EReal) = score q k h e r j := by
  unfold score
  refine real_of ⟨_, (scores_at q k h e r j).trans (sum_mul_real _ _ (fun x => ?_) (fun x => ?_))⟩
  · exact hq r ⟨h.val * 128 + e.val * 64 + x.val, by omega⟩
  · exact hk j ⟨h.val * 128 + e.val * 64 + x.val, by omega⟩

/-- The reference's probabilities are the softmax of the scores. -/
theorem probs_eq (q k : FVec Ideal S32768x1024 .bf16) (hq : Fin2 q) (hk : Fin2 k) (h : Fin 8) (e : Fin 2) (r j : Fin 16384) :
    (probs (F := Ideal) (scores q k) (ix4 h e r j) : EReal) = Online.soft (score q k h e r) j := by
  rw [probs_at, exps_at, Finset.sum_congr rfl fun x _ => exps_at _ h e r x]
  refine Online.soft_eq (score q k h e r) (fun j => (scores (F := Ideal) q k (ix4 h e r j) : EReal)) (score_eq q k hq hk h e r) _ ?_ j
  rw [← Online.ofBits_neg_inf]
  exact tops_at _ h e r

/-- The constant part of the second map's weight is a real. -/
theorem const_real : ∃ x : ℝ, Ideal.ofBits .f32 0x3E4CCCCD#32 = (x : EReal) := by
  simp only [Ideal.ofBits, Ideal.ieee]; norm_num
  exact ⟨_, (EReal.coe_mul _ _).symm⟩

/-- The second map's weight is a real. -/
theorem weight_real (a b c d : FVec Ideal S64 .f32) (ha : Fin1 a) (hb : Fin1 b) (hc : Fin1 c) (hd : Fin1 d) :
    ∃ x : ℝ, (weight (F := Ideal) a b c d ix0 : EReal) = x := by
  obtain ⟨z, hz⟩ := const_real
  rw [weight_at, hz, sum_mul_real _ _ ha hb, sum_mul_real _ _ hc hd, Ideal.exp_coe, Ideal.exp_coe, ← EReal.coe_sub, ← EReal.coe_add]
  exact ⟨_, rfl⟩

/-- The reference's output before its norm, as a real. -/
theorem mixed_eq (q k v : FVec Ideal S32768x1024 .bf16) (a b c d : FVec Ideal S64 .f32) (hq : Fin2 q) (hk : Fin2 k) (hv : Fin2 v)
    (L : ℝ) (hL : (weight (F := Ideal) a b c d ix0 : EReal) = L) (w : Fin 16384 → ℝ) (r : Fin 16384) (h : Fin 8) (u : Fin 128)
    (hw : ∀ j : Fin 16384, (v (ix2 ⟨j.val, by omega⟩ ⟨h.val * 128 + u.val, by omega⟩) : EReal) = w j) :
    (mixed (F := Ideal) q k v a b c d (ix3 r h u) : EReal)
      = ((∑ j, Online.soft (score q k h 0 r) j * w j : ℝ) : EReal) - L * ((∑ j, Online.soft (score q k h 1 r) j * w j : ℝ) : EReal) := by
  rw [mixed_at, hL, ← EReal.coe_mul, ← EReal.coe_sub, Finset.mul_sum, ← Finset.sum_sub_distrib, Online.coe_sum]
  refine Finset.sum_congr rfl fun j _ => ?_
  rw [hw j, probs_eq q k hq hk, probs_eq q k hq hk, ← EReal.coe_mul, ← EReal.coe_sub, ← EReal.coe_mul]
  exact congrArg _ (by ring)

variable (q k v : FVec Ideal S32768x1024 .bf16) (a b c d : FVec Ideal S64 .f32) (g : FVec Ideal S128 .f32)
  (x3 : FVec Ideal Cert.KernelIdeal.S4x64 .f32) (x4 : FVec Ideal Cert.KernelIdeal.S1x128 .f32) (x5 : FVec Ideal Cert.KernelIdeal.S256x128 .bf16)
  (x6 x7 : FVec Ideal Cert.KernelIdeal.S16384x128 .bf16)

/-- What the kernel's blocks are: rows `256 i ..` of head `h`'s queries, the head's keys and values, the lambda vectors, the gain. -/
structure Blocks (i : Fin 64) (h : Fin 8) : Prop where
  hq : ∀ (r : Fin 256) (u : Fin 128), (x5 (ix2 r u) : EReal) = q (ix2 ⟨i.val * 256 + r.val, by omega⟩ ⟨h.val * 128 + u.val, by omega⟩)
  hk : ∀ (j : Fin 16384) (u : Fin 128), (x6 (ix2 j u) : EReal) = k (ix2 ⟨j.val, by omega⟩ ⟨h.val * 128 + u.val, by omega⟩)
  hv : ∀ (j : Fin 16384) (u : Fin 128), (x7 (ix2 j u) : EReal) = v (ix2 ⟨j.val, by omega⟩ ⟨h.val * 128 + u.val, by omega⟩)
  ha : ∀ x : Fin 64, (x3 (ix2 0 x) : EReal) = a (ix1 x)
  hb : ∀ x : Fin 64, (x3 (ix2 1 x) : EReal) = b (ix1 x)
  hc : ∀ x : Fin 64, (x3 (ix2 2 x) : EReal) = c (ix1 x)
  hd : ∀ x : Fin 64, (x3 (ix2 3 x) : EReal) = d (ix1 x)
  hg : ∀ u : Fin 128, (x4 (ix2 0 u) : EReal) = g (ix1 u)

open Cert.KernelIdeal.Attn in
/-- The kernel's output before its norm is the reference's. -/
theorem mix_eq (i : Fin 64) (h : Fin 8) (B : Blocks q k v a b c d g x3 x4 x5 x6 x7 i h) (fq : Fin2 q) (fk : Fin2 k) (fv : Fin2 v)
    (fa : Fin1 a) (fb : Fin1 b) (fc : Fin1 c) (fd : Fin1 d) (r : Fin 256) (u : Fin 128) :
    mix x3 (stF (F := Ideal) x5 x6 x7).acc0 (stF (F := Ideal) x5 x6 x7).acc1 (stF (F := Ideal) x5 x6 x7).l0 (stF (F := Ideal) x5 x6 x7).l1 r u
      = mixed (F := Ideal) q k v a b c d (ix3 ⟨i.val * 256 + r.val, by omega⟩ h u) := by
  obtain ⟨L, hL⟩ := weight_real a b c d fa fb fc fd
  have hw : ∀ j : Fin 16384, (v (ix2 ⟨j.val, by omega⟩ ⟨h.val * 128 + u.val, by omega⟩) : EReal)
      = ((v (ix2 ⟨j.val, by omega⟩ ⟨h.val * 128 + u.val, by omega⟩) : EReal).toReal : EReal) := fun j => real_of (fv j _)
  rw [mixed_eq q k v a b c d fq fk fv L hL _ _ h u hw]
  unfold mix
  rw [out0 x5 x6 x7 (score q k h 0 ⟨i.val * 256 + r.val, by omega⟩) _ r u (fun J => ?_) (fun J => (B.hv J u).trans (hw J)),
    out1 x5 x6 x7 (score q k h 1 ⟨i.val * 256 + r.val, by omega⟩) _ r u (fun J => ?_) (fun J => (B.hv J u).trans (hw J))]
  · rw [Finset.sum_congr rfl fun x _ => congrArg₂ (· * ·) (B.ha x) (B.hb x), Finset.sum_congr rfl fun x _ => congrArg₂ (· * ·) (B.hc x) (B.hd x),
      ← weight_at a b c d ix0, hL]
  · refine Eq.trans ?_ ((scores_at q k h 1 ⟨i.val * 256 + r.val, by omega⟩ J).symm.trans (score_eq q k fq fk h 1 ⟨i.val * 256 + r.val, by omega⟩ J))
    refine Finset.sum_congr rfl fun x _ => ?_
    rw [B.hq, B.hk]
    have e : (⟨h.val * 128 + (64 + x.val), by omega⟩ : Fin 1024) = ⟨h.val * 128 + (1 : Fin 2).val * 64 + x.val, by simp; omega⟩ := Fin.ext (by simp; omega)
    rw [e]
  · refine Eq.trans ?_ ((scores_at q k h 0 ⟨i.val * 256 + r.val, by omega⟩ J).symm.trans (score_eq q k fq fk h 0 ⟨i.val * 256 + r.val, by omega⟩ J))
    refine Finset.sum_congr rfl fun x _ => ?_
    rw [B.hq, B.hk]
    have e : (⟨h.val * 128 + x.val, by omega⟩ : Fin 1024) = ⟨h.val * 128 + (0 : Fin 2).val * 64 + x.val, by simp; omega⟩ := Fin.ext (by simp)
    rw [e]

open Cert.KernelIdeal.Attn in
/-- The block the kernel stores is the reference's result at the block's place. -/
theorem block_eq (i : Fin 64) (h : Fin 8) (B : Blocks q k v a b c d g x3 x4 x5 x6 x7 i h) (fq : Fin2 q) (fk : Fin2 k) (fv : Fin2 v)
    (fa : Fin1 a) (fb : Fin1 b) (fc : Fin1 c) (fd : Fin1 d) (r : Fin 256) (u : Fin 128) :
    (outv (F := Ideal) x3 x4 x5 x6 x7 (ix2 r u) : EReal)
      = normed (F := Ideal) (mixed q k v a b c d) g (ix2 ⟨i.val * 256 + r.val, by omega⟩ ⟨h.val * 128 + u.val, by omega⟩) := by
  have e1 : (⟨(h.val * 128 + u.val) / 128, by omega⟩ : Fin 8) = h := Fin.ext (by simp only; omega)
  have e2 : (⟨(h.val * 128 + u.val) % 128, by omega⟩ : Fin 128) = u := Fin.ext (by simp only; omega)
  rw [normed_at]
  simp only [e1, e2]
  unfold outv
  rw [end_at, B.hg u, mix_eq q k v a b c d g x3 x4 x5 x6 x7 i h B fq fk fv fa fb fc fd r u,
    Finset.sum_congr rfl fun x _ => congrArg₂ (· * ·) (mix_eq q k v a b c d g x3 x4 x5 x6 x7 i h B fq fk fv fa fb fc fd r x) (mix_eq q k v a b c d g x3 x4 x5 x6 x7 i h B fq fk fv fa fb fc fd r x)]

end Cert.Meet

end
-- ==== Proof.Kernel5Val.lean ====
/-
  The loop of the samples' attention: its four trips, and the two maps' outputs of a row.  What one trip computes is the
  prompt's attention's, whose blocks have the same sizes.
-/
module

public import proofs.«01_k».proof.Proof.Kernel5IdealBody
public import proofs.«01_k».proof.Proof.KernelVal
public import Idealize.ShloMosaic.Lib.Pointwise
public import Idealize.ShloMosaic.Lib.Pipeline.ValueKit

@[expose] public section

set_option maxRecDepth 16384

noncomputable section

namespace Cert.Kernel5Ideal.Attn

open Cert.Kernel5Ideal Cert.Kernel5Ideal.Gen
open Cert.KernelIdeal.Attn (tile tile0 tile1 nextm_at nextl_at nexta_at)
open Idealize.ShloMosaic Idealize.ShloMosaic.TcCoe Idealize.SL.Sem

/-- The loop takes four trips. -/
theorem trips_eq : k0_t1_loop.trips = 4 := by decide +kernel

/-- The rows a trip reads. -/
theorem rows_at (X : FVec Ideal S2048x128 .bf16) (k : Fin k0_t1_loop.trips) (j : Fin 512) (u : Fin 128) :
    (rows (F := Ideal) X k (ix2 j u) : EReal) = X (ix2 ⟨k.val * 512 + j.val, by have := k.isLt.trans_eq trips_eq; omega⟩ u) := by
  unfold rows VecWindow.window
  refine congrArg X (funext fun a => Fin.ext ((ValueKit.rect_emb_unit_val _ _ _ _ a).trans ?_))
  refine (congrArg (· + _) (congrFun (k0_off1_eq k) a)).trans ?_
  fin_cases a
  · exact congrArg (· + j.val) (Nat.mul_comm 512 k.val)
  · exact Nat.zero_add u.val

/-- The state at loop entry. -/
theorem st0_at (r : Fin 256) (u : Fin 128) :
    ((st0 (F := Ideal)).m0 (ix2 r 0) : EReal) = ⊥ ∧ ((st0 (F := Ideal)).m1 (ix2 r 0) : EReal) = ⊥
    ∧ ((st0 (F := Ideal)).l0 (ix2 r 0) : EReal) = 0 ∧ ((st0 (F := Ideal)).l1 (ix2 r 0) : EReal) = 0
    ∧ ((st0 (F := Ideal)).acc0 (ix2 r u) : EReal) = 0 ∧ ((st0 (F := Ideal)).acc1 (ix2 r u) : EReal) = 0 :=
  Cert.KernelIdeal.Attn.st0_at r u

/-- The first map's buffers after the loop hold the softmax's state over the tiles. -/
theorem state0 (x5 : FVec Ideal S256x128 .bf16) (x6 x7 : FVec Ideal S2048x128 .bf16) (s w : ℕ → Fin 512 → ℝ) (r : Fin 256) (u : Fin 128)
    (hs : ∀ (k : Fin k0_t1_loop.trips) (j : Fin 512), tile (k0_pay10 (F := Ideal) x5) (rows (F := Ideal) x6 k) r j = s k j)
    (hw : ∀ (k : Fin k0_t1_loop.trips) (j : Fin 512), (rows (F := Ideal) x7 k (ix2 j u) : EReal) = w k j) :
    Online.State s w 4 ((stF (F := Ideal) x5 x6 x7).m0 (ix2 r 0)) ((stF (F := Ideal) x5 x6 x7).l0 (ix2 r 0)) ((stF (F := Ideal) x5 x6 x7).acc0 (ix2 r u)) := by
  unfold stF
  rw [trips_eq]
  refine Online.all s w 4 (by norm_num) (fun k => (st (F := Ideal) (k0_pay10 x5) (k0_pay11 x5) x6 x7 st0 k).m0 (ix2 r 0)) (fun k => (st (F := Ideal) (k0_pay10 x5) (k0_pay11 x5) x6 x7 st0 k).l0 (ix2 r 0))
    (fun k => (st (F := Ideal) (k0_pay10 x5) (k0_pay11 x5) x6 x7 st0 k).acc0 (ix2 r u)) (fun k => if h : k < k0_t1_loop.trips then tile (k0_pay10 (F := Ideal) x5) (rows (F := Ideal) x6 ⟨k, h⟩) r else fun _ => 0)
    (fun k => if h : k < k0_t1_loop.trips then (fun j => (rows (F := Ideal) x7 ⟨k, h⟩ (ix2 j u) : EReal)) else fun _ => 0)
    (st0_at r u).1 (st0_at r u).2.2.1 (st0_at r u).2.2.2.2.1 ?_ ?_ ?_ ?_ ?_
  all_goals intro k hk; have hk' : k < k0_t1_loop.trips := hk.trans_eq trips_eq.symm
  · rw [dif_pos hk']; exact funext fun j => hs ⟨k, hk'⟩ j
  · rw [dif_pos hk']; exact funext fun j => hw ⟨k, hk'⟩ j
  · simp only [dif_pos hk']
    rw [st_succ _ _ _ _ _ ⟨k, hk'⟩]
    exact nextm_at _ _ _ r
  · simp only [dif_pos hk']
    rw [st_succ _ _ _ _ _ ⟨k, hk'⟩]
    exact nextl_at _ _ _ _ r
  · simp only [dif_pos hk']
    rw [st_succ _ _ _ _ _ ⟨k, hk'⟩]
    exact nexta_at _ _ _ _ _ r u

/-- The second map's buffers after the loop hold the softmax's state over the tiles. -/
theorem state1 (x5 : FVec Ideal S256x128 .bf16) (x6 x7 : FVec Ideal S2048x128 .bf16) (s w : ℕ → Fin 512 → ℝ) (r : Fin 256) (u : Fin 128)
    (hs : ∀ (k : Fin k0_t1_loop.trips) (j : Fin 512), tile (k0_pay11 (F := Ideal) x5) (rows (F := Ideal) x6 k) r j = s k j)
    (hw : ∀ (k : Fin k0_t1_loop.trips) (j : Fin 512), (rows (F := Ideal) x7 k (ix2 j u) : EReal) = w k j) :
    Online.State s w 4 ((stF (F := Ideal) x5 x6 x7).m1 (ix2 r 0)) ((stF (F := Ideal) x5 x6 x7).l1 (ix2 r 0)) ((stF (F := Ideal) x5 x6 x7).acc1 (ix2 r u)) := by
  unfold stF
  rw [trips_eq]
  refine Online.all s w 4 (by norm_num) (fun k => (st (F := Ideal) (k0_pay10 x5) (k0_pay11 x5) x6 x7 st0 k).m1 (ix2 r 0)) (fun k => (st (F := Ideal) (k0_pay10 x5) (k0_pay11 x5) x6 x7 st0 k).l1 (ix2 r 0))
    (fun k => (st (F := Ideal) (k0_pay10 x5) (k0_pay11 x5) x6 x7 st0 k).acc1 (ix2 r u)) (fun k => if h : k < k0_t1_loop.trips then tile (k0_pay11 (F := Ideal) x5) (rows (F := Ideal) x6 ⟨k, h⟩) r else fun _ => 0)
    (fun k => if h : k < k0_t1_loop.trips then (fun j => (rows (F := Ideal) x7 ⟨k, h⟩ (ix2 j u) : EReal)) else fun _ => 0)
    (st0_at r u).2.1 (st0_at r u).2.2.2.1 (st0_at r u).2.2.2.2.2 ?_ ?_ ?_ ?_ ?_
  all_goals intro k hk; have hk' : k < k0_t1_loop.trips := hk.trans_eq trips_eq.symm
  · rw [dif_pos hk']; exact funext fun j => hs ⟨k, hk'⟩ j
  · rw [dif_pos hk']; exact funext fun j => hw ⟨k, hk'⟩ j
  · simp only [dif_pos hk']
    rw [st_succ _ _ _ _ _ ⟨k, hk'⟩]
    exact nextm_at _ _ _ r
  · simp only [dif_pos hk']
    rw [st_succ _ _ _ _ _ ⟨k, hk'⟩]
    exact nextl_at _ _ _ _ r
  · simp only [dif_pos hk']
    rw [st_succ _ _ _ _ _ ⟨k, hk'⟩]
    exact nexta_at _ _ _ _ _ r u

/-- The first map's output of a row: the softmax's mean of the values. -/
theorem out0 (x5 : FVec Ideal S256x128 .bf16) (x6 x7 : FVec Ideal S2048x128 .bf16) (S w : Fin 2048 → ℝ) (r : Fin 256) (u : Fin 128)
    (hS : ∀ J, ∑ x : Fin 64, (x5 (ix2 r ⟨x.val, by omega⟩) * x6 (ix2 J ⟨x.val, by omega⟩) : EReal) = S J) (hw : ∀ J, (x7 (ix2 J u) : EReal) = w J) :
    Ideal.div ((stF (F := Ideal) x5 x6 x7).acc0 (ix2 r u)) ((stF (F := Ideal) x5 x6 x7).l0 (ix2 r 0)) = ((∑ J, Online.soft S J * w J : ℝ) : EReal) :=
  Online.soft_of_state 4 512 (by norm_num) rfl S w _ _ _ (state0 x5 x6 x7 _ _ r u
    (fun k j => (tile0 _ _ r j).trans ((Finset.sum_congr rfl fun x _ => congrArg (_ * ·) (rows_at x6 k j _)).trans ((hS _).trans (congrArg _ (Online.tiled_at 4 512 rfl _ k.val j (k.isLt.trans_eq trips_eq) _).symm))))
    fun k j => (rows_at x7 k j u).trans ((hw _).trans (congrArg _ (Online.tiled_at 4 512 rfl _ k.val j (k.isLt.trans_eq trips_eq) _).symm)))

/-- The second map's output of a row: the softmax's mean of the values. -/
theorem out1 (x5 : FVec Ideal S256x128 .bf16) (x6 x7 : FVec Ideal S2048x128 .bf16) (S w : Fin 2048 → ℝ) (r : Fin 256) (u : Fin 128)
    (hS : ∀ J, ∑ x : Fin 64, (x5 (ix2 r ⟨64 + x.val, by omega⟩) * x6 (ix2 J ⟨64 + x.val, by omega⟩) : EReal) = S J) (hw : ∀ J, (x7 (ix2 J u) : EReal) = w J) :
    Ideal.div ((stF (F := Ideal) x5 x6 x7).acc1 (ix2 r u)) ((stF (F := Ideal) x5 x6 x7).l1 (ix2 r 0)) = ((∑ J, Online.soft S J * w J : ℝ) : EReal) :=
  Online.soft_of_state 4 512 (by norm_num) rfl S w _ _ _ (state1 x5 x6 x7 _ _ r u
    (fun k j => (tile1 _ _ r j).trans ((Finset.sum_congr rfl fun x _ => congrArg (_ * ·) (rows_at x6 k j _)).trans ((hS _).trans (congrArg _ (Online.tiled_at 4 512 rfl _ k.val j (k.isLt.trans_eq trips_eq) _).symm))))
    fun k j => (rows_at x7 k j u).trans ((hw _).trans (congrArg _ (Online.tiled_at 4 512 rfl _ k.val j (k.isLt.trans_eq trips_eq) _).symm)))

end Cert.Kernel5Ideal.Attn

end
-- ==== Proof.Ref5Val.lean ====
/-
  The samples' reference result read at a sample, a row, a head and a lane.
-/
module

public import proofs.«01_k».proof.Proof.Gen.Reference5Ideal.Run
public import proofs.«01_k».proof.Proof.RefVal
public import Idealize.ShloMosaic.Lib.Pointwise

@[expose] public section

set_option maxRecDepth 16384

noncomputable section

namespace Cert.Reference5Ideal.Attn

open Cert.Reference5Ideal Cert.Reference5Ideal.Gen
open Cert.ReferenceIdeal.Attn (weight weight_at)
open Idealize.ShloMosaic Idealize.ShloMosaic.TcCoe Idealize.SL.Sem

variable {F : FTy → Type} [FloatOps F]

/-- The samples' rows of an array. -/
def half (x : FVec F S32768x1024 .bf16) : FVec F S16384x1024 .f32 :=
  extf .f32 (extractStridedSlice S16384x1024 ![16384, 0] x slices_S32768x1024_S16384x1024_16384_0) bitsLt_bf16_f32

/-- The scores of both maps of every head of every sample. -/
def scores (q k : FVec F S32768x1024 .bf16) : FVec F S8x8x2x2048x2048 .f32 :=
  Host.dotGeneral dot_S8x2048x8x2x64_S8x2048x8x2x64_S8x8x2x2048x2048_4_4_1_1_023_023 none (shapeCast _ (half q) shapeCasts_S16384x1024_S8x2048x8x2x64) (shapeCast _ (half k) shapeCasts_S16384x1024_S8x2048x8x2x64)

/-- The greatest score of every row. -/
def tops (s : FVec F S8x8x2x2048x2048 .f32) : FVec F S8x8x2x2048 .f32 :=
  maximumf (broadcastInDim S8x8x2x2048 ![] bcast_S_S8x8x2x2048 (constant S_ .f32 0xFF800000#32)) (Host.reduce FloatOps.maximumf s (constant S_ .f32 0xFF800000#32) reducesTo_S8x8x2x2048x2048_S8x8x2x2048_d4 h_S_)

/-- A number per row, laid along the row. -/
def along (x : FVec F S8x8x2x2048 .f32) : FVec F S8x8x2x2048x2048 .f32 :=
  broadcastInDim S8x8x2x2048x2048 ![0, 1, 2, 3, 4] bcast_S8x8x2x2048x1_S8x8x2x2048x2048_0_1_2_3_4 (broadcastInDim S8x8x2x2048x1 ![0, 1, 2, 3] bcast_S8x8x2x2048_S8x8x2x2048x1_0_1_2_3 x)

/-- The exponentials of the scores relative to the greatest one. -/
def exps (s : FVec F S8x8x2x2048x2048 .f32) : FVec F S8x8x2x2048x2048 .f32 :=
  Host.exp (subf s (along (tops s)))

/-- The softmax of the scores. -/
def probs (s : FVec F S8x8x2x2048x2048 .f32) : FVec F S8x8x2x2048x2048 .f32 :=
  Host.divf (exps s) (along (Host.reduceAdd (exps s) (constant S_ .f32 0x00000000#32) reducesTo_S8x8x2x2048x2048_S8x8x2x2048_d4 h_S_))

/-- The values of the samples, one row of 128 per head. -/
def vals (v : FVec F S32768x1024 .bf16) : FVec F S8x2048x8x128 .f32 :=
  shapeCast _ (half v) shapeCasts_S16384x1024_S8x2048x8x128

/-- The difference of the two maps, the second by its weight. -/
def maps (p : FVec F S8x8x2x2048x2048 .f32) (w : FVec F S_ .f32) : FVec F S8x8x2048x2048 .f32 :=
  subf (shapeCast _ (extractStridedSlice S8x8x1x2048x2048 ![0, 0, 0, 0, 0] p slices_S8x8x2x2048x2048_S8x8x1x2048x2048_0_0_0_0_0) shapeCasts_S8x8x1x2048x2048_S8x8x2048x2048) (mulf (broadcastInDim S8x8x2048x2048 ![] bcast_S_S8x8x2048x2048 w) (shapeCast _ (extractStridedSlice S8x8x1x2048x2048 ![0, 0, 1, 0, 0] p slices_S8x8x2x2048x2048_S8x8x1x2048x2048_0_0_1_0_0) shapeCasts_S8x8x1x2048x2048_S8x8x2048x2048))

/-- The attention's output before its norm. -/
def mixed (q k v : FVec F S32768x1024 .bf16) (a b c d : FVec F S64 .f32) : FVec F S8x2048x8x128 .f32 :=
  transpose S8x2048x8x128 [0, 3, 1, 2] (Host.dotGeneral dot_S8x2048x8x128_S8x8x2048x2048_S8x8x128x2048_1_3_3_2_02_01 none (vals v) (maps (probs (scores q k)) (weight a b c d))) transposes_S8x8x128x2048_S8x2048x8x128_0_3_1_2

/-- The norm of the output, its gain and its last factor. -/
def normed (o : FVec F S8x2048x8x128 .f32) (g : FVec F S128 .f32) : FVec F S16384x1024 .bf16 :=
  truncf .bf16 (shapeCast _ (mulf (mulf (mulf o (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf o o) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x3727C5AC#32)))))) (broadcastInDim S8x2048x8x128 ![0, 1, 2, 3] bcast_S1x1x1x128_S8x2048x8x128_0_1_2_3 (broadcastInDim S1x1x1x128 ![3] bcast_S128_S1x1x1x128_3 g))) (broadcastInDim S8x2048x8x128 ![] bcast_S_S8x2048x8x128 (constant S_ .f32 0x3F4CCCCD#32))) shapeCasts_S8x2048x8x128_S16384x1024) bitsLt_bf16_f32

/-- The run's result is the norm of the mixed attention. -/
theorem result_eq (m : (ℓ : Loc nD τ sig) → Buf (Elt F) ℓ) (c : Dev nD) :
    Value.res_main_v54 m c = normed (mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) := rfl

/-- A sample's row of an array is the array's own row. -/
theorem half_at (x : FVec Ideal S32768x1024 .bf16) (r : Fin 16384) (y : Fin 1024) :
    (half (F := Ideal) x (ix2 r y) : EReal) = x (ix2 ⟨16384 + r.val, by omega⟩ y) := by
  pointwise [half]

/-- The host's maximum along the last of five axes, at an index. -/
theorem reduce_max_at {A B C D N : ℕ} {u : Shape} (s : FVec Ideal ⟨5, ![A, B, C, D, N]⟩ .f32) (init : FVec Ideal u .f32) (hu : 0 < u.numel)
    (h : (⟨5, ![A, B, C, D, N]⟩ : Shape).ReducesTo [4] ⟨4, ![A, B, C, D]⟩) (a : Fin A) (b : Fin B) (c : Fin C) (d : Fin D) :
    Host.reduce (FloatOps.maximumf (F := Ideal) (φ := .f32)) s init h hu (ix4 a b c d)
      = Finset.univ.fold max (init (Shape.Idx.first hu)) fun x : Fin N => (s (ix5 a b c d x) : EReal) := by
  pointwise []

/-- The maximum with a broadcast constant, at an index. -/
theorem max_const_at {A B C D : ℕ} (w : BitVec 32) (x : FVec Ideal ⟨4, ![A, B, C, D]⟩ .f32) (hb : S_.BroadcastsInDim ⟨4, ![A, B, C, D]⟩ (![] : Fin 0 → Fin 4)) (i) :
    (maximumf (broadcastInDim ⟨4, ![A, B, C, D]⟩ ![] hb (constant (F := Ideal) S_ .f32 w)) x i : EReal) = max (Ideal.ofBits .f32 w) (x i) := by
  pointwise []

/-- The host's maximum of a constant and the greatest along the last of five axes, at an index. -/
theorem max_reduce_at {A B C D N : ℕ} (s : FVec Ideal ⟨5, ![A, B, C, D, N]⟩ .f32) (hb : S_.BroadcastsInDim ⟨4, ![A, B, C, D]⟩ (![] : Fin 0 → Fin 4)) (hu : 0 < S_.numel)
    (h : (⟨5, ![A, B, C, D, N]⟩ : Shape).ReducesTo [4] ⟨4, ![A, B, C, D]⟩) (w : BitVec 32) (a : Fin A) (b : Fin B) (c : Fin C) (d : Fin D) :
    (maximumf (broadcastInDim ⟨4, ![A, B, C, D]⟩ ![] hb (constant (F := Ideal) S_ .f32 w)) (Host.reduce (FloatOps.maximumf (F := Ideal) (φ := .f32)) s (constant S_ .f32 w) h hu) (ix4 a b c d) : EReal)
      = max (Ideal.ofBits .f32 w) (Finset.univ.fold max (Ideal.ofBits .f32 w) fun x : Fin N => (s (ix5 a b c d x) : EReal)) :=
  (max_const_at w _ hb _).trans (congrArg (max (Ideal.ofBits .f32 w)) (reduce_max_at s _ hu h a b c d))

/-- The greatest score of a row is the fold of the maximum over the row. -/
theorem tops_at (s : FVec Ideal S8x8x2x2048x2048 .f32) (b h : Fin 8) (e : Fin 2) (r : Fin 2048) :
    (tops (F := Ideal) s (ix4 b h e r) : EReal)
      = max (Ideal.ofBits .f32 0xFF800000#32) (Finset.univ.fold max (Ideal.ofBits .f32 0xFF800000#32) fun x : Fin 2048 => (s (ix5 b h e r x) : EReal)) := by
  delta tops
  exact max_reduce_at (A := 8) (B := 8) (C := 2) (D := 2048) (N := 2048) s bcast_S_S8x8x2x2048 h_S_ reducesTo_S8x8x2x2048x2048_S8x8x2x2048_d4 0xFF800000#32 b h e r

/-- The exponential of a score relative to the row's greatest. -/
theorem exps_at (s : FVec Ideal S8x8x2x2048x2048 .f32) (b h : Fin 8) (e : Fin 2) (r j : Fin 2048) :
    exps (F := Ideal) s (ix5 b h e r j) = Ideal.exp (s (ix5 b h e r j) - tops s (ix4 b h e r)) := by
  pointwise [exps, along]

/-- The softmax at an index. -/
theorem probs_at (s : FVec Ideal S8x8x2x2048x2048 .f32) (b h : Fin 8) (e : Fin 2) (r j : Fin 2048) :
    probs (F := Ideal) s (ix5 b h e r j) = Ideal.div (exps s (ix5 b h e r j)) (∑ x : Fin 2048, exps s (ix5 b h e r x)) := by
  pointwise [probs, along]

/-- A score is the inner product of a query and a key over the map's 64 lanes. -/
theorem scores_at (q k : FVec Ideal S32768x1024 .bf16) (b h : Fin 8) (e : Fin 2) (r j : Fin 2048) :
    (scores (F := Ideal) q k (ix5 b h e r j) : EReal) = ∑ x : Fin 64, (q (ix2 ⟨16384 + (b.val * 2048 + r.val), by omega⟩ ⟨h.val * 128 + e.val * 64 + x.val, by omega⟩) * k (ix2 ⟨16384 + (b.val * 2048 + j.val), by omega⟩ ⟨h.val * 128 + e.val * 64 + x.val, by omega⟩) : EReal) := by
  pointwise [scores, half]

/-- The norm at an index. -/
theorem normed_at (o : FVec Ideal S8x2048x8x128 .f32) (g : FVec Ideal S128 .f32) (r : Fin 16384) (y : Fin 1024) :
    (normed (F := Ideal) o g (ix2 r y) : EReal) = (o (ix4 ⟨r.val / 2048, by omega⟩ ⟨r.val % 2048, by omega⟩ ⟨y.val / 128, by omega⟩ ⟨y.val % 128, by omega⟩) * Ideal.rsqrt (Ideal.div (∑ x : Fin 128, o (ix4 ⟨r.val / 2048, by omega⟩ ⟨r.val % 2048, by omega⟩ ⟨y.val / 128, by omega⟩ x) * o (ix4 ⟨r.val / 2048, by omega⟩ ⟨r.val % 2048, by omega⟩ ⟨y.val / 128, by omega⟩ x)) (Ideal.ofBits .f32 0x43000000#32) + Ideal.ofBits .f32 0x3727C5AC#32) * g (ix1 ⟨y.val % 128, by omega⟩) * Ideal.ofBits .f32 0x3F4CCCCD#32 : EReal) := by
  pointwise [normed]

/-- The product of the values and the mixed probabilities, at an index. -/
theorem dot_at (l : FVec Ideal S8x2048x8x128 .f32) (x : FVec Ideal S8x8x2048x2048 .f32) (b : Fin 8) (r : Fin 2048) (h : Fin 8) (u : Fin 128) :
    (Host.dotGeneral dot_S8x2048x8x128_S8x8x2048x2048_S8x8x128x2048_1_3_3_2_02_01 none l x : FVec Ideal S8x8x128x2048 .f32) (ix4 b h u r) = ∑ k : Fin 2048, l (ix4 b k h u) * x (ix4 b h r k) := by
  pointwise [Host.dotGeneral]

/-- A value at an index. -/
theorem vals_at (v : FVec Ideal S32768x1024 .bf16) (b : Fin 8) (j : Fin 2048) (h : Fin 8) (u : Fin 128) :
    (vals (F := Ideal) v (ix4 b j h u) : EReal) = v (ix2 ⟨16384 + (b.val * 2048 + j.val), by omega⟩ ⟨h.val * 128 + u.val, by omega⟩) := by
  pointwise [vals, half]

/-- The difference of the maps at an index. -/
theorem maps_at (p : FVec Ideal S8x8x2x2048x2048 .f32) (w : FVec Ideal S_ .f32) (b h : Fin 8) (r j : Fin 2048) :
    (maps (F := Ideal) p w (ix4 b h r j) : EReal) = p (ix5 b h 0 r j) - w ix0 * p (ix5 b h 1 r j) := by
  pointwise [maps]

/-- The turn of the product's axes, at an index. -/
theorem turn_at (x : FVec Ideal S8x8x128x2048 .f32) (b : Fin 8) (r : Fin 2048) (h : Fin 8) (u : Fin 128) :
    transpose S8x2048x8x128 [0, 3, 1, 2] x transposes_S8x8x128x2048_S8x2048x8x128_0_3_1_2 (ix4 b r h u) = x (ix4 b h u r) := by
  pointwise []

/-- The attention's output at an index, before its norm. -/
theorem mixed_at (q k v : FVec Ideal S32768x1024 .bf16) (a b c d : FVec Ideal S64 .f32) (n : Fin 8) (r : Fin 2048) (h : Fin 8) (u : Fin 128) :
    (mixed (F := Ideal) q k v a b c d (ix4 n r h u) : EReal)
      = ∑ j : Fin 2048, v (ix2 ⟨16384 + (n.val * 2048 + j.val), by omega⟩ ⟨h.val * 128 + u.val, by omega⟩) * (probs (scores q k) (ix5 n h 0 r j) - weight a b c d ix0 * probs (scores q k) (ix5 n h 1 r j)) :=
  (turn_at _ n r h u).trans ((dot_at (vals v) (maps (probs (scores q k)) (weight a b c d)) n r h u).trans
    (Finset.sum_congr rfl fun j _ => congrArg₂ (· * ·) (vals_at v n j h u) (maps_at (probs (scores q k)) (weight a b c d) n h r j)))

end Cert.Reference5Ideal.Attn

end
-- ==== Proof.Meet5.lean ====
/-
  The samples' kernel block and reference agree: over finite queries, keys, values and lambda vectors both are the softmax's
  mean of the values, the second map by its weight, normed.
-/
module

public import proofs.«01_k».proof.Proof.Meet
public import proofs.«01_k».proof.Proof.Kernel5Val
public import proofs.«01_k».proof.Proof.Ref5Val

@[expose] public section

set_option maxRecDepth 16384

noncomputable section

namespace Cert.Meet5

open Cert.Reference5Ideal Cert.Reference5Ideal.Attn
open Cert.ReferenceIdeal.Attn (weight weight_at)
open Cert.Meet (Fin1 real_of sum_mul_real weight_real)
open Idealize.ShloMosaic Idealize.ShloMosaic.TcCoe

/-- Every entry of the last 16384 rows is a real. -/
def Fin2 (X : FVec Ideal S32768x1024 .bf16) : Prop :=
  ∀ (r : Fin 16384) (y : Fin 1024), ∃ x : ℝ, (X (ix2 ⟨16384 + r.val, by omega⟩ y) : EReal) = x

/-- The score of a query and a key of a sample as a real. -/
def score (q k : FVec Ideal S32768x1024 .bf16) (n h : Fin 8) (e : Fin 2) (r j : Fin 2048) : ℝ :=
  (scores (F := Ideal) q k (ix5 n h e r j) : EReal).toReal

/-- Every score is a real. -/
theorem score_eq (q k : FVec Ideal S32768x1024 .bf16) (hq : Fin2 q) (hk : Fin2 k) (n h : Fin 8) (e : Fin 2) (r j : Fin 2048) :
    (scores (F := Ideal) q k (ix5 n h e r j) : EReal) = score q k n h e r j := by
  unfold score
  refine real_of ⟨_, (scores_at q k n h e r j).trans (sum_mul_real _ _ (fun x => ?_) (fun x => ?_))⟩
  · exact hq ⟨n.val * 2048 + r.val, by omega⟩ ⟨h.val * 128 + e.val * 64 + x.val, by omega⟩
  · exact hk ⟨n.val * 2048 + j.val, by omega⟩ ⟨h.val * 128 + e.val * 64 + x.val, by omega⟩

/-- The reference's probabilities are the softmax of the scores. -/
theorem probs_eq (q k : FVec Ideal S32768x1024 .bf16) (hq : Fin2 q) (hk : Fin2 k) (n h : Fin 8) (e : Fin 2) (r j : Fin 2048) :
    (probs (F := Ideal) (scores q k) (ix5 n h e r j) : EReal) = Online.soft (score q k n h e r) j := by
  rw [probs_at, exps_at, Finset.sum_congr rfl fun x _ => exps_at _ n h e r x]
  refine Online.soft_eq (score q k n h e r) (fun j => (scores (F := Ideal) q k (ix5 n h e r j) : EReal)) (score_eq q k hq hk n h e r) _ ?_ j
  rw [← Online.ofBits_neg_inf]
  exact tops_at _ n h e r

/-- The reference's output before its norm, as a real. -/
theorem mixed_eq (q k v : FVec Ideal S32768x1024 .bf16) (a b c d : FVec Ideal S64 .f32) (hq : Fin2 q) (hk : Fin2 k) (hv : Fin2 v)
    (L : ℝ) (hL : (weight (F := Ideal) a b c d ix0 : EReal) = L) (w : Fin 2048 → ℝ) (n : Fin 8) (r : Fin 2048) (h : Fin 8) (u : Fin 128)
    (hw : ∀ j : Fin 2048, (v (ix2 ⟨16384 + (n.val * 2048 + j.val), by omega⟩ ⟨h.val * 128 + u.val, by omega⟩) : EReal) = w j) :
    (mixed (F := Ideal) q k v a b c d (ix4 n r h u) : EReal)
      = ((∑ j, Online.soft (score q k n h 0 r) j * w j : ℝ) : EReal) - L * ((∑ j, Online.soft (score q k n h 1 r) j * w j : ℝ) : EReal) := by
  rw [mixed_at, hL, ← EReal.coe_mul, ← EReal.coe_sub, Finset.mul_sum, ← Finset.sum_sub_distrib, Online.coe_sum]
  refine Finset.sum_congr rfl fun j _ => ?_
  rw [hw j, probs_eq q k hq hk, probs_eq q k hq hk, ← EReal.coe_mul, ← EReal.coe_sub, ← EReal.coe_mul]
  exact congrArg _ (by ring)

variable (q k v : FVec Ideal S32768x1024 .bf16) (a b c d : FVec Ideal S64 .f32) (g : FVec Ideal S128 .f32)
  (x3 : FVec Ideal Cert.Kernel5Ideal.S4x64 .f32) (x4 : FVec Ideal Cert.Kernel5Ideal.S1x128 .f32) (x5 : FVec Ideal Cert.Kernel5Ideal.S256x128 .bf16)
  (x6 x7 : FVec Ideal Cert.Kernel5Ideal.S2048x128 .bf16)

/-- What the kernel's blocks are: rows `256 i ..` of sample `n` of head `h`'s queries, the sample's keys and values of that head, the lambda vectors, the gain. -/
structure Blocks (n i h : Fin 8) : Prop where
  hq : ∀ (r : Fin 256) (u : Fin 128), (x5 (ix2 r u) : EReal) = q (ix2 ⟨16384 + (n.val * 2048 + (i.val * 256 + r.val)), by omega⟩ ⟨h.val * 128 + u.val, by omega⟩)
  hk : ∀ (j : Fin 2048) (u : Fin 128), (x6 (ix2 j u) : EReal) = k (ix2 ⟨16384 + (n.val * 2048 + j.val), by omega⟩ ⟨h.val * 128 + u.val, by omega⟩)
  hv : ∀ (j : Fin 2048) (u : Fin 128), (x7 (ix2 j u) : EReal) = v (ix2 ⟨16384 + (n.val * 2048 + j.val), by omega⟩ ⟨h.val * 128 + u.val, by omega⟩)
  ha : ∀ x : Fin 64, (x3 (ix2 0 x) : EReal) = a (ix1 x)
  hb : ∀ x : Fin 64, (x3 (ix2 1 x) : EReal) = b (ix1 x)
  hc : ∀ x : Fin 64, (x3 (ix2 2 x) : EReal) = c (ix1 x)
  hd : ∀ x : Fin 64, (x3 (ix2 3 x) : EReal) = d (ix1 x)
  hg : ∀ u : Fin 128, (x4 (ix2 0 u) : EReal) = g (ix1 u)

open Cert.Kernel5Ideal.Attn in
open Cert.KernelIdeal.Attn (mix) in
/-- The kernel's output before its norm is the reference's. -/
theorem mix_eq (n i h : Fin 8) (B : Blocks q k v a b c d g x3 x4 x5 x6 x7 n i h) (fq : Fin2 q) (fk : Fin2 k) (fv : Fin2 v)
    (fa : Fin1 a) (fb : Fin1 b) (fc : Fin1 c) (fd : Fin1 d) (r : Fin 256) (u : Fin 128) :
    mix x3 (stF (F := Ideal) x5 x6 x7).acc0 (stF (F := Ideal) x5 x6 x7).acc1 (stF (F := Ideal) x5 x6 x7).l0 (stF (F := Ideal) x5 x6 x7).l1 r u
      = mixed (F := Ideal) q k v a b c d (ix4 n ⟨i.val * 256 + r.val, by omega⟩ h u) := by
  obtain ⟨L, hL⟩ := weight_real a b c d fa fb fc fd
  have hw : ∀ j : Fin 2048, (v (ix2 ⟨16384 + (n.val * 2048 + j.val), by omega⟩ ⟨h.val * 128 + u.val, by omega⟩) : EReal)
      = ((v (ix2 ⟨16384 + (n.val * 2048 + j.val), by omega⟩ ⟨h.val * 128 + u.val, by omega⟩) : EReal).toReal : EReal) := fun j => real_of (fv ⟨n.val * 2048 + j.val, by omega⟩ _)
  rw [mixed_eq q k v a b c d fq fk fv L hL _ n _ h u hw]
  unfold mix
  rw [out0 x5 x6 x7 (score q k n h 0 ⟨i.val * 256 + r.val, by omega⟩) _ r u (fun J => ?_) (fun J => (B.hv J u).trans (hw J)),
    out1 x5 x6 x7 (score q k n h 1 ⟨i.val * 256 + r.val, by omega⟩) _ r u (fun J => ?_) (fun J => (B.hv J u).trans (hw J))]
  · rw [Finset.sum_congr rfl fun x _ => congrArg₂ (· * ·) (B.ha x) (B.hb x), Finset.sum_congr rfl fun x _ => congrArg₂ (· * ·) (B.hc x) (B.hd x),
      ← weight_at a b c d ix0, hL]
  · refine Eq.trans ?_ ((scores_at q k n h 1 ⟨i.val * 256 + r.val, by omega⟩ J).symm.trans (score_eq q k fq fk n h 1 ⟨i.val * 256 + r.val, by omega⟩ J))
    refine Finset.sum_congr rfl fun x _ => ?_
    rw [B.hq, B.hk]
    have e : (⟨h.val * 128 + (64 + x.val), by omega⟩ : Fin 1024) = ⟨h.val * 128 + (1 : Fin 2).val * 64 + x.val, by simp; omega⟩ := Fin.ext (by simp; omega)
    rw [e]
  · refine Eq.trans ?_ ((scores_at q k n h 0 ⟨i.val * 256 + r.val, by omega⟩ J).symm.trans (score_eq q k fq fk n h 0 ⟨i.val * 256 + r.val, by omega⟩ J))
    refine Finset.sum_congr rfl fun x _ => ?_
    rw [B.hq, B.hk]
    have e : (⟨h.val * 128 + x.val, by omega⟩ : Fin 1024) = ⟨h.val * 128 + (0 : Fin 2).val * 64 + x.val, by simp; omega⟩ := Fin.ext (by simp)
    rw [e]

open Cert.Kernel5Ideal.Attn in
/-- The block the kernel stores is the reference's result at the block's place. -/
theorem block_eq (n i h : Fin 8) (B : Blocks q k v a b c d g x3 x4 x5 x6 x7 n i h) (fq : Fin2 q) (fk : Fin2 k) (fv : Fin2 v)
    (fa : Fin1 a) (fb : Fin1 b) (fc : Fin1 c) (fd : Fin1 d) (r : Fin 256) (u : Fin 128) :
    (outv (F := Ideal) x3 x4 x5 x6 x7 (ix2 r u) : EReal)
      = normed (F := Ideal) (mixed q k v a b c d) g (ix2 ⟨n.val * 2048 + (i.val * 256 + r.val), by omega⟩ ⟨h.val * 128 + u.val, by omega⟩) := by
  have e1 : (⟨(h.val * 128 + u.val) / 128, by omega⟩ : Fin 8) = h := Fin.ext (by simp only; omega)
  have e2 : (⟨(h.val * 128 + u.val) % 128, by omega⟩ : Fin 128) = u := Fin.ext (by simp only; omega)
  have e3 : (⟨(n.val * 2048 + (i.val * 256 + r.val)) / 2048, by omega⟩ : Fin 8) = n := Fin.ext (by simp only; omega)
  have e4 : (⟨(n.val * 2048 + (i.val * 256 + r.val)) % 2048, by omega⟩ : Fin 2048) = ⟨i.val * 256 + r.val, by omega⟩ := Fin.ext (by simp only; omega)
  rw [normed_at]
  simp only [e1, e2, e3, e4]
  unfold outv
  refine (Cert.KernelIdeal.Attn.end_at x3 x4 _ _ _ _ r u).trans ?_
  rw [B.hg u, mix_eq q k v a b c d g x3 x4 x5 x6 x7 n i h B fq fk fv fa fb fc fd r u,
    Finset.sum_congr rfl fun x _ => congrArg₂ (· * ·) (mix_eq q k v a b c d g x3 x4 x5 x6 x7 n i h B fq fk fv fa fb fc fd r x) (mix_eq q k v a b c d g x3 x4 x5 x6 x7 n i h B fq fk fv fa fb fc fd r x)]

end Cert.Meet5

end
-- ==== Proof.KernelIdealRun.lean ====
/-
  The attention launch: the pipeline's data, the body at every point, the run, the frame and the result array.
-/
module

public import proofs.«01_k».proof.Proof.KernelIdealBody
public import Idealize.ShloMosaic.Lib.Pipeline.FrameBody
public import Idealize.ShloMosaic.Lib.Pipeline.Frame
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Scratch buffer 0 of the kernel. -/
abbrev sc0 : Memref sig .tc .vmem S256x128 .f32 := Memref.whole cc0_scratch0
/-- Scratch buffer 1 of the kernel. -/
abbrev sc1 : Memref sig .tc .vmem S256x128 .f32 := Memref.whole cc0_scratch1
/-- Scratch buffer 2 of the kernel. -/
abbrev sc2 : Memref sig .tc .vmem S256x1 .f32 := Memref.whole cc0_scratch2
/-- Scratch buffer 3 of the kernel. -/
abbrev sc3 : Memref sig .tc .vmem S256x1 .f32 := Memref.whole cc0_scratch3
/-- Scratch buffer 4 of the kernel. -/
abbrev sc4 : Memref sig .tc .vmem S256x1 .f32 := Memref.whole cc0_scratch4
/-- Scratch buffer 5 of the kernel. -/
abbrev sc5 : Memref sig .tc .vmem S256x1 .f32 := Memref.whole cc0_scratch5

/-- The invariant between points: the scratch buffers at something, and the generator register. -/
theorem phi_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The output block after point `t`: the body's function of the point's input blocks. -/
def outAt (c : Dev nD) (t : Fin cfg0.N) : Vec F S256x128 .bf16 :=
  outv (iblk m c 0 t) (iblk m c 1 t) (iblk m c 2 t) (iblk m c 3 t) (iblk m c 4 t)

/-- The pipeline's data on core `c`: arrays as found, inputs left in place, the output block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

/-- The data's arrays are what the region finds. -/
theorem A_eq (c : Dev nD) (w : Fin cfg0.W) : (dats m 0 c).A w = V m c (Pipeline.arrRef spec0 w) := by
  dsimp only [dats]

/-- What the body leaves in window 0's buffer. -/
theorem after_0 (c : Dev nD) (t : Fin cfg0.N) : (dats m 0 c).after 0 t = iblk m c 0 t := by dsimp only [dats]
/-- What the body leaves in window 1's buffer. -/
theorem after_1 (c : Dev nD) (t : Fin cfg0.N) : (dats m 0 c).after 1 t = iblk m c 1 t := by dsimp only [dats]
/-- What the body leaves in window 2's buffer. -/
theorem after_2 (c : Dev nD) (t : Fin cfg0.N) : (dats m 0 c).after 2 t = iblk m c 2 t := by dsimp only [dats]
/-- What the body leaves in window 3's buffer. -/
theorem after_3 (c : Dev nD) (t : Fin cfg0.N) : (dats m 0 c).after 3 t = iblk m c 3 t := by dsimp only [dats]
/-- What the body leaves in window 4's buffer. -/
theorem after_4 (c : Dev nD) (t : Fin cfg0.N) : (dats m 0 c).after 4 t = iblk m c 4 t := by dsimp only [dats]
/-- What the body leaves in window 5's buffer. -/
theorem after_5 (c : Dev nD) (t : Fin cfg0.N) : (dats m 0 c).after 5 t = outAt m c t := by dsimp only [dats]
/-- Window 0's buffer holds its block when the body starts. -/
theorem before_0 (c : Dev nD) (t : Fin cfg0.N) (d) : (dats m 0 c).before 0 t d = iblk m c 0 t :=
  before0_0_of m (dats m 0 c) (A_eq m c 0) (after_0 m c) t d
/-- Window 1's buffer holds its block when the body starts. -/
theorem before_1 (c : Dev nD) (t : Fin cfg0.N) (d) : (dats m 0 c).before 1 t d = iblk m c 1 t :=
  before0_1_of m (dats m 0 c) (A_eq m c 1) (after_1 m c) t d
/-- Window 2's buffer holds its block when the body starts. -/
theorem before_2 (c : Dev nD) (t : Fin cfg0.N) (d) : (dats m 0 c).before 2 t d = iblk m c 2 t :=
  before0_2_of m (dats m 0 c) (A_eq m c 2) (after_2 m c) t d
/-- Window 3's buffer holds its block when the body starts. -/
theorem before_3 (c : Dev nD) (t : Fin cfg0.N) (d) : (dats m 0 c).before 3 t d = iblk m c 3 t :=
  before0_3_of m (dats m 0 c) (A_eq m c 3) (after_3 m c) t d
/-- Window 4's buffer holds its block when the body starts. -/
theorem before_4 (c : Dev nD) (t : Fin cfg0.N) (d) : (dats m 0 c).before 4 t d = iblk m c 4 t :=
  before0_4_of m (dats m 0 c) (A_eq m c 4) (after_4 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at point `t`. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point takes `pre` to `post`. -/
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, phi_eq]
  unfold outAt
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply (run (F := F) c (grid0.coords t) _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body at the point's buffers. -/
theorem row (t : Fin cfg0.N) :
    defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The launch terminates, with every array at what the data say and every counter at zero. -/
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end as launched and every counter ends at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (frame_of m ρ (dats m) (A_eq m) ((θ_run defs _ _).mono (fun _ h => h.1) (launch m ρ))) ((θ_run defs _ _).mono (fun _ h => h.2) (launch m ρ))

/-- The launch with the result array named. -/
theorem result : θ_run defs (onTc (τ := τ) (main (F := F))) ⟨m, fun _ => 0, ρ⟩ (fun r => ∀ c : Dev nD,
      r.2.mem ((c.tc : Thread nD τ).loc main_v6) = (dats m 0 c).arrAt 5 cfg0.N) :=
  (θ_run defs _ _).mono (fun r h c => (h.1 c).1 5) (launch m ρ)

end Cert.KernelIdeal.Attn

end
-- ==== Proof.KernelFinal.lean ====
/-
  The result array of the attention launch: the reference's attention of the arguments.
-/
module

public import proofs.«01_k».proof.Proof.KernelIdealRun
public import proofs.«01_k».proof.Proof.Meet
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Every window's block at point `t`: head `t / 64`, query block `t % 64`. -/
theorem idx : ∀ t : Fin cfg0.N, win0_0.index t = ![0, 0] ∧ win0_1.index t = ![0, 0] ∧ win0_2.index t = ![t.val % 64, t.val / 64]
    ∧ win0_3.index t = ![0, t.val / 64] ∧ win0_4.index t = ![0, t.val / 64] ∧ win0_5.index t = ![t.val % 64, t.val / 64] :=
  (by decide +kernel : ∀ t : Fin grid0.N, _)

/-- The grid has 512 points. -/
theorem points (t : Fin cfg0.N) : t.val < 512 := t.isLt.trans_eq (by decide +kernel : grid0.N = 512)

/-- Row 0 of four stacked rows. -/
theorem stack0 (A0 A1 A2 A3 : FVec Ideal S1x64 .f32) (h : Shape.Concatenates [S1x64, S1x64, S1x64, S1x64] S4x64 0) (x : Fin 64) :
    (concatenate S4x64 0 [⟨S1x64, A0⟩, ⟨S1x64, A1⟩, ⟨S1x64, A2⟩, ⟨S1x64, A3⟩] h : FVec Ideal S4x64 .f32) (ix2 0 x) = A0 (ix2 0 x) := by
  pointwise []

/-- Row 1 of four stacked rows. -/
theorem stack1 (A0 A1 A2 A3 : FVec Ideal S1x64 .f32) (h : Shape.Concatenates [S1x64, S1x64, S1x64, S1x64] S4x64 0) (x : Fin 64) :
    (concatenate S4x64 0 [⟨S1x64, A0⟩, ⟨S1x64, A1⟩, ⟨S1x64, A2⟩, ⟨S1x64, A3⟩] h : FVec Ideal S4x64 .f32) (ix2 1 x) = A1 (ix2 0 x) := by
  pointwise []

/-- Row 2 of four stacked rows. -/
theorem stack2 (A0 A1 A2 A3 : FVec Ideal S1x64 .f32) (h : Shape.Concatenates [S1x64, S1x64, S1x64, S1x64] S4x64 0) (x : Fin 64) :
    (concatenate S4x64 0 [⟨S1x64, A0⟩, ⟨S1x64, A1⟩, ⟨S1x64, A2⟩, ⟨S1x64, A3⟩] h : FVec Ideal S4x64 .f32) (ix2 2 x) = A2 (ix2 0 x) := by
  pointwise []

/-- Row 3 of four stacked rows. -/
theorem stack3 (A0 A1 A2 A3 : FVec Ideal S1x64 .f32) (h : Shape.Concatenates [S1x64, S1x64, S1x64, S1x64] S4x64 0) (x : Fin 64) :
    (concatenate S4x64 0 [⟨S1x64, A0⟩, ⟨S1x64, A1⟩, ⟨S1x64, A2⟩, ⟨S1x64, A3⟩] h : FVec Ideal S4x64 .f32) (ix2 3 x) = A3 (ix2 0 x) := by
  pointwise []

/-- A vector as a row. -/
theorem row_of (a : FVec Ideal S64 .f32) (h : S64.BroadcastsInDim S1x64 (![1] : Fin 1 → Fin 2)) (x : Fin 64) :
    (broadcastInDim S1x64 ![1] h a : FVec Ideal S1x64 .f32) (ix2 0 x) = a (ix1 x) := by
  pointwise []

/-- The stacked lambda vectors. -/
theorem lamV (c : Dev nD) : (V m c main_v4 : FVec Ideal S4x64 .f32)
    = concatenate S4x64 0 [⟨S1x64, broadcastInDim S1x64 ![1] bcast_S64_S1x64_1 (m ((c.tc : Thread nD τ).loc main_arg3))⟩, ⟨S1x64, broadcastInDim S1x64 ![1] bcast_S64_S1x64_1 (m ((c.tc : Thread nD τ).loc main_arg4))⟩,
      ⟨S1x64, broadcastInDim S1x64 ![1] bcast_S64_S1x64_1 (m ((c.tc : Thread nD τ).loc main_arg5))⟩, ⟨S1x64, broadcastInDim S1x64 ![1] bcast_S64_S1x64_1 (m ((c.tc : Thread nD τ).loc main_arg6))⟩] concatenates_S1x64_S1x64_S1x64_S1x64_S4x64_d0 := by
  unfold V hostOps0
  rw [StableHlo.after_cons, StableHlo.after_cons, StableHlo.after_cons, StableHlo.after_cons, StableHlo.after_cons, StableHlo.after_cons, StableHlo.after_nil]
  rw [StableHlo.reshape_result_ne (h := by decide), StableHlo.nary_result]
  rfl

/-- Row 0 of the stacked lambda vectors. -/
theorem lam0 (c : Dev nD) (x : Fin 64) : ((V m c main_v4 : FVec Ideal S4x64 .f32) (ix2 0 x) : EReal) = (m ((c.tc : Thread nD τ).loc main_arg3) : FVec Ideal S64 .f32) (ix1 x) :=
  (congrFun (lamV m c) (ix2 0 x)).trans ((stack0 _ _ _ _ _ x).trans (row_of _ _ x))

/-- Row 1 of the stacked lambda vectors. -/
theorem lam1 (c : Dev nD) (x : Fin 64) : ((V m c main_v4 : FVec Ideal S4x64 .f32) (ix2 1 x) : EReal) = (m ((c.tc : Thread nD τ).loc main_arg4) : FVec Ideal S64 .f32) (ix1 x) :=
  (congrFun (lamV m c) (ix2 1 x)).trans ((stack1 _ _ _ _ _ x).trans (row_of _ _ x))

/-- Row 2 of the stacked lambda vectors. -/
theorem lam2 (c : Dev nD) (x : Fin 64) : ((V m c main_v4 : FVec Ideal S4x64 .f32) (ix2 2 x) : EReal) = (m ((c.tc : Thread nD τ).loc main_arg5) : FVec Ideal S64 .f32) (ix1 x) :=
  (congrFun (lamV m c) (ix2 2 x)).trans ((stack2 _ _ _ _ _ x).trans (row_of _ _ x))

/-- Row 3 of the stacked lambda vectors. -/
theorem lam3 (c : Dev nD) (x : Fin 64) : ((V m c main_v4 : FVec Ideal S4x64 .f32) (ix2 3 x) : EReal) = (m ((c.tc : Thread nD τ).loc main_arg6) : FVec Ideal S64 .f32) (ix1 x) :=
  (congrFun (lamV m c) (ix2 3 x)).trans ((stack3 _ _ _ _ _ x).trans (row_of _ _ x))

/-- The gain as a row. -/
theorem gain (c : Dev nD) (u : Fin 128) : ((V m c main_v5 : FVec Ideal S1x128 .f32) (ix2 0 u) : EReal) = (m ((c.tc : Thread nD τ).loc main_arg7) : FVec Ideal S128 .f32) (ix1 u) := by
  entry_read
  pointwise []

/-- The block of the lambda vectors is their array. -/
theorem iblk0 (c : Dev nD) (t : Fin cfg0.N) (i : Fin 4) (x : Fin 64) : ((iblk m c 0 t : FVec Ideal S4x64 .f32) (ix2 i x) : EReal) = (V m c main_v4 : FVec Ideal S4x64 .f32) (ix2 i x) := by
  blk_ext [iblk, idx t]

/-- The gain's block is its array. -/
theorem iblk1 (c : Dev nD) (t : Fin cfg0.N) (u : Fin 128) : ((iblk m c 1 t : FVec Ideal S1x128 .f32) (ix2 0 u) : EReal) = (V m c main_v5 : FVec Ideal S1x128 .f32) (ix2 0 u) := by
  blk_ext [iblk, idx t]

/-- The blocks at point `t` are the arguments' own rows and lanes. -/
theorem blocks (c : Dev nD) (t : Fin cfg0.N) :
    Cert.Meet.Blocks (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      (iblk m c 0 t) (iblk m c 1 t) (iblk m c 2 t) (iblk m c 3 t) (iblk m c 4 t)
      ⟨t.val % 64, by omega⟩ ⟨t.val / 64, by have := points t; omega⟩ where
  hq r u := by blk_ext [iblk, V, idx t]
  hk j u := by blk_ext [iblk, V, idx t]
  hv j u := by blk_ext [iblk, V, idx t]
  ha x := (iblk0 m c t 0 x).trans (lam0 m c x)
  hb x := (iblk0 m c t 1 x).trans (lam1 m c x)
  hc x := (iblk0 m c t 2 x).trans (lam2 m c x)
  hd x := (iblk0 m c t 3 x).trans (lam3 m c x)
  hg u := (iblk1 m c t u).trans (gain m c u)

open Cert.ReferenceIdeal.Attn in
/-- The result array after the run. -/
theorem final (c : Dev nD)
    (fq : Cert.Meet.Fin2 (m ((c.tc : Thread nD τ).loc main_arg0))) (fk : Cert.Meet.Fin2 (m ((c.tc : Thread nD τ).loc main_arg1))) (fv : Cert.Meet.Fin2 (m ((c.tc : Thread nD τ).loc main_arg2)))
    (fa : Cert.Meet.Fin1 (m ((c.tc : Thread nD τ).loc main_arg3))) (fb : Cert.Meet.Fin1 (m ((c.tc : Thread nD τ).loc main_arg4)))
    (fc : Cert.Meet.Fin1 (m ((c.tc : Thread nD τ).loc main_arg5))) (fd : Cert.Meet.Fin1 (m ((c.tc : Thread nD τ).loc main_arg6))) :
    (dats m 0 c).arrAt 5 cfg0.N = normed (F := Ideal) (mixed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) := by
  refine (dats m 0 c).arrAt_eq_of_covers 5 _ (by decide +kernel) fun t _ y => ?_
  blk_simp
  rw [after_5]
  unfold outAt
  idx_vars y
  refine (Cert.Meet.block_eq _ _ _ _ _ _ _ _ _ _ _ _ _ _ _ (blocks m c t) fq fk fv fa fb fc fd _ _).trans ?_
  refine congrArg (normed (F := Ideal) _ _) ?_
  blk_ext [idx t]

end Cert.KernelIdeal.Attn

end
-- ==== Proof.Kernel5Final.lean ====
/-
  The result array of the samples' attention launch: the reference's attention of the arguments.
-/
module

public import proofs.«01_k».proof.Proof.Kernel5IdealRun
public import proofs.«01_k».proof.Proof.Meet5
public import proofs.«01_k».proof.Proof.KernelFinal
public import Idealize.ShloMosaic.Lib.Pipeline.ValueKit
public import Idealize.ShloMosaic.Lib.Claim

@[expose] public section

set_option maxRecDepth 16384

noncomputable section

namespace Cert.Kernel5Ideal.Attn

open Cert.Kernel5Ideal Cert.Kernel5Ideal.Gen
open Cert.KernelIdeal.Attn (stack0 stack1 stack2 stack3 row_of)
open Idealize.ShloMosaic Idealize.ShloMosaic.TcCoe Idealize.SL.Sem
open Idealize.ShloMosaic.Pipeline (Dat)

variable (m : (ℓ : Loc nD τ sig) → Buf (Elt Ideal) ℓ)

/-- Every window's block at point `t`: sample `t / 64`, head `t / 8 % 8`, query block `t % 8` of the sample. -/
theorem idx : ∀ t : Fin cfg0.N, win0_0.index t = ![0, 0] ∧ win0_1.index t = ![0, 0] ∧ win0_2.index t = ![64 + (t.val / 64 * 8 + t.val % 8), t.val / 8 % 8]
    ∧ win0_3.index t = ![8 + t.val / 64, t.val / 8 % 8] ∧ win0_4.index t = ![8 + t.val / 64, t.val / 8 % 8] ∧ win0_5.index t = ![t.val / 64 * 8 + t.val % 8, t.val / 8 % 8] :=
  (by decide +kernel : ∀ t : Fin grid0.N, _)

/-- The grid has 512 points. -/
theorem points (t : Fin cfg0.N) : t.val < 512 := t.isLt.trans_eq (by decide +kernel : grid0.N = 512)

/-- The stacked lambda vectors. -/
theorem lamV (c : Dev nD) : (V m c main_v4 : FVec Ideal S4x64 .f32)
    = concatenate S4x64 0 [⟨S1x64, broadcastInDim S1x64 ![1] bcast_S64_S1x64_1 (m ((c.tc : Thread nD τ).loc main_arg3))⟩, ⟨S1x64, broadcastInDim S1x64 ![1] bcast_S64_S1x64_1 (m ((c.tc : Thread nD τ).loc main_arg4))⟩,
      ⟨S1x64, broadcastInDim S1x64 ![1] bcast_S64_S1x64_1 (m ((c.tc : Thread nD τ).loc main_arg5))⟩, ⟨S1x64, broadcastInDim S1x64 ![1] bcast_S64_S1x64_1 (m ((c.tc : Thread nD τ).loc main_arg6))⟩] concatenates_S1x64_S1x64_S1x64_S1x64_S4x64_d0 := by
  unfold V hostOps0
  rw [StableHlo.after_cons, StableHlo.after_cons, StableHlo.after_cons, StableHlo.after_cons, StableHlo.after_cons, StableHlo.after_cons, StableHlo.after_nil]
  rw [StableHlo.reshape_result_ne (h := by decide), StableHlo.nary_result]
  rfl

/-- Row 0 of the stacked lambda vectors. -/
theorem lam0 (c : Dev nD) (x : Fin 64) : ((V m c main_v4 : FVec Ideal S4x64 .f32) (ix2 0 x) : EReal) = (m ((c.tc : Thread nD τ).loc main_arg3) : FVec Ideal S64 .f32) (ix1 x) :=
  (congrFun (lamV m c) (ix2 0 x)).trans ((stack0 _ _ _ _ _ x).trans (row_of _ _ x))

/-- Row 1 of the stacked lambda vectors. -/
theorem lam1 (c : Dev nD) (x : Fin 64) : ((V m c main_v4 : FVec Ideal S4x64 .f32) (ix2 1 x) : EReal) = (m ((c.tc : Thread nD τ).loc main_arg4) : FVec Ideal S64 .f32) (ix1 x) :=
  (congrFun (lamV m c) (ix2 1 x)).trans ((stack1 _ _ _ _ _ x).trans (row_of _ _ x))

/-- Row 2 of the stacked lambda vectors. -/
theorem lam2 (c : Dev nD) (x : Fin 64) : ((V m c main_v4 : FVec Ideal S4x64 .f32) (ix2 2 x) : EReal) = (m ((c.tc : Thread nD τ).loc main_arg5) : FVec Ideal S64 .f32) (ix1 x) :=
  (congrFun (lamV m c) (ix2 2 x)).trans ((stack2 _ _ _ _ _ x).trans (row_of _ _ x))

/-- Row 3 of the stacked lambda vectors. -/
theorem lam3 (c : Dev nD) (x : Fin 64) : ((V m c main_v4 : FVec Ideal S4x64 .f32) (ix2 3 x) : EReal) = (m ((c.tc : Thread nD τ).loc main_arg6) : FVec Ideal S64 .f32) (ix1 x) :=
  (congrFun (lamV m c) (ix2 3 x)).trans ((stack3 _ _ _ _ _ x).trans (row_of _ _ x))

/-- The gain as a row. -/
theorem gain (c : Dev nD) (u : Fin 128) : ((V m c main_v5 : FVec Ideal S1x128 .f32) (ix2 0 u) : EReal) = (m ((c.tc : Thread nD τ).loc main_arg7) : FVec Ideal S128 .f32) (ix1 u) := by
  entry_read
  pointwise []

/-- The block of the lambda vectors is their array. -/
theorem iblk0 (c : Dev nD) (t : Fin cfg0.N) (i : Fin 4) (x : Fin 64) : ((iblk m c 0 t : FVec Ideal S4x64 .f32) (ix2 i x) : EReal) = (V m c main_v4 : FVec Ideal S4x64 .f32) (ix2 i x) := by
  blk_ext [iblk, idx t]

/-- The gain's block is its array. -/
theorem iblk1 (c : Dev nD) (t : Fin cfg0.N) (u : Fin 128) : ((iblk m c 1 t : FVec Ideal S1x128 .f32) (ix2 0 u) : EReal) = (V m c main_v5 : FVec Ideal S1x128 .f32) (ix2 0 u) := by
  blk_ext [iblk, idx t]

/-- The blocks at point `t` are the arguments' own rows and lanes. -/
theorem blocks (c : Dev nD) (t : Fin cfg0.N) :
    Cert.Meet5.Blocks (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      (iblk m c 0 t) (iblk m c 1 t) (iblk m c 2 t) (iblk m c 3 t) (iblk m c 4 t)
      ⟨t.val / 64, by have := points t; omega⟩ ⟨t.val % 8, by omega⟩ ⟨t.val / 8 % 8, by omega⟩ where
  hq r u := by blk_ext [iblk, V, idx t]
  hk j u := by blk_ext [iblk, V, idx t]
  hv j u := by blk_ext [iblk, V, idx t]
  ha x := (iblk0 m c t 0 x).trans (lam0 m c x)
  hb x := (iblk0 m c t 1 x).trans (lam1 m c x)
  hc x := (iblk0 m c t 2 x).trans (lam2 m c x)
  hd x := (iblk0 m c t 3 x).trans (lam3 m c x)
  hg u := (iblk1 m c t u).trans (gain m c u)

open Cert.Reference5Ideal.Attn in
/-- The result array after the run. -/
theorem final (c : Dev nD)
    (fq : Cert.Meet5.Fin2 (m ((c.tc : Thread nD τ).loc main_arg0))) (fk : Cert.Meet5.Fin2 (m ((c.tc : Thread nD τ).loc main_arg1))) (fv : Cert.Meet5.Fin2 (m ((c.tc : Thread nD τ).loc main_arg2)))
    (fa : Cert.Meet.Fin1 (m ((c.tc : Thread nD τ).loc main_arg3))) (fb : Cert.Meet.Fin1 (m ((c.tc : Thread nD τ).loc main_arg4)))
    (fc : Cert.Meet.Fin1 (m ((c.tc : Thread nD τ).loc main_arg5))) (fd : Cert.Meet.Fin1 (m ((c.tc : Thread nD τ).loc main_arg6))) :
    (dats m 0 c).arrAt 5 cfg0.N = normed (F := Ideal) (mixed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) := by
  refine (dats m 0 c).arrAt_eq_of_covers 5 _ (by decide +kernel) fun t _ y => ?_
  blk_simp
  rw [after_5]
  unfold outAt
  idx_vars y
  refine (Cert.Meet5.block_eq _ _ _ _ _ _ _ _ _ _ _ _ _ _ _ _ (blocks m c t) fq fk fv fa fb fc fd _ _).trans ?_
  refine congrArg (normed (F := Ideal) _ _) ?_
  blk_ext [idx t]

end Cert.Kernel5Ideal.Attn

end
-- ==== Proof.PreFin.lean ====
/-
  What the precondition says: the prompt's queries, keys and values and the lambda vectors are reals.
-/
module

public import proofs.«01_k».proof.Defs
public import proofs.«01_k».proof.Proof.Meet
public import Idealize.ShloMosaic.Lib.Pointwise

@[expose] public section

noncomputable section

namespace Cert.PreFin

open Idealize.ShloMosaic Idealize.ShloMosaic.TcCoe Idealize.SL.Sem
open Cert.Pre_finite_values

/-- The predicate's shape facts. -/
theorem facts : Cert.Pre_finite_values.Facts where
  slices_S32768x1024_S16384x1024_0_0 := by decide
  bitsLt_bf16_f32 := by decide
  bcast_S_S16384x1024 := by decide
  bcast_S_S64 := by decide

/-- A number whose magnitude is below infinity is a real. -/
theorem real_of_abs (x : EReal) (h : BitVec.ofBool (decide (FloatOps.absf (F := Ideal) (φ := .f32) x < Ideal.ofBits .f32 0x7F800000#32)) = 1#1) : ∃ r : ℝ, x = r := by
  rw [Online.ofBits_inf] at h
  have h' : FloatOps.absf (F := Ideal) (φ := .f32) x < (⊤ : EReal) := by
    by_contra hn
    rw [decide_eq_false hn] at h
    exact absurd h (by decide)
  change max x (-x) < ⊤ at h'
  induction x with
  | bot => exact absurd h' (by simp)
  | coe r => exact ⟨r, rfl⟩
  | top => exact absurd h' (by simp)

/-- The comparison of a slice of rows with infinity, at an entry. -/
theorem rows_fin (X : FVec Ideal S32768x1024 .bf16) (hs : S32768x1024.Slices ![0, 0] S16384x1024) (hw : FTy.bits .bf16 < FTy.bits .f32)
    (hb : S_.BroadcastsInDim S16384x1024 (![] : Fin 0 → Fin 2))
    (h : cmpf .olt (Host.absf (extf .f32 (extractStridedSlice S16384x1024 ![0, 0] X hs) hw)) (broadcastInDim S16384x1024 ![] hb (constant (F := Ideal) S_ .f32 0x7F800000#32)) = fun _ => 1#1) :
    Cert.Meet.Fin2 X := by
  intro r y
  have e := congrFun h (ix2 r y)
  revert e
  pointwise []
  exact real_of_abs _

/-- The comparison of a vector with infinity, at an entry. -/
theorem vec_fin (X : FVec Ideal S64 .f32) (hb : S_.BroadcastsInDim S64 (![] : Fin 0 → Fin 1))
    (h : cmpf .olt (Host.absf X) (broadcastInDim S64 ![] hb (constant (F := Ideal) S_ .f32 0x7F800000#32)) = fun _ => 1#1) :
    Cert.Meet.Fin1 X := by
  intro y
  have e := congrFun h (ix1 y)
  revert e
  pointwise []
  exact real_of_abs _

end Cert.PreFin

end
-- ==== Proof.PreFin5.lean ====
/-
  What the samples' precondition says: the samples' queries, keys and values and the lambda vectors are reals.
-/
module

public import proofs.«01_k».proof.Proof.PreFin
public import proofs.«01_k».proof.Proof.Meet5
public import Idealize.ShloMosaic.Lib.Pointwise

@[expose] public section

noncomputable section

namespace Cert.PreFin5

open Idealize.ShloMosaic Idealize.ShloMosaic.TcCoe Idealize.SL.Sem
open Cert.Pre_finite_samples

/-- The predicate's shape facts. -/
theorem facts : Cert.Pre_finite_samples.Facts where
  slices_S32768x1024_S16384x1024_16384_0 := by decide
  bitsLt_bf16_f32 := by decide
  bcast_S_S16384x1024 := by decide
  bcast_S_S64 := by decide

/-- The comparison of the samples' rows with infinity, at an entry. -/
theorem rows_fin (X : FVec Ideal S32768x1024 .bf16) (hs : S32768x1024.Slices ![16384, 0] S16384x1024) (hw : FTy.bits .bf16 < FTy.bits .f32)
    (hb : S_.BroadcastsInDim S16384x1024 (![] : Fin 0 → Fin 2))
    (h : cmpf .olt (Host.absf (extf .f32 (extractStridedSlice S16384x1024 ![16384, 0] X hs) hw)) (broadcastInDim S16384x1024 ![] hb (constant (F := Ideal) S_ .f32 0x7F800000#32)) = fun _ => 1#1) :
    Cert.Meet5.Fin2 X := by
  intro r y
  have e := congrFun h (ix2 r y)
  revert e
  pointwise []
  exact Cert.PreFin.real_of_abs _

end Cert.PreFin5

end
-- ==== Proof.Kernel2IdealSetup.lean ====
/-
  The experts' call as launched: the arrays at its entry, its block tables, its windows.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` at the call's entry: after the re-layout of the weights. -/
abbrev V (c : Dev nD) (b : Ref sig .tc) : Buf (Elt F) ((c : Thread nD τ).loc b) := StableHlo.after hostOps0 (fun b => m (c, b)) b

/-- The host lines before the call allocate nothing. -/
theorem hostOps0_fresh : (hostOps0 : List (HloOp τ sig (Elt F))).Forall fun op => op.fresh = ∅ := by
  simp only [List.Forall]; repeat' constructor

set_option maxHeartbeats 800000 in
/-- The program up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Argument 0 is as launched at the call's entry. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Argument 1 is as launched at the call's entry. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Argument 2 is as launched at the call's entry. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Argument 3 is as launched at the call's entry. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Argument 4 is as launched at the call's entry. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Argument 5 is as launched at the call's entry. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Argument 6 is as launched at the call's entry. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Argument 7 is as launched at the call's entry. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The three block tables at the call's entry. -/
def tbl : pre0.Contents (Elt F) := fun j => V m (0 : Dev nD) (pre0.ref j)
/-- The prefetched tables are the arguments. -/
theorem V_pre (c : Dev nD) (j : Fin 3) : V m c (pre0.ref j) = tbl m j := by
  obtain rfl : c = 0 := Subsingleton.elim _ _; rfl
/-- Every block the tables name lies inside its array. -/
abbrev Ok : Prop := ok0 (F := F) (tbl m)
/-- The tables, as the contents that the launch is built from. -/
abbrev adm (hO : Ok m) : (pcfg0 (F := F)).Adm := ⟨tbl m, hO⟩
/-- The pipeline that these tables give. -/
abbrev cfgM (hO : Ok m) : Pipeline.Cfg sig Λ₀ := cfg0 (adm m hO)

/-- The table of experts, as a reference. -/
abbrev tb0 : Memref sig .tc .smem S288 .i32 := Memref.whole main_arg0
/-- The table of source blocks, as a reference. -/
abbrev tb1 : Memref sig .tc .smem S288 .i32 := Memref.whole main_arg1
/-- The table of marks, as a reference. -/
abbrev tb2 : Memref sig .tc .smem S288 .i32 := Memref.whole main_arg2
/-- The contents of a table's reference. -/
abbrev TbBuf (c : Dev nD) {S : Shape} {e : EltTy} (M : Memref sig .tc .smem S e) : Type := Buf (Elt F) (M.view.loc (c : Thread nD τ))
/-- Half of a table, as the body holds it. -/
abbrev tbPt (c : Dev nD) {S : Shape} {e : EltTy} (M : Memref sig .tc .smem S e) (f : TbBuf (F := F) c M) : sProp 𝕄 :=
  M.view.loc (c : Thread nD τ) ↦{fullShare.right} f

/-- The tables' halves, table by table. -/
theorem PhiT_eq (c : Dev nD) : (Pipeline.ΦT pre0 (tbl m) c : sProp 𝕄) = iprop(tbPt c tb0 (tbl m 0) ∗ tbPt c tb1 (tbl m 1) ∗ tbPt c tb2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, off its array at the call's entry. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input 0's buffer holds its block at every point. -/
theorem before_in0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1's buffer holds its block at every point. -/
theorem before_in1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2's buffer holds its block at every point. -/
theorem before_in2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3's buffer holds its block at every point. -/
theorem before_in3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4's buffer holds its block at every point. -/
theorem before_in4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input 5's buffer holds its block at every point. -/
theorem before_in5 (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input 6's buffer holds its block at every point. -/
theorem before_in6 (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Every argument array ends as launched, for proof data over the entry contents. -/
theorem unchanged_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-- The buffer of the rows at a point. -/
abbrev ms0 (hO : Ok m) (t : Fin (cfgM m hO).N) : Memref sig .tc .vmem S512x2048 .bf16 := spec0_0.stage ((cfgM m hO).slots t 0)
/-- It is a whole buffer. -/
abbrev hs0 (hO : Ok m) (t : Fin (cfgM m hO).N) : (ms0 m hO t).IsWhole := hstage0_0 (((cfgM m hO).slots t 0).cast nbuf0_0)
/-- The buffer of the gate weights at a point. -/
abbrev ms1 (hO : Ok m) (t : Fin (cfgM m hO).N) : Memref sig .tc .vmem S1x2048x512 .bf16 := spec0_1.stage ((cfgM m hO).slots t 1)
/-- It is a whole buffer. -/
abbrev hs1 (hO : Ok m) (t : Fin (cfgM m hO).N) : (ms1 m hO t).IsWhole := hstage0_1 (((cfgM m hO).slots t 1).cast nbuf0_1)
/-- The buffer of the linear weights at a point. -/
abbrev ms2 (hO : Ok m) (t : Fin (cfgM m hO).N) : Memref sig .tc .vmem S1x2048x512 .bf16 := spec0_2.stage ((cfgM m hO).slots t 2)
/-- It is a whole buffer. -/
abbrev hs2 (hO : Ok m) (t : Fin (cfgM m hO).N) : (ms2 m hO t).IsWhole := hstage0_2 (((cfgM m hO).slots t 2).cast nbuf0_2)
/-- The buffer of the gate bias at a point. -/
abbrev ms3 (hO : Ok m) (t : Fin (cfgM m hO).N) : Memref sig .tc .vmem S1x1x512 .f32 := spec0_3.stage ((cfgM m hO).slots t 3)
/-- It is a whole buffer. -/
abbrev hs3 (hO : Ok m) (t : Fin (cfgM m hO).N) : (ms3 m hO t).IsWhole := hstage0_3 (((cfgM m hO).slots t 3).cast nbuf0_3)
/-- The buffer of the linear bias at a point. -/
abbrev ms4 (hO : Ok m) (t : Fin (cfgM m hO).N) : Memref sig .tc .vmem S1x1x512 .f32 := spec0_4.stage ((cfgM m hO).slots t 4)
/-- It is a whole buffer. -/
abbrev hs4 (hO : Ok m) (t : Fin (cfgM m hO).N) : (ms4 m hO t).IsWhole := hstage0_4 (((cfgM m hO).slots t 4).cast nbuf0_4)
/-- The buffer of the second weights at a point. -/
abbrev ms5 (hO : Ok m) (t : Fin (cfgM m hO).N) : Memref sig .tc .vmem S1x512x2048 .bf16 := spec0_5.stage ((cfgM m hO).slots t 5)
/-- It is a whole buffer. -/
abbrev hs5 (hO : Ok m) (t : Fin (cfgM m hO).N) : (ms5 m hO t).IsWhole := hstage0_5 (((cfgM m hO).slots t 5).cast nbuf0_5)
/-- The buffer of the second bias at a point. -/
abbrev ms6 (hO : Ok m) (t : Fin (cfgM m hO).N) : Memref sig .tc .vmem S1x1x2048 .f32 := spec0_6.stage ((cfgM m hO).slots t 6)
/-- It is a whole buffer. -/
abbrev hs6 (hO : Ok m) (t : Fin (cfgM m hO).N) : (ms6 m hO t).IsWhole := hstage0_6 (((cfgM m hO).slots t 6).cast nbuf0_6)
/-- The result's buffer at a point. -/
abbrev ms7 (hO : Ok m) (t : Fin (cfgM m hO).N) : Memref sig .tc .vmem S512x2048 .f32 := spec0_7.stage ((cfgM m hO).slots t 7)
/-- It is a whole buffer. -/
abbrev hs7 (hO : Ok m) (t : Fin (cfgM m hO).N) : (ms7 m hO t).IsWhole := hstage0_7 (((cfgM m hO).slots t 7).cast nbuf0_7)

/-- The result's block is written back at the last of the four points of a row block. -/
theorem flush7 (a : (pcfg0 (F := F)).Adm) : ∀ t : Fin (cfg0 a).N, ((cfg0 a).win 7).flush t = true ↔ t.val % 4 = 3 :=
  (fun t => Pipeline.Window.flushOf_reads cc0_transform_7 reads0_7 hreads0_7 0 (by decide) (by decide) (Pipeline.Window.sep_of_coord cc0_transform_7 0 0 (fun _ => rfl) (by decide)) (P := 4) (m := 3) (by decide) rfl t : ∀ t : Fin grid0.N, Pipeline.Window.flushOf grid0 true cc0_transform_7 t = true ↔ t.val % 4 = 3)

/-- The kernel's body at point `t`, on the buffers it is called with. -/
abbrev bodyAt (hO : Ok m) (t : Fin (cfgM m hO).N) : Prog (TpuEff nD τ sig (Elt F) Λ₀ .tc) PUnit :=
  cc0_moe_ffn (grid0.coords t) tb0 (Memref.isWhole_whole _) tb1 (Memref.isWhole_whole _) tb2 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t)

end Cert.Kernel2Ideal.Ffn

end
-- ==== Proof.Kernel2IdealBody.lean ====
/-
  The experts' kernel body as a function of what its buffers hold.
-/
module

public import proofs.«01_k».proof.Proof.Kernel2IdealSetup

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (UR sig nD τ) ℕ

/-- The word of the third table at the point. -/
def word (xt : S288.Idx → BitVec 32) (i : grid0.Coords) : BitVec 32 := xt (fun a => ⟨k0_off1 i a, by
    have h := k0_off1_inb i a
    obtain rfl : a = 0 := Subsingleton.elim _ _
    exact h⟩)

/-- The point's share of the block's result. -/
def part (x0 : Vec F S512x2048 .bf16) (x1 : Vec F S1x2048x512 .bf16) (x2 : Vec F S1x2048x512 .bf16) (x3 : Vec F S1x1x512 .f32) (x4 : Vec F S1x1x512 .f32) (x5 : Vec F S1x512x2048 .bf16) (x6 : Vec F S1x1x2048 .f32) : Vec F S512x2048 .f32 := k0_pay4 x0 x1 x3 x2 x4 x5

/-- The result's block after the body, from what it held: written with the bias at the first point of a block in use, added to at the others, zeroed at the first point of a block not in use. -/
def step (i : grid0.Coords) (u : BitVec 32) (p : Vec F S512x2048 .f32) (x6 : Vec F S1x1x2048 .f32) (Y : Vec F S512x2048 .f32) : Vec F S512x2048 .f32 :=
  if k0_cond4 i u = 1#1 then k0_pay3 (F := F)
  else if k0_cond1 u = 1#1 then (if k0_cond2 i = 1#1 then k0_pay1 p x6 else if k0_cond3 i = 1#1 then k0_pay2 p Y else Y)
  else Y

/-- Equal blocks give equal shares. -/
theorem pay4_congr {a a' : Vec F S512x2048 .bf16} {b b' : Vec F S1x2048x512 .bf16} {c c' : Vec F S1x1x512 .f32} {d d' : Vec F S1x2048x512 .bf16} {e e' : Vec F S1x1x512 .f32} {f f' : Vec F S1x512x2048 .bf16}
    (ha : a = a') (hb : b = b') (hc : c = c') (hd : d = d') (he : e = e') (hf : f = f') : k0_pay4 a b c d e f = k0_pay4 a' b' c' d' e' f' := by
  subst ha hb hc hd he hf; rfl

set_option maxHeartbeats 1000000 in
/-- The first point of a block in use: its share and the bias are written. -/
theorem body_first (c : Dev nD) (i : grid0.Coords) (arg5 : Memref sig .tc .vmem S512x2048 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x1x2048 .f32) (harg11 : arg11.IsWhole) (arg12 : Memref sig .tc .vmem S512x2048 .f32) (harg12 : arg12.IsWhole)
    (x0 : Vec F S512x2048 .bf16) (x1 : Vec F S1x2048x512 .bf16) (x2 : Vec F S1x2048x512 .bf16) (x3 : Vec F S1x1x512 .f32) (x4 : Vec F S1x1x512 .f32) (x5 : Vec F S1x512x2048 .bf16) (x6 : Vec F S1x1x2048 .f32) (Y : Vec F S512x2048 .f32) (xt0 : TbBuf (F := F) c tb0) (xt1 : TbBuf (F := F) c tb1) (xt2 : TbBuf (F := F) c tb2)
    (h1 : k0_cond1 (word xt2 i) = 1#1) (h2 : k0_cond2 i = 1#1) (h3 : ¬ k0_cond3 i = 1#1) (h4 : ¬ k0_cond4 i (word xt2 i) = 1#1) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare Y ∗ tbPt c tb0 xt0 ∗ tbPt c tb1 xt1 ∗ tbPt c tb2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare (k0_pay1 (part x0 x1 x2 x3 x4 x5 x6) x6) ∗ tbPt c tb0 xt0 ∗ tbPt c tb1 xt1 ∗ tbPt c tb2 xt2) -∗ K ⟨⟩))
      ⊢ wp frame (wpE (defs₀ (F := F)) Variants.none c none) E (cc0_moe_ffn i tb0 (Memref.isWhole_whole _) tb1 (Memref.isWhole_whole _) tb2 (Memref.isWhole_whole _) arg5 harg5 arg6 harg6 arg7 harg7 arg8 harg8 arg9 harg9 arg10 harg10 arg11 harg11 arg12 harg12) K := by
  simp only [cc0_moe_ffn_eq_skeleton]; unfold cc0_moe_ffn_skel
  simp only [k0_part1_eq_skeleton]
  simp only [owns_eq_rep (c : Thread nD τ) arg5 fullShare x0, owns_eq_rep (c : Thread nD τ) arg6 fullShare x1, owns_eq_rep (c : Thread nD τ) arg7 fullShare x2, owns_eq_rep (c : Thread nD τ) arg8 fullShare x3, owns_eq_rep (c : Thread nD τ) arg9 fullShare x4, owns_eq_rep (c : Thread nD τ) arg10 fullShare x5, owns_eq_rep (c : Thread nD τ) arg11 fullShare x6, owns_eq_rep (c : Thread nD τ) arg12 fullShare Y]
  iintro ⟨H0, H1, H2, H3, H4, H5, H6, H7, HT0, HT1, HT2, Hk⟩
  sl_exec
  sl_step
  have e0 : arg5.view.readAt (Elt F) (Rect.unit (s := S512x2048) ![0, 0] ![512, 2048] inb_S512x2048_S512x2048_0_0).toLoadRect (arg5.view.rep x0) = x0 := View.readAt_rep_full _ _ _
  have e1 : arg6.view.readAt (Elt F) (Rect.unit (s := S1x2048x512) ![0, 0, 0] ![1, 2048, 512] inb_S1x2048x512_S1x2048x512_0_0_0).toLoadRect (arg6.view.rep x1) = x1 := View.readAt_rep_full _ _ _
  have e2 : arg7.view.readAt (Elt F) (Rect.unit (s := S1x2048x512) ![0, 0, 0] ![1, 2048, 512] inb_S1x2048x512_S1x2048x512_0_0_0).toLoadRect (arg7.view.rep x2) = x2 := View.readAt_rep_full _ _ _
  have e3 : arg8.view.readAt (Elt F) (Rect.unit (s := S1x1x512) ![0, 0, 0] ![1, 1, 512] inb_S1x1x512_S1x1x512_0_0_0).toLoadRect (arg8.view.rep x3) = x3 := View.readAt_rep_full _ _ _
  have e4 : arg9.view.readAt (Elt F) (Rect.unit (s := S1x1x512) ![0, 0, 0] ![1, 1, 512] inb_S1x1x512_S1x1x512_0_0_0).toLoadRect (arg9.view.rep x4) = x4 := View.readAt_rep_full _ _ _
  have e5 : arg10.view.readAt (Elt F) (Rect.unit (s := S1x512x2048) ![0, 0, 0] ![1, 512, 2048] inb_S1x512x2048_S1x512x2048_0_0_0).toLoadRect (arg10.view.rep x5) = x5 := View.readAt_rep_full _ _ _
  have e6 : arg11.view.readAt (Elt F) (Rect.unit (s := S1x1x2048) ![0, 0, 0] ![1, 1, 2048] inb_S1x1x2048_S1x1x2048_0_0_0).toLoadRect (arg11.view.rep x6) = x6 := View.readAt_rep_full _ _ _
  have e7 : arg12.view.readAt (Elt F) (Rect.unit (s := S512x2048) ![0, 0] ![512, 2048] inb_S512x2048_S512x2048_0_0).toLoadRect (arg12.view.rep Y) = Y := View.readAt_rep_full _ _ _
  have r1 : body_first.sl.r_1 arg5 arg6 arg7 arg8 arg9 arg10 x0 x1 x2 x3 x4 x5 = part x0 x1 x2 x3 x4 x5 x6 := by
    exact pay4_congr e0 e1 e3 e2 e4 e5
  have r2 : body_first.sl.v50 arg11 x6 = x6 := e6
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro
    refine (View.read_writes_full _ _ _ _ _).trans ?_
    rw [r1, r2]
  isplitl [HT0]; · iexact HT0
  isplitl [HT1]; · iexact HT1
  iexact HT2

set_option maxHeartbeats 1000000 in
/-- A later point of a block in use: its share is added. -/
theorem body_later (c : Dev nD) (i : grid0.Coords) (arg5 : Memref sig .tc .vmem S512x2048 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x1x2048 .f32) (harg11 : arg11.IsWhole) (arg12 : Memref sig .tc .vmem S512x2048 .f32) (harg12 : arg12.IsWhole)
    (x0 : Vec F S512x2048 .bf16) (x1 : Vec F S1x2048x512 .bf16) (x2 : Vec F S1x2048x512 .bf16) (x3 : Vec F S1x1x512 .f32) (x4 : Vec F S1x1x512 .f32) (x5 : Vec F S1x512x2048 .bf16) (x6 : Vec F S1x1x2048 .f32) (Y : Vec F S512x2048 .f32) (xt0 : TbBuf (F := F) c tb0) (xt1 : TbBuf (F := F) c tb1) (xt2 : TbBuf (F := F) c tb2)
    (h1 : k0_cond1 (word xt2 i) = 1#1) (h2 : ¬ k0_cond2 i = 1#1) (h3 : k0_cond3 i = 1#1) (h4 : ¬ k0_cond4 i (word xt2 i) = 1#1) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare Y ∗ tbPt c tb0 xt0 ∗ tbPt c tb1 xt1 ∗ tbPt c tb2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare (k0_pay2 (part x0 x1 x2 x3 x4 x5 x6) Y) ∗ tbPt c tb0 xt0 ∗ tbPt c tb1 xt1 ∗ tbPt c tb2 xt2) -∗ K ⟨⟩))
      ⊢ wp frame (wpE (defs₀ (F := F)) Variants.none c none) E (cc0_moe_ffn i tb0 (Memref.isWhole_whole _) tb1 (Memref.isWhole_whole _) tb2 (Memref.isWhole_whole _) arg5 harg5 arg6 harg6 arg7 harg7 arg8 harg8 arg9 harg9 arg10 harg10 arg11 harg11 arg12 harg12) K := by
  simp only [cc0_moe_ffn_eq_skeleton]; unfold cc0_moe_ffn_skel
  simp only [k0_part1_eq_skeleton]
  simp only [owns_eq_rep (c : Thread nD τ) arg5 fullShare x0, owns_eq_rep (c : Thread nD τ) arg6 fullShare x1, owns_eq_rep (c : Thread nD τ) arg7 fullShare x2, owns_eq_rep (c : Thread nD τ) arg8 fullShare x3, owns_eq_rep (c : Thread nD τ) arg9 fullShare x4, owns_eq_rep (c : Thread nD τ) arg10 fullShare x5, owns_eq_rep (c : Thread nD τ) arg11 fullShare x6, owns_eq_rep (c : Thread nD τ) arg12 fullShare Y]
  iintro ⟨H0, H1, H2, H3, H4, H5, H6, H7, HT0, HT1, HT2, Hk⟩
  sl_exec
  sl_step
  have e0 : arg5.view.readAt (Elt F) (Rect.unit (s := S512x2048) ![0, 0] ![512, 2048] inb_S512x2048_S512x2048_0_0).toLoadRect (arg5.view.rep x0) = x0 := View.readAt_rep_full _ _ _
  have e1 : arg6.view.readAt (Elt F) (Rect.unit (s := S1x2048x512) ![0, 0, 0] ![1, 2048, 512] inb_S1x2048x512_S1x2048x512_0_0_0).toLoadRect (arg6.view.rep x1) = x1 := View.readAt_rep_full _ _ _
  have e2 : arg7.view.readAt (Elt F) (Rect.unit (s := S1x2048x512) ![0, 0, 0] ![1, 2048, 512] inb_S1x2048x512_S1x2048x512_0_0_0).toLoadRect (arg7.view.rep x2) = x2 := View.readAt_rep_full _ _ _
  have e3 : arg8.view.readAt (Elt F) (Rect.unit (s := S1x1x512) ![0, 0, 0] ![1, 1, 512] inb_S1x1x512_S1x1x512_0_0_0).toLoadRect (arg8.view.rep x3) = x3 := View.readAt_rep_full _ _ _
  have e4 : arg9.view.readAt (Elt F) (Rect.unit (s := S1x1x512) ![0, 0, 0] ![1, 1, 512] inb_S1x1x512_S1x1x512_0_0_0).toLoadRect (arg9.view.rep x4) = x4 := View.readAt_rep_full _ _ _
  have e5 : arg10.view.readAt (Elt F) (Rect.unit (s := S1x512x2048) ![0, 0, 0] ![1, 512, 2048] inb_S1x512x2048_S1x512x2048_0_0_0).toLoadRect (arg10.view.rep x5) = x5 := View.readAt_rep_full _ _ _
  have e6 : arg11.view.readAt (Elt F) (Rect.unit (s := S1x1x2048) ![0, 0, 0] ![1, 1, 2048] inb_S1x1x2048_S1x1x2048_0_0_0).toLoadRect (arg11.view.rep x6) = x6 := View.readAt_rep_full _ _ _
  have e7 : arg12.view.readAt (Elt F) (Rect.unit (s := S512x2048) ![0, 0] ![512, 2048] inb_S512x2048_S512x2048_0_0).toLoadRect (arg12.view.rep Y) = Y := View.readAt_rep_full _ _ _
  have r1 : body_later.sl.r_1 arg5 arg6 arg7 arg8 arg9 arg10 x0 x1 x2 x3 x4 x5 = part x0 x1 x2 x3 x4 x5 x6 := by
    exact pay4_congr e0 e1 e3 e2 e4 e5
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro
    refine (View.read_writes_full _ _ _ _ _).trans ?_
    rw [r1]; exact congrArg _ e7
  isplitl [HT0]; · iexact HT0
  isplitl [HT1]; · iexact HT1
  iexact HT2

set_option maxHeartbeats 1000000 in
/-- The first point of a block not in use: zeros are written. -/
theorem body_zero (c : Dev nD) (i : grid0.Coords) (arg5 : Memref sig .tc .vmem S512x2048 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x1x2048 .f32) (harg11 : arg11.IsWhole) (arg12 : Memref sig .tc .vmem S512x2048 .f32) (harg12 : arg12.IsWhole)
    (x0 : Vec F S512x2048 .bf16) (x1 : Vec F S1x2048x512 .bf16) (x2 : Vec F S1x2048x512 .bf16) (x3 : Vec F S1x1x512 .f32) (x4 : Vec F S1x1x512 .f32) (x5 : Vec F S1x512x2048 .bf16) (x6 : Vec F S1x1x2048 .f32) (Y : Vec F S512x2048 .f32) (xt0 : TbBuf (F := F) c tb0) (xt1 : TbBuf (F := F) c tb1) (xt2 : TbBuf (F := F) c tb2)
    (h1 : ¬ k0_cond1 (word xt2 i) = 1#1) (h4 : k0_cond4 i (word xt2 i) = 1#1) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare Y ∗ tbPt c tb0 xt0 ∗ tbPt c tb1 xt1 ∗ tbPt c tb2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare (k0_pay3 (F := F)) ∗ tbPt c tb0 xt0 ∗ tbPt c tb1 xt1 ∗ tbPt c tb2 xt2) -∗ K ⟨⟩))
      ⊢ wp frame (wpE (defs₀ (F := F)) Variants.none c none) E (cc0_moe_ffn i tb0 (Memref.isWhole_whole _) tb1 (Memref.isWhole_whole _) tb2 (Memref.isWhole_whole _) arg5 harg5 arg6 harg6 arg7 harg7 arg8 harg8 arg9 harg9 arg10 harg10 arg11 harg11 arg12 harg12) K := by
  simp only [cc0_moe_ffn_eq_skeleton]; unfold cc0_moe_ffn_skel
  simp only [k0_part1_eq_skeleton]
  simp only [owns_eq_rep (c : Thread nD τ) arg5 fullShare x0, owns_eq_rep (c : Thread nD τ) arg6 fullShare x1, owns_eq_rep (c : Thread nD τ) arg7 fullShare x2, owns_eq_rep (c : Thread nD τ) arg8 fullShare x3, owns_eq_rep (c : Thread nD τ) arg9 fullShare x4, owns_eq_rep (c : Thread nD τ) arg10 fullShare x5, owns_eq_rep (c : Thread nD τ) arg11 fullShare x6, owns_eq_rep (c : Thread nD τ) arg12 fullShare Y]
  iintro ⟨H0, H1, H2, H3, H4, H5, H6, H7, HT0, HT1, HT2, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro
    refine (View.read_writes_full _ _ _ _ _).trans ?_
    rfl
  isplitl [HT0]; · iexact HT0
  isplitl [HT1]; · iexact HT1
  iexact HT2

set_option maxHeartbeats 1000000 in
/-- A later point of a block not in use: nothing is written. -/
theorem body_idle (c : Dev nD) (i : grid0.Coords) (arg5 : Memref sig .tc .vmem S512x2048 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x1x2048 .f32) (harg11 : arg11.IsWhole) (arg12 : Memref sig .tc .vmem S512x2048 .f32) (harg12 : arg12.IsWhole)
    (x0 : Vec F S512x2048 .bf16) (x1 : Vec F S1x2048x512 .bf16) (x2 : Vec F S1x2048x512 .bf16) (x3 : Vec F S1x1x512 .f32) (x4 : Vec F S1x1x512 .f32) (x5 : Vec F S1x512x2048 .bf16) (x6 : Vec F S1x1x2048 .f32) (Y : Vec F S512x2048 .f32) (xt0 : TbBuf (F := F) c tb0) (xt1 : TbBuf (F := F) c tb1) (xt2 : TbBuf (F := F) c tb2)
    (h1 : ¬ k0_cond1 (word xt2 i) = 1#1) (h4 : ¬ k0_cond4 i (word xt2 i) = 1#1) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare Y ∗ tbPt c tb0 xt0 ∗ tbPt c tb1 xt1 ∗ tbPt c tb2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare (Y) ∗ tbPt c tb0 xt0 ∗ tbPt c tb1 xt1 ∗ tbPt c tb2 xt2) -∗ K ⟨⟩))
      ⊢ wp frame (wpE (defs₀ (F := F)) Variants.none c none) E (cc0_moe_ffn i tb0 (Memref.isWhole_whole _) tb1 (Memref.isWhole_whole _) tb2 (Memref.isWhole_whole _) arg5 harg5 arg6 harg6 arg7 harg7 arg8 harg8 arg9 harg9 arg10 harg10 arg11 harg11 arg12 harg12) K := by
  simp only [cc0_moe_ffn_eq_skeleton]; unfold cc0_moe_ffn_skel
  simp only [k0_part1_eq_skeleton]
  simp only [owns_eq_rep (c : Thread nD τ) arg5 fullShare x0, owns_eq_rep (c : Thread nD τ) arg6 fullShare x1, owns_eq_rep (c : Thread nD τ) arg7 fullShare x2, owns_eq_rep (c : Thread nD τ) arg8 fullShare x3, owns_eq_rep (c : Thread nD τ) arg9 fullShare x4, owns_eq_rep (c : Thread nD τ) arg10 fullShare x5, owns_eq_rep (c : Thread nD τ) arg11 fullShare x6, owns_eq_rep (c : Thread nD τ) arg12 fullShare Y]
  iintro ⟨H0, H1, H2, H3, H4, H5, H6, H7, HT0, HT1, HT2, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT0]; · iexact HT0
  isplitl [HT1]; · iexact HT1
  iexact HT2

end Cert.Kernel2Ideal.Ffn

end
-- ==== Proof.Kernel2IdealRun.lean ====
/-
  The experts' call run: what the buffers hold point by point.
-/
module

public import proofs.«01_k».proof.Proof.Kernel2IdealBody

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Coordinates of a point: the row block and the quarter of the hidden axis. -/
theorem coord0 (t : Fin grid0.N) : (grid0.coords t 0).val = t.val / 4 % 288 := Pipeline.Grid.coords_val t 0 (by decide) rfl
/-- The second coordinate is the quarter of the hidden axis. -/
theorem coord1 (t : Fin grid0.N) : (grid0.coords t 1).val = t.val % 4 := by
  have h := Pipeline.Grid.coords_val t 1 (S := 1) (B := 4) (by decide) rfl
  rwa [Nat.div_one] at h

/-- The conditions as facts of the coordinate and the word. -/
theorem cond2_iff (i : grid0.Coords) : k0_cond2 i = 1#1 ↔ (i 1).val = 0 := by
  have h : (i 1).val < 4 := (i 1).isLt
  unfold k0_cond2
  generalize (i 1).val = n at h ⊢
  rcases (by omega : n = 0 ∨ n = 1 ∨ n = 2 ∨ n = 3) with rfl | rfl | rfl | rfl <;> decide
/-- The third condition holds off the first quarter. -/
theorem cond3_iff (i : grid0.Coords) : k0_cond3 i = 1#1 ↔ (i 1).val ≠ 0 := by
  have h : (i 1).val < 4 := (i 1).isLt
  unfold k0_cond3
  generalize (i 1).val = n at h ⊢
  rcases (by omega : n = 0 ∨ n = 1 ∨ n = 2 ∨ n = 3) with rfl | rfl | rfl | rfl <;> decide
/-- The first condition holds where the mark is positive. -/
theorem cond1_iff (u : BitVec 32) : k0_cond1 u = 1#1 ↔ 0 < u.toInt := by
  have e : k0_cond1 u = Scalar.cmpi .ne (Scalar.extui (Scalar.cmpi .sgt u 0#32) : BitVec 32) 0#32 := rfl
  rw [e]
  by_cases h : 0 < u.toInt
  · have e1 : Scalar.cmpi .sgt u 0#32 = 1#1 := by
      exact (cmpi_sgt_eq u 0#32).trans (by rw [BitVec.toInt_zero, decide_eq_true h]; rfl)
    rw [e1]; exact iff_of_true (by decide) h
  · have e1 : Scalar.cmpi .sgt u 0#32 = 0#1 := by
      exact (cmpi_sgt_eq u 0#32).trans (by rw [BitVec.toInt_zero, decide_eq_false h]; rfl)
    rw [e1]; exact iff_of_false (by decide) h
/-- The fourth condition holds in the first quarter of a block whose mark is zero. -/
theorem cond4_iff (i : grid0.Coords) (u : BitVec 32) : k0_cond4 i u = 1#1 ↔ u = 0#32 ∧ (i 1).val = 0 := by
  have h : (i 1).val < 4 := (i 1).isLt
  have e : k0_cond4 i u = Scalar.cmpi .ne (Scalar.extui (Scalar.andi (Scalar.cmpi .eq u 0#32) (Scalar.cmpi .eq (BitVec.ofNat 32 (i 1).val) 0#32)) : BitVec 32) 0#32 := rfl
  rw [e]
  generalize (i 1).val = n at h ⊢
  by_cases hu : u = 0#32
  · subst hu; rcases (by omega : n = 0 ∨ n = 1 ∨ n = 2 ∨ n = 3) with rfl | rfl | rfl | rfl <;> decide
  · have e1 : Scalar.cmpi .eq u 0#32 = 0#1 := by
      exact (cmpi_eq_eq u 0#32).trans (by rw [decide_eq_false hu]; rfl)
    rw [e1]; rcases (by omega : n = 0 ∨ n = 1 ∨ n = 2 ∨ n = 3) with rfl | rfl | rfl | rfl <;> simp [hu] <;> decide
/-- A mark that is not negative is zero or positive. -/
theorem zero_iff (u : BitVec 32) (h : 0 ≤ u.toInt) : u = 0#32 ↔ ¬ 0 < u.toInt := by
  constructor
  · rintro rfl; decide
  · intro h'; exact BitVec.eq_of_toInt_eq (by rw [BitVec.toInt_zero]; omega)

/-- The word the schedule reads is the word the body reads. -/
theorem atD_eq (pf : pre0.Contents (Elt F)) (i : grid0.Coords) : pf.atD 2 (k0_off1 i) = word (pf 2) i := by
  unfold Pipeline.Prefetch.Contents.atD
  have key : ∀ a : Fin 1, k0_off1 i a + 1 ≤ S288.size a := fun a => by
    have h := k0_off1_inb i a
    obtain rfl : a = 0 := Subsingleton.elim _ _
    exact h
  exact (dif_pos key).trans rfl

/-- No entry of the table of blocks in use is negative. -/
abbrev NonNeg : Prop := ∀ b : S288.Idx, 0 ≤ (tbl m 2 b : BitVec 32).toInt

/-- The block of the result after `n` points. -/
def outsN (hO : Ok m) (c : Dev nD) : ℕ → Vec F S512x2048 .f32
  | 0 => if h : 0 < (cfgM m hO).N then
      step (grid0.coords ⟨0, h⟩) (word (tbl m 2) (grid0.coords ⟨0, h⟩)) (part (iblk m hO c 0 ⟨0, h⟩) (iblk m hO c 1 ⟨0, h⟩) (iblk m hO c 2 ⟨0, h⟩) (iblk m hO c 3 ⟨0, h⟩) (iblk m hO c 4 ⟨0, h⟩) (iblk m hO c 5 ⟨0, h⟩) (iblk m hO c 6 ⟨0, h⟩)) (iblk m hO c 6 ⟨0, h⟩) (k0_pay3 (F := F))
    else k0_pay3 (F := F)
  | n + 1 => if h : n + 1 < (cfgM m hO).N then
      step (grid0.coords ⟨n + 1, h⟩) (word (tbl m 2) (grid0.coords ⟨n + 1, h⟩)) (part (iblk m hO c 0 ⟨n + 1, h⟩) (iblk m hO c 1 ⟨n + 1, h⟩) (iblk m hO c 2 ⟨n + 1, h⟩) (iblk m hO c 3 ⟨n + 1, h⟩) (iblk m hO c 4 ⟨n + 1, h⟩) (iblk m hO c 5 ⟨n + 1, h⟩) (iblk m hO c 6 ⟨n + 1, h⟩)) (iblk m hO c 6 ⟨n + 1, h⟩) (outsN hO c n)
    else k0_pay3 (F := F)

/-- The point's share. -/
abbrev partAt (hO : Ok m) (c : Dev nD) (t : Fin (cfgM m hO).N) : Vec F S512x2048 .f32 :=
  part (iblk m hO c 0 t) (iblk m hO c 1 t) (iblk m hO c 2 t) (iblk m hO c 3 t) (iblk m hO c 4 t) (iblk m hO c 5 t) (iblk m hO c 6 t)

/-- The block after a point that is not the first, from the block after the point before. -/
theorem outsN_succ (hO : Ok m) (c : Dev nD) (t : Fin (cfgM m hO).N) (ht : t.val ≠ 0) :
    outsN m hO c t.val = step (grid0.coords t) (word (tbl m 2) (grid0.coords t)) (partAt m hO c t) (iblk m hO c 6 t) (outsN m hO c (t.val - 1)) := by
  obtain ⟨n, hn⟩ := t
  cases n with
  | zero => exact absurd rfl ht
  | succ n => rw [outsN]; exact dif_pos hn

/-- The block after any point is one step from some block. -/
theorem outsN_any (hO : Ok m) (c : Dev nD) (t : Fin (cfgM m hO).N) :
    ∃ Y, outsN m hO c t.val = step (grid0.coords t) (word (tbl m 2) (grid0.coords t)) (partAt m hO c t) (iblk m hO c 6 t) Y := by
  by_cases ht : t.val = 0
  · obtain ⟨n, hn⟩ := t
    obtain rfl : n = 0 := ht
    exact ⟨_, by rw [outsN]; exact dif_pos hn⟩
  · exact ⟨_, outsN_succ m hO c t ht⟩

/-- The four cases of the block after a point. -/
theorem outs_first (hO : Ok m) (c : Dev nD) (t : Fin (cfgM m hO).N) (hu : 0 < (word (tbl m 2) (grid0.coords t)).toInt) (ht : t.val % 4 = 0) :
    outsN m hO c t.val = k0_pay1 (partAt m hO c t) (iblk m hO c 6 t) := by
  obtain ⟨Y, e⟩ := outsN_any m hO c t
  rw [e]; unfold step
  rw [if_neg (fun h => by rw [((cond4_iff _ _).mp h).1] at hu; exact absurd hu (by decide)), if_pos ((cond1_iff _).mpr hu), if_pos ((cond2_iff _).mpr ((coord1 t).trans ht))]
/-- In the first quarter of an unused block the block is cleared. -/
theorem outs_zero (hO : Ok m) (c : Dev nD) (t : Fin (cfgM m hO).N) (hu : word (tbl m 2) (grid0.coords t) = 0#32) (ht : t.val % 4 = 0) :
    outsN m hO c t.val = k0_pay3 (F := F) := by
  obtain ⟨Y, e⟩ := outsN_any m hO c t
  rw [e]; unfold step
  rw [if_pos ((cond4_iff _ _).mpr ⟨hu, (coord1 t).trans ht⟩)]
/-- In a later quarter of a used block the point's share is added. -/
theorem outs_later (hO : Ok m) (c : Dev nD) (t : Fin (cfgM m hO).N) (hu : 0 < (word (tbl m 2) (grid0.coords t)).toInt) (ht : t.val % 4 ≠ 0) :
    outsN m hO c t.val = k0_pay2 (partAt m hO c t) (outsN m hO c (t.val - 1)) := by
  have h1 : (grid0.coords t 1).val ≠ 0 := fun h => ht ((coord1 t).symm.trans h)
  rw [outsN_succ m hO c t (fun h => ht (by rw [h]))]; unfold step
  rw [if_neg (fun h => h1 ((cond4_iff _ _).mp h).2), if_pos ((cond1_iff _).mpr hu), if_neg (fun h => h1 ((cond2_iff _).mp h)), if_pos ((cond3_iff _).mpr h1)]
/-- In a later quarter of an unused block nothing changes. -/
theorem outs_idle (hO : Ok m) (c : Dev nD) (t : Fin (cfgM m hO).N) (hu : word (tbl m 2) (grid0.coords t) = 0#32) (ht : t.val % 4 ≠ 0) :
    outsN m hO c t.val = outsN m hO c (t.val - 1) := by
  have h1 : (grid0.coords t 1).val ≠ 0 := fun h => ht ((coord1 t).symm.trans h)
  rw [outsN_succ m hO c t (fun h => ht (by rw [h]))]; unfold step
  rw [if_neg (fun h => h1 ((cond4_iff _ _).mp h).2), if_neg (fun h => by have := (cond1_iff _).mp h; rw [hu] at this; exact absurd this (by decide))]

/-- The schedule's condition, of the coordinate and the word. -/
theorem idle_words (i : grid0.Coords) (u : BitVec 32) (hu : 0 ≤ u.toInt) :
    (!(k0_cond1 u == 1#1 && k0_cond2 i == 1#1) && !(k0_cond1 u == 1#1 && k0_cond3 i == 1#1) && !(k0_cond4 i u == 1#1)) = true ↔ u = 0#32 ∧ (i 1).val ≠ 0 := by
  have h1 := cond1_iff u
  have h2 := cond2_iff i
  have h3 := cond3_iff i
  have h4 := cond4_iff i u
  have hz := zero_iff u hu
  generalize k0_cond1 u = a at *
  generalize k0_cond2 i = b at *
  generalize k0_cond3 i = d at *
  generalize k0_cond4 i u = e at *
  simp only [Bool.and_eq_true, Bool.not_eq_true', Bool.and_eq_false_iff, beq_eq_false_iff_ne, ne_eq, h1, h2, h3, h4, not_and, not_not]
  by_cases hp : 0 < u.toInt <;> by_cases h0 : (i 1).val = 0 <;> simp [hp, h0, hz]

/-- When the body leaves the result's block alone. -/
theorem idle_iff (hO : Ok m) (hU : NonNeg m) (t : Fin (cfgM m hO).N) :
    (cfgM m hO).idle 7 ((cfgM m hO).grid.coords t) = true ↔ word (tbl m 2) (grid0.coords t) = 0#32 ∧ t.val % 4 ≠ 0 := by
  have hu := hU (fun a => ⟨k0_off1 (grid0.coords t) a, by
    have h := k0_off1_inb (grid0.coords t) a
    obtain rfl : a = 0 := Subsingleton.elim _ _
    exact h⟩)
  change 0 ≤ (word (tbl m 2) (grid0.coords t)).toInt at hu
  have hw := idle_words (grid0.coords t) _ hu
  rw [coord1, ← atD_eq] at hw
  have e : (cfgM m hO).idle 7 ((cfgM m hO).grid.coords t) = (!(k0_cond1 ((tbl m).atD 2 (k0_off1 (grid0.coords t))) == 1#1 && k0_cond2 (grid0.coords t) == 1#1) && !(k0_cond1 ((tbl m).atD 2 (k0_off1 (grid0.coords t))) == 1#1 && k0_cond3 (grid0.coords t) == 1#1) && !(k0_cond4 (grid0.coords t) ((tbl m).atD 2 (k0_off1 (grid0.coords t))) == 1#1)) := rfl
  rw [← atD_eq]
  exact (Iff.of_eq (congrArg (· = true) e)).trans hw

/-- What each buffer holds after each point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outsN m hO c t.val
  Φ _ := iprop(Pipeline.ΦA spec0 c ∗ Pipeline.ΦT pre0 (tbl m) c)
  q _ := fullShare
  owed _ := 0

/-- The array of each window at the region's start. -/
theorem A_eq (hO : Ok m) (c : Dev nD) (w : Fin (cfgM m hO).W) : (dats m hO 0 c).A w = V m c (Pipeline.arrRef spec0 w) := by
  dsimp only [dats]

/-- After a point the buffer of the rows holds its block. -/
theorem after0 (hO : Ok m) (c : Dev nD) (t : Fin (cfgM m hO).N) : (dats m hO 0 c).after 0 t = iblk m hO c 0 t := by dsimp only [dats]; try rfl
/-- After a point the buffer of the gate weights holds its block. -/
theorem after1 (hO : Ok m) (c : Dev nD) (t : Fin (cfgM m hO).N) : (dats m hO 0 c).after 1 t = iblk m hO c 1 t := by dsimp only [dats]; try rfl
/-- After a point the buffer of the linear weights holds its block. -/
theorem after2 (hO : Ok m) (c : Dev nD) (t : Fin (cfgM m hO).N) : (dats m hO 0 c).after 2 t = iblk m hO c 2 t := by dsimp only [dats]; try rfl
/-- After a point the buffer of the gate bias holds its block. -/
theorem after3 (hO : Ok m) (c : Dev nD) (t : Fin (cfgM m hO).N) : (dats m hO 0 c).after 3 t = iblk m hO c 3 t := by dsimp only [dats]; try rfl
/-- After a point the buffer of the linear bias holds its block. -/
theorem after4 (hO : Ok m) (c : Dev nD) (t : Fin (cfgM m hO).N) : (dats m hO 0 c).after 4 t = iblk m hO c 4 t := by dsimp only [dats]; try rfl
/-- After a point the buffer of the second weights holds its block. -/
theorem after5 (hO : Ok m) (c : Dev nD) (t : Fin (cfgM m hO).N) : (dats m hO 0 c).after 5 t = iblk m hO c 5 t := by dsimp only [dats]; try rfl
/-- After a point the buffer of the second bias holds its block. -/
theorem after6 (hO : Ok m) (c : Dev nD) (t : Fin (cfgM m hO).N) : (dats m hO 0 c).after 6 t = iblk m hO c 6 t := by dsimp only [dats]; try rfl
/-- After a point the result's buffer holds the running block. -/
theorem after7 (hO : Ok m) (c : Dev nD) (t : Fin (cfgM m hO).N) : (dats m hO 0 c).after 7 t = outsN m hO c t.val := by dsimp only [dats]; try rfl
/-- Before a point the buffer of the rows holds its block. -/
theorem before0 (hO : Ok m) (c : Dev nD) (t : Fin (cfgM m hO).N) (d) : (dats m hO 0 c).before 0 t d = iblk m hO c 0 t :=
  before_in0 m hO (dats m hO 0 c) (A_eq m hO c 0) (after0 m hO c) t d
/-- Before a point the buffer of the gate weights holds its block. -/
theorem before1 (hO : Ok m) (c : Dev nD) (t : Fin (cfgM m hO).N) (d) : (dats m hO 0 c).before 1 t d = iblk m hO c 1 t :=
  before_in1 m hO (dats m hO 0 c) (A_eq m hO c 1) (after1 m hO c) t d
/-- Before a point the buffer of the linear weights holds its block. -/
theorem before2 (hO : Ok m) (c : Dev nD) (t : Fin (cfgM m hO).N) (d) : (dats m hO 0 c).before 2 t d = iblk m hO c 2 t :=
  before_in2 m hO (dats m hO 0 c) (A_eq m hO c 2) (after2 m hO c) t d
/-- Before a point the buffer of the gate bias holds its block. -/
theorem before3 (hO : Ok m) (c : Dev nD) (t : Fin (cfgM m hO).N) (d) : (dats m hO 0 c).before 3 t d = iblk m hO c 3 t :=
  before_in3 m hO (dats m hO 0 c) (A_eq m hO c 3) (after3 m hO c) t d
/-- Before a point the buffer of the linear bias holds its block. -/
theorem before4 (hO : Ok m) (c : Dev nD) (t : Fin (cfgM m hO).N) (d) : (dats m hO 0 c).before 4 t d = iblk m hO c 4 t :=
  before_in4 m hO (dats m hO 0 c) (A_eq m hO c 4) (after4 m hO c) t d
/-- Before a point the buffer of the second weights holds its block. -/
theorem before5 (hO : Ok m) (c : Dev nD) (t : Fin (cfgM m hO).N) (d) : (dats m hO 0 c).before 5 t d = iblk m hO c 5 t :=
  before_in5 m hO (dats m hO 0 c) (A_eq m hO c 5) (after5 m hO c) t d
/-- Before a point the buffer of the second bias holds its block. -/
theorem before6 (hO : Ok m) (c : Dev nD) (t : Fin (cfgM m hO).N) (d) : (dats m hO 0 c).before 6 t d = iblk m hO c 6 t :=
  before_in6 m hO (dats m hO 0 c) (A_eq m hO c 6) (after6 m hO c) t d

/-- The result's buffer holds nothing of the block yet exactly at the first point of a row block. -/
theorem fresh7 (hO : Ok m) (hU : NonNeg m) : ∀ n, n ≤ (cfgM m hO).N → (cfgM m hO).fresh 7 n = decide (n % 4 = 0) :=
  (cfgM m hO).fresh_tab 7 (fun n => decide (n % 4 = 0)) rfl fun t => by
    have hf := flush7 (adm m hO) t
    have hi := idle_iff m hO hU t
    by_cases h3 : t.val % 4 = 3
    · rw [hf.mpr h3, Bool.true_or, decide_eq_true_iff]; omega
    · rw [Bool.eq_false_iff.mpr (fun h => h3 (hf.mp h)), Bool.false_or]
      by_cases h0 : t.val % 4 = 0
      · rw [Bool.eq_false_iff.mpr (fun h => (hi.mp h).2 h0), Bool.false_and, decide_eq_false_iff_not]; omega
      · rw [decide_eq_false h0, Bool.and_false, decide_eq_false_iff_not]; omega

/-- What the body finds in the result's buffer after a row block's first point. -/
theorem before7 (hO : Ok m) (hU : NonNeg m) (c : Dev nD) (t : Fin (cfgM m hO).N) (ht : t.val % 4 ≠ 0) (d) : (dats m hO 0 c).before 7 t d = outsN m hO c (t.val - 1) := by
  rw [(dats m hO 0 c).before_out_traj 7 rfl (fun _ _ => rfl) (fun t h0 hi hf => ?_) t.val t rfl d, fresh7 m hO hU t.val t.isLt.le, decide_eq_false ht, if_neg Bool.false_ne_true, after7]
  rw [after7, after7]
  have h := (idle_iff m hO hU t).mp hi
  exact outs_idle m hO c t h.1 h.2

/-- What the body is called with at point `t`, -/
def pre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))

/-- and what it leaves. -/
def post (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ owns (c : Thread nD τ) (ms7 m hO t) fullShare ((dats m hO 0 c).after 7 t))

set_option maxHeartbeats 800000 in
/-- The body at any point. -/
theorem sound_body (hO : Ok m) (hU : NonNeg m) (c : Dev nD) (t : Fin (cfgM m hO).N) :
    pre m hO c t ⊢ wp frame (wpE (defs₀ (F := F)) Variants.none c none) Set.univ (bodyAt m hO t) (fun _ => post m hO c t) := by
  unfold pre post bodyAt
  simp only [before0, before1, before2, before3, before4, before5, before6]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7]
  rw [show (dats m hO 0 c).Φ t.castSucc = iprop(Pipeline.ΦA spec0 c ∗ Pipeline.ΦT pre0 (tbl m) c) from rfl, PhiT_eq]
  have hu := hU (fun a => ⟨k0_off1 (grid0.coords t) a, by
    have h := k0_off1_inb (grid0.coords t) a
    obtain rfl : a = 0 := Subsingleton.elim _ _
    exact h⟩)
  change 0 ≤ (word (tbl m 2) (grid0.coords t)).toInt at hu
  have hz := zero_iff _ hu
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hp : 0 < (word (tbl m 2) (grid0.coords t)).toInt <;> by_cases ht : t.val % 4 = 0
  · rw [outs_first m hO c t hp ht]
    iapply (body_first c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) _ (tbl m 0) (tbl m 1) (tbl m 2) ((cond1_iff _).mpr hp) ((cond2_iff _).mpr ((coord1 t).trans ht)) (fun h => (cond3_iff _).mp h ((coord1 t).trans ht)) (fun h => hz.mp ((cond4_iff _ _).mp h).1 hp) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HT1]; · iexact HT1
    isplitl [HT2]; · iexact HT2
    iintro ⟨H0, H1, H2, H3, H4, H5, H6, H7, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outs_later m hO c t hp ht, before7 m hO hU c t ht]
    iapply (body_later c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) _ (tbl m 0) (tbl m 1) (tbl m 2) ((cond1_iff _).mpr hp) (fun h => ht ((coord1 t).symm.trans ((cond2_iff _).mp h))) ((cond3_iff _).mpr (fun h => ht ((coord1 t).symm.trans h))) (fun h => hz.mp ((cond4_iff _ _).mp h).1 hp) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HT1]; · iexact HT1
    isplitl [HT2]; · iexact HT2
    iintro ⟨H0, H1, H2, H3, H4, H5, H6, H7, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outs_zero m hO c t (hz.mpr hp) ht]
    iapply (body_zero c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) _ (tbl m 0) (tbl m 1) (tbl m 2) (fun h => hp ((cond1_iff _).mp h)) ((cond4_iff _ _).mpr ⟨hz.mpr hp, (coord1 t).trans ht⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HT1]; · iexact HT1
    isplitl [HT2]; · iexact HT2
    iintro ⟨H0, H1, H2, H3, H4, H5, H6, H7, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outs_idle m hO c t (hz.mpr hp) ht, before7 m hO hU c t ht]
    iapply (body_idle c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) _ (tbl m 0) (tbl m 1) (tbl m 2) (fun h => hp ((cond1_iff _).mp h)) (fun h => ht ((coord1 t).symm.trans ((cond4_iff _ _).mp h).2)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HT1]; · iexact HT1
    isplitl [HT2]; · iexact HT2
    iintro ⟨H0, H1, H2, H3, H4, H5, H6, H7, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.Kernel2Ideal.Ffn

end
-- ==== Proof.Kernel2IdealLaunched.lean ====
/-
  The experts' call: its launch, its frame, its result array.
-/
module

public import proofs.«01_k».proof.Proof.Kernel2IdealRun

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.WordCmp
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t` is the body at the point's buffers. -/
theorem row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- A point that leaves the result's buffer alone leaves it at what it found. -/
theorem leaves7 (hO : Ok m) (hU : NonNeg m) (c : Dev nD) (t : Fin (cfgM m hO).N)
    (hb : (cfgM m hO).idle 7 ((cfgM m hO).grid.coords t) = true) :
    (owns (c : Thread nD τ) (ms7 m hO t) fullShare ((dats m hO 0 c).after 7 t) : sProp 𝕄) ⊢
      iprop(∃ d, owns (c : Thread nD τ) (ms7 m hO t) fullShare ((dats m hO 0 c).before 7 t d)) := by
  have h := (idle_iff m hO hU t).mp hb
  iintro H
  iexists (outsN m hO c t.val)
  have e2 : (owns (c : Thread nD τ) (ms7 m hO t) fullShare ((dats m hO 0 c).before 7 t (outsN m hO c t.val)) : sProp 𝕄) = owns (c : Thread nD τ) (ms7 m hO t) fullShare ((dats m hO 0 c).after 7 t) :=
    congrArg (fun X => (owns (c : Thread nD τ) (ms7 m hO t) fullShare X : sProp 𝕄)) ((before7 m hO hU c t h.2 _).trans ((outs_idle m hO c t h.1 h.2).symm.trans (after7 m hO c t).symm))
  rw [e2]
  iexact H

/-- The body meets its obligation at every point. -/
theorem obligation (hO : Ok m) (hU : NonNeg m) (c : Dev nD) : BodyObligation (dats (F := F) m hO 0 c) (defs₀ (F := F)) Variants.none () Set.univ := fun t => by
  rw [bigSep_W0, bigSep_W0, row m hO]
  refine triple_restated (sound_body m hO hU c t) rfl .rfl fun _ => ?_
  unfold post
  dsimp only
  refine sep_mono BIBase.Entails.rfl (sep_mono BIBase.Entails.rfl (sep_mono BIBase.Entails.rfl (sep_mono BIBase.Entails.rfl (sep_mono BIBase.Entails.rfl (sep_mono BIBase.Entails.rfl (sep_mono BIBase.Entails.rfl (sep_mono BIBase.Entails.rfl (sep_mono BIBase.Entails.rfl ?_))))))))
  split
  · rename_i hb
    split
    · exact leaves7 m hO hU c t hb
    · exact BIBase.Entails.rfl
  · exact BIBase.Entails.rfl

set_option backward.isDefEq.respectTransparency.types false in
/-- The launch terminates, with every array at what the data say and every counter at zero. -/
theorem launch (hO : Ok m) (hU : NonNeg m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO hU c).loose) (hshare := fun c => (dats m hO 0 c).share_full fun _ => rfl)
    (howed := fun _ _ => rfl) (V := V m) (hmain := hmain m Variants.none) (hA := A_eq m hO) (hpf := V_pre m)
    (hΦ := fun _ _ => rfl)

/-- The arguments end as launched and every counter ends at zero. -/
theorem quiet (hO : Ok m) (hU : NonNeg m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (unchanged_of m ρ hO (dats m hO) (A_eq m hO) ((θ_run defs _ _).mono (fun _ h => h.1) (launch m ρ hO hU))) ((θ_run defs _ _).mono (fun _ h => h.2) (launch m ρ hO hU))

/-- The launch with the result array named. -/
theorem result (hO : Ok m) (hU : NonNeg m) : θ_run defs (onTc (τ := τ) (main (F := F))) ⟨m, fun _ => 0, ρ⟩ (fun r => ∀ c : Dev nD,
      r.2.mem ((c.tc : Thread nD τ).loc main_v10) = (dats m hO 0 c).arrAt 7 (cfgM m hO).N) :=
  (θ_run defs _ _).mono (fun r h c => (h.1 c).1 7) (launch m ρ hO hU)

end Cert.Kernel2Ideal.Ffn

end
-- ==== Proof.Kernel2IdealTables.lean ====
/-
  The block tables: the blocks they name, when the precondition bounds their entries.
-/
module

public import proofs.«01_k».proof.Defs
public import proofs.«01_k».proof.Proof.Gen.Pre_table_ranges
public import proofs.«01_k».proof.Proof.Kernel2IdealLaunched
public import Idealize.ShloMosaic.Lib.Affine
public import Idealize.ShloMosaic.Lib.Pointwise

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL.Sem
open Idealize.ShloMosaic.WordCmp

variable {F : FTy → Type} [FloatOps F]

/-- Entry `b` of each table. -/
def T0 (pf : pre0.Contents (Elt F)) (b : Fin 288) : BitVec 32 := (pf 0 : S288.Idx → BitVec 32) (ix1 b)
/-- The second table, of the blocks' rows. -/
def T1 (pf : pre0.Contents (Elt F)) (b : Fin 288) : BitVec 32 := (pf 1 : S288.Idx → BitVec 32) (ix1 b)
/-- The third table, of the blocks' marks. -/
def T2 (pf : pre0.Contents (Elt F)) (b : Fin 288) : BitVec 32 := (pf 2 : S288.Idx → BitVec 32) (ix1 b)

/-- The row block of a point. -/
def rb (i : grid0.Coords) : Fin 288 := ⟨(i 0).val, (i 0).isLt⟩

/-- The offset at which a point reads the tables is its row block. -/
theorem off1_eq (i : grid0.Coords) : k0_off1 i 0 = (i 0).val := by
  have r_i0 : (i 0).val < 288 := (i 0).isLt
  change (BitVec.ofNat 32 (i 0).val).toNat = _
  rw [BitVec.toNat_ofNat]; omega

/-- The mark that the body reads is the entry of its row block. -/
theorem word_eq (pf : pre0.Contents (Elt F)) (i : grid0.Coords) : word (pf 2) i = T2 pf (rb i) := by
  unfold word T2 rb
  refine congrArg (pf 2 : S288.Idx → BitVec 32) (funext fun a => ?_)
  obtain rfl : a = 0 := Subsingleton.elim _ _
  exact Fin.ext (off1_eq i)

/-- The one entry of the unit read is the entry of the row block. -/
theorem emb_eq (i : grid0.Coords) (h : ∀ a, ![(k0_off1 i 0)] a + S1.size a ≤ S288.size a) (h1 : 0 < (Rect.unit (s := S288) ![k0_off1 i 0] S1.size h).shape.numel) :
    (Rect.unit (s := S288) ![k0_off1 i 0] S1.size h).emb (Shape.Idx.first h1) = (ix1 (rb i) : S288.Idx) := by
  refine funext fun a => ?_
  obtain rfl : a = 0 := Subsingleton.elim _ _
  refine Fin.ext ?_
  change k0_off1 i 0 + 1 * 0 = (i 0).val
  rw [off1_eq, Nat.mul_zero, Nat.add_zero]

/-- The words the index maps read. -/
theorem at0 (pf : pre0.Contents (Elt F)) (i : grid0.Coords) : pf.at 0 (Rect.unit (s := S288) ![k0_off1 i 0] S1.size (k0_off1_inb i)) numel1_S1 = T0 pf (rb i) :=
  congrArg (pf 0 : S288.Idx → BitVec 32) (emb_eq i _ _)
/-- The source block that the index maps read. -/
theorem at1 (pf : pre0.Contents (Elt F)) (i : grid0.Coords) : pf.at 1 (Rect.unit (s := S288) ![k0_off1 i 0] S1.size (k0_off1_inb i)) numel1_S1 = T1 pf (rb i) :=
  congrArg (pf 1 : S288.Idx → BitVec 32) (emb_eq i _ _)
/-- The mark that the index maps read. -/
theorem at2 (pf : pre0.Contents (Elt F)) (i : grid0.Coords) : pf.at 2 (Rect.unit (s := S288) ![k0_off1 i 0] S1.size (k0_off1_inb i)) numel1_S1 = T2 pf (rb i) :=
  congrArg (pf 2 : S288.Idx → BitVec 32) (emb_eq i _ _)

/-- The quarter of the hidden axis a point fetches. -/
def qtr (u : BitVec 32) (i : grid0.Coords) : ℕ := if 0 < u.toInt then (i 1).val else 3

/-- The quarter fetched is one of four. -/
theorem qtr_lt (u : BitVec 32) (i : grid0.Coords) : qtr u i < 4 := by
  have h : (i 1).val < 4 := (i 1).isLt
  unfold qtr; split <;> omega

/-- The selected quarter, as a number. -/
theorem select_eq (u : BitVec 32) (i : grid0.Coords) :
    (Scalar.select (Scalar.cmpi .sgt u 0#32) (BitVec.ofNat 32 (i 1).val) 3#32 : BitVec 32).toNat = qtr u i := by
  have h : (i 1).val < 4 := (i 1).isLt
  have e : Scalar.cmpi .sgt u 0#32 = BitVec.ofBool (decide (0 < u.toInt)) := (cmpi_sgt_eq u 0#32).trans (by rw [BitVec.toInt_zero])
  rw [e]
  unfold Scalar.select qtr
  by_cases hu : 0 < u.toInt
  · rw [decide_eq_true hu, if_pos (by decide), if_pos hu, BitVec.toNat_ofNat]; omega
  · rw [decide_eq_false hu, if_neg (by decide), if_neg hu]; rfl

/-- The blocks the index maps name. -/
theorem tr0 (pf : pre0.Contents (Elt F)) (i : grid0.Coords) : cc0_transform_0 k0_off1_inb numel1_S1 pf i = ![(T1 pf (rb i)).toNat, 0] :=
  congrArg (fun a : ℕ => (![a, 0] : Fin 2 → ℕ)) (congrArg BitVec.toNat (at1 pf i))
/-- The block of the gate weights that the index map names. -/
theorem tr1 (pf : pre0.Contents (Elt F)) (i : grid0.Coords) : cc0_transform_1 k0_off1_inb numel1_S1 pf i = ![(T0 pf (rb i)).toNat, 0, qtr (T2 pf (rb i)) i] :=
  congrArg₂ (fun (a b : ℕ) => (![a, 0, b] : Fin 3 → ℕ)) (congrArg BitVec.toNat (at0 pf i))
    ((congrArg (fun u : BitVec 32 => (Scalar.select (Scalar.cmpi .sgt u 0#32) (BitVec.ofNat 32 (i 1).val) 3#32 : BitVec 32).toNat) (at2 pf i)).trans (select_eq _ i))
/-- The block of the linear weights that the index map names. -/
theorem tr2 (pf : pre0.Contents (Elt F)) (i : grid0.Coords) : cc0_transform_2 k0_off1_inb numel1_S1 pf i = ![(T0 pf (rb i)).toNat, 0, qtr (T2 pf (rb i)) i] :=
  congrArg₂ (fun (a b : ℕ) => (![a, 0, b] : Fin 3 → ℕ)) (congrArg BitVec.toNat (at0 pf i))
    ((congrArg (fun u : BitVec 32 => (Scalar.select (Scalar.cmpi .sgt u 0#32) (BitVec.ofNat 32 (i 1).val) 3#32 : BitVec 32).toNat) (at2 pf i)).trans (select_eq _ i))
/-- The block of the gate bias that the index map names. -/
theorem tr3 (pf : pre0.Contents (Elt F)) (i : grid0.Coords) : cc0_transform_3 k0_off1_inb numel1_S1 pf i = ![(T0 pf (rb i)).toNat, 0, qtr (T2 pf (rb i)) i] :=
  congrArg₂ (fun (a b : ℕ) => (![a, 0, b] : Fin 3 → ℕ)) (congrArg BitVec.toNat (at0 pf i))
    ((congrArg (fun u : BitVec 32 => (Scalar.select (Scalar.cmpi .sgt u 0#32) (BitVec.ofNat 32 (i 1).val) 3#32 : BitVec 32).toNat) (at2 pf i)).trans (select_eq _ i))
/-- The block of the linear bias that the index map names. -/
theorem tr4 (pf : pre0.Contents (Elt F)) (i : grid0.Coords) : cc0_transform_4 k0_off1_inb numel1_S1 pf i = ![(T0 pf (rb i)).toNat, 0, qtr (T2 pf (rb i)) i] :=
  congrArg₂ (fun (a b : ℕ) => (![a, 0, b] : Fin 3 → ℕ)) (congrArg BitVec.toNat (at0 pf i))
    ((congrArg (fun u : BitVec 32 => (Scalar.select (Scalar.cmpi .sgt u 0#32) (BitVec.ofNat 32 (i 1).val) 3#32 : BitVec 32).toNat) (at2 pf i)).trans (select_eq _ i))
/-- The block of the second weights that the index map names. -/
theorem tr5 (pf : pre0.Contents (Elt F)) (i : grid0.Coords) : cc0_transform_5 k0_off1_inb numel1_S1 pf i = ![(T0 pf (rb i)).toNat, qtr (T2 pf (rb i)) i, 0] :=
  congrArg₂ (fun (a b : ℕ) => (![a, b, 0] : Fin 3 → ℕ)) (congrArg BitVec.toNat (at0 pf i))
    ((congrArg (fun u : BitVec 32 => (Scalar.select (Scalar.cmpi .sgt u 0#32) (BitVec.ofNat 32 (i 1).val) 3#32 : BitVec 32).toNat) (at2 pf i)).trans (select_eq _ i))
/-- The block of the second bias that the index map names. -/
theorem tr6 (pf : pre0.Contents (Elt F)) (i : grid0.Coords) : cc0_transform_6 k0_off1_inb numel1_S1 pf i = ![(T0 pf (rb i)).toNat, 0, 0] :=
  congrArg (fun a : ℕ => (![a, 0, 0] : Fin 3 → ℕ)) (congrArg BitVec.toNat (at0 pf i))

/-- The tables' entries are in range. -/
structure InRange (pf : pre0.Contents (Elt F)) : Prop where
  e : ∀ b, (T0 pf b).toNat < 32
  s : ∀ b, (T1 pf b).toNat < 288
  u : ∀ b, 0 ≤ (T2 pf b).toInt

/-- With the tables in range every block fetched lies in its array. -/
theorem ok_of_inRange (pf : pre0.Contents (Elt F)) (h : InRange pf) : ok0 pf := by
  refine ⟨fun i => ?_, fun i => ?_, fun i => ?_, fun i => ?_, fun i => ?_, fun i => ?_, fun i => ?_⟩
  · refine ⟨fun a => ?_, .inr (Affine.block_words_dvd (by decide) (by decide))⟩
    rw [tr0]
    have := h.s (rb i)
    fin_cases a
    · change ((T1 pf (rb i)).toNat + 1) * 512 ≤ 147456; omega
    · change (0 + 1) * 2048 ≤ 2048; omega
  · refine ⟨fun a => ?_, .inr (Affine.block_words_dvd (by decide) (by decide))⟩
    rw [tr1]
    have := h.e (rb i); have := qtr_lt (T2 pf (rb i)) i
    fin_cases a
    · change ((T0 pf (rb i)).toNat + 1) * 1 ≤ 32; omega
    · change (0 + 1) * 2048 ≤ 2048; omega
    · change (qtr (T2 pf (rb i)) i + 1) * 512 ≤ 2048; omega
  · refine ⟨fun a => ?_, .inr (Affine.block_words_dvd (by decide) (by decide))⟩
    rw [tr2]
    have := h.e (rb i); have := qtr_lt (T2 pf (rb i)) i
    fin_cases a
    · change ((T0 pf (rb i)).toNat + 1) * 1 ≤ 32; omega
    · change (0 + 1) * 2048 ≤ 2048; omega
    · change (qtr (T2 pf (rb i)) i + 1) * 512 ≤ 2048; omega
  · refine ⟨fun a => ?_, .inl rfl⟩
    rw [tr3]
    have := h.e (rb i); have := qtr_lt (T2 pf (rb i)) i
    fin_cases a
    · change ((T0 pf (rb i)).toNat + 1) * 1 ≤ 32; omega
    · change (0 + 1) * 1 ≤ 1; omega
    · change (qtr (T2 pf (rb i)) i + 1) * 512 ≤ 2048; omega
  · refine ⟨fun a => ?_, .inl rfl⟩
    rw [tr4]
    have := h.e (rb i); have := qtr_lt (T2 pf (rb i)) i
    fin_cases a
    · change ((T0 pf (rb i)).toNat + 1) * 1 ≤ 32; omega
    · change (0 + 1) * 1 ≤ 1; omega
    · change (qtr (T2 pf (rb i)) i + 1) * 512 ≤ 2048; omega
  · refine ⟨fun a => ?_, .inr (Affine.block_words_dvd (by decide) (by decide))⟩
    rw [tr5]
    have := h.e (rb i); have := qtr_lt (T2 pf (rb i)) i
    fin_cases a
    · change ((T0 pf (rb i)).toNat + 1) * 1 ≤ 32; omega
    · change (qtr (T2 pf (rb i)) i + 1) * 512 ≤ 2048; omega
    · change (0 + 1) * 2048 ≤ 2048; omega
  · refine ⟨fun a => ?_, .inl rfl⟩
    rw [tr6]
    have := h.e (rb i)
    fin_cases a
    · change ((T0 pf (rb i)).toNat + 1) * 1 ≤ 32; omega
    · change (0 + 1) * 1 ≤ 1; omega
    · change (0 + 1) * 2048 ≤ 2048; omega

/-- A word in a range, from the comparisons. -/
theorem nat_of_cmp (x n : BitVec 32) (h : IntOp.andi (IntOp.cmpi .sge x 0#32) (IntOp.cmpi .slt x n) = 1#1) : x.toNat < n.toInt := by
  rw [cmpi_sge_eq, cmpi_slt_eq, andi_ofBool, ofBool_eq_one_iff, Bool.and_eq_true, decide_eq_true_iff, decide_eq_true_iff, BitVec.toInt_zero] at h
  have h1 := BitVec.toInt_eq_toNat_cond x
  have h2 := x.isLt
  split at h1 <;> omega

/-- The precondition's comparisons, entry by entry. -/
theorem range_of_pre (m : (ℓ : Loc nD τ sig) → Buf (Elt Ideal) ℓ) (h : Cert.Pre_Kernel2Ideal m) : InRange (tbl m) := by
  obtain ⟨h0, h1, h2⟩ := h 0
  have e0 : ∀ b, T0 (tbl m) b = (m ((0 : Dev nD).tc.loc main_arg0) : S288.Idx → BitVec 32) (ix1 b) := fun b => congrFun (V_main_arg0 m 0) (ix1 b)
  have e1 : ∀ b, T1 (tbl m) b = (m ((0 : Dev nD).tc.loc main_arg1) : S288.Idx → BitVec 32) (ix1 b) := fun b => congrFun (V_main_arg1 m 0) (ix1 b)
  have e2 : ∀ b, T2 (tbl m) b = (m ((0 : Dev nD).tc.loc main_arg2) : S288.Idx → BitVec 32) (ix1 b) := fun b => congrFun (V_main_arg2 m 0) (ix1 b)
  refine ⟨fun b => ?_, fun b => ?_, fun b => ?_⟩
  · rw [e0]
    have := nat_of_cmp _ 32#32 (congrFun h0 (ix1 b))
    have e : (32#32 : BitVec 32).toInt = 32 := by decide
    omega
  · rw [e1]
    have := nat_of_cmp _ 288#32 (congrFun h1 (ix1 b))
    have e : (288#32 : BitVec 32).toInt = 288 := by decide
    omega
  · rw [e2]
    have h := congrFun h2 (ix1 b)
    change IntOp.cmpi .sge (m ((0 : Dev nD).tc.loc main_arg2) (ix1 b) : BitVec 32) 0#32 = 1#1 at h
    rw [cmpi_sge_eq, ofBool_eq_one_iff, decide_eq_true_iff, BitVec.toInt_zero] at h
    exact h

/-- The precondition puts every block fetched in its array. -/
theorem ok_of_pre (m : (ℓ : Loc nD τ sig) → Buf (Elt Ideal) ℓ) (h : Cert.Pre_Kernel2Ideal m) : Ok m := ok_of_inRange _ (range_of_pre m h)
/-- Under the precondition no mark is negative. -/
theorem nonNeg_of_pre (m : (ℓ : Loc nD τ sig) → Buf (Elt Ideal) ℓ) (h : Cert.Pre_Kernel2Ideal m) : NonNeg m := fun b => by
  have e : b = (ix1 (b 0) : S288.Idx) := funext fun a => by
    obtain rfl : a = 0 := Subsingleton.elim _ _
    rfl
  rw [e]; exact (range_of_pre m h).u (b 0)

end Cert.Kernel2Ideal.Ffn

end
-- ==== Proof.Ref2Val.lean ====
/-
  The reference of the experts' part: its result read at a row and a lane.
-/
module

public import proofs.«01_k».proof.Proof.Gen.Reference2Ideal.Run
public import Idealize.ShloMosaic.Lib.Pointwise
public import Idealize.ShloMosaic.Lib.WordCmp

@[expose] public section

set_option maxRecDepth 16384

noncomputable section

namespace Cert.Experts

open Idealize.ShloMosaic Idealize.SL.Sem

/-- The activation of a gate and a linear lane. -/
def act (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + Ideal.ofBits .f32 0x3F800000#32)

/-- Lane `j` of row `r` through expert `e`'s first product and bias. -/
def lane (x : FVec Ideal ⟨2, ![147456, 2048]⟩ .bf16) (w : FVec Ideal ⟨3, ![32, 2048, 4096]⟩ .f32) (b : FVec Ideal ⟨2, ![32, 4096]⟩ .f32)
    (r : Fin 147456) (e : Fin 32) (j : Fin 4096) : EReal :=
  ∑ k : Fin 2048, x (ix2 r k) * w (ix3 e k j) + b (ix2 e j)

/-- Lane `f` of the activation of row `r` at expert `e`: gates at even lanes, linear lanes at odd. -/
def mid (x : FVec Ideal ⟨2, ![147456, 2048]⟩ .bf16) (w : FVec Ideal ⟨3, ![32, 2048, 4096]⟩ .f32) (b : FVec Ideal ⟨2, ![32, 4096]⟩ .f32)
    (r : Fin 147456) (e : Fin 32) (f : Fin 2048) : EReal :=
  act (lane x w b r e ⟨2 * f.val, by omega⟩) (lane x w b r e ⟨1 + 2 * f.val, by omega⟩)

/-- A word below `2 ^ 31` read signed is the number itself. -/
theorem toInt_small (u : BitVec 32) (h : u.toNat < 2 ^ 31) : u.toInt = u.toNat :=
  BitVec.toInt_eq_toNat_of_lt (by omega)

section Take
variable {α : Type}

/-- The dimension numbers of taking whole blocks of a rank-3 array. -/
abbrev blockDims (N n A B : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers of taking whole rows of a rank-2 array. -/
abbrev rowDims (N n A : ℕ) (wf : GatherDims.WF ⟨2, ![N, A]⟩ ⟨2, ![n, 1]⟩ ⟨2, ![n, A]⟩ [1] [0] [] [0] [] 1 ![1, A]) :
    GatherDims ⟨2, ![N, A]⟩ ⟨2, ![n, 1]⟩ ⟨2, ![n, A]⟩ where
  offsetDims := [1]
  collapsedSliceDims := [0]
  operandBatchingDims := []
  startIndicesBatchingDims := []
  startIndexMap := [0]
  indexVectorDim := 1
  sliceSizes := ![1, A]
  wf := wf

/-- Taking blocks by a table whose entries are in range. -/
theorem block_at {N n A B : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (b : Fin n) (p : Fin A) (q : Fin B)
    (h : (idx (ix2 b 0)).toNat < N) (hN : N < 2 ^ 31) :
    Host.gather (blockDims N n A B wf) x idx (ix3 b p q) = x (ix3 ⟨(idx (ix2 b 0)).toNat, h⟩ p q) := by
  unfold Host.gather
  refine congrArg x (funext fun a => Fin.ext ?_)
  show (blockDims N n A B wf).start (ix3 b p q) idx a + (blockDims N n A B wf).batchCoord (ix3 b p q) a + (blockDims N n A B wf).offCoord (ix3 b p q) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hsi : (blockDims N n A B wf).siIdx (ix3 b p q) ⟨List.idxOf (0 : Fin 3) (blockDims N n A B wf).startIndexMap,
        List.idxOf_lt_length_iff.2 (List.mem_singleton.mpr rfl)⟩ = ix2 b 0 := by
      funext k; refine Fin.ext ?_
      match k with
      | ⟨0, _⟩ => rfl
      | ⟨1, _⟩ => rfl
    refine (congrArg (fun k => min (idx k).toInt.toNat (N - 1)) hsi).trans ?_
    show min (idx (ix2 b 0)).toInt.toNat (N - 1) = (idx (ix2 b 0)).toNat
    rw [toInt_small _ (by omega)]
    omega
  | ⟨1, _⟩ =>
    unfold GatherDims.start GatherDims.offCoord
    rw [dif_neg (by simp), dif_pos ((GatherDims.mem_sKept _ _).2 ⟨by simp, List.not_mem_nil⟩), Nat.zero_add]
    rfl
  | ⟨2, _⟩ =>
    unfold GatherDims.start GatherDims.offCoord
    rw [dif_neg (by simp), dif_pos ((GatherDims.mem_sKept _ _).2 ⟨by simp, List.not_mem_nil⟩), Nat.zero_add]
    rfl

/-- Taking rows by a table whose entries are in range. -/
theorem row_at {N n A : ℕ} (wf : GatherDims.WF ⟨2, ![N, A]⟩ ⟨2, ![n, 1]⟩ ⟨2, ![n, A]⟩ [1] [0] [] [0] [] 1 ![1, A])
    (x : (⟨2, ![N, A]⟩ : Shape).Idx → α) (idx : IVec ⟨2, ![n, 1]⟩ 32) (b : Fin n) (p : Fin A)
    (h : (idx (ix2 b 0)).toNat < N) (hN : N < 2 ^ 31) :
    Host.gather (rowDims N n A wf) x idx (ix2 b p) = x (ix2 ⟨(idx (ix2 b 0)).toNat, h⟩ p) := by
  unfold Host.gather
  refine congrArg x (funext fun a => Fin.ext ?_)
  show (rowDims N n A wf).start (ix2 b p) idx a + (rowDims N n A wf).batchCoord (ix2 b p) a + (rowDims N n A wf).offCoord (ix2 b p) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hsi : (rowDims N n A wf).siIdx (ix2 b p) ⟨List.idxOf (0 : Fin 2) (rowDims N n A wf).startIndexMap,
        List.idxOf_lt_length_iff.2 (List.mem_singleton.mpr rfl)⟩ = ix2 b 0 := by
      funext k; refine Fin.ext ?_
      match k with
      | ⟨0, _⟩ => rfl
      | ⟨1, _⟩ => rfl
    refine (congrArg (fun k => min (idx k).toInt.toNat (N - 1)) hsi).trans ?_
    show min (idx (ix2 b 0)).toInt.toNat (N - 1) = (idx (ix2 b 0)).toNat
    rw [toInt_small _ (by omega)]
    omega
  | ⟨1, _⟩ =>
    unfold GatherDims.start GatherDims.offCoord
    rw [dif_neg (by simp), dif_pos ((GatherDims.mem_sKept _ _).2 ⟨by simp, List.not_mem_nil⟩), Nat.zero_add]
    rfl

end Take

end Cert.Experts

namespace Cert.Reference2Ideal.Ffn

open Cert.Reference2Ideal Cert.Reference2Ideal.Gen Cert.Experts
open Idealize.ShloMosaic Idealize.ShloMosaic.TcCoe Idealize.SL.Sem

variable {F : FTy → Type} [FloatOps F]

/-- A table's entries as indices: a negative one counts from the end. -/
def wrap (n : BitVec 32) (a : IVec S288 32) : IVec S288x1 32 :=
  broadcastInDim S288x1 ![0] bcast_S288_S288x1_0 (select (cmpi .slt a (broadcastInDim S288 ![] bcast_S_S288 (constantI S_ 32 0#32))) (addi a (broadcastInDim S288 ![] bcast_S_S288 (constantI S_ 32 n))) a)

/-- The row blocks the tables name. -/
def xb (x : FVec F S147456x2048 .bf16) (s : IVec S288 32) : FVec F S288x512x2048 .f32 :=
  Host.gather gather_S288x512x2048_S288x1_S288x512x2048_12_0_n_n_0_1_15122048 (shapeCast _ (extf .f32 x bitsLt_bf16_f32) shapeCasts_S147456x2048_S288x512x2048) (wrap 288#32 s)

/-- The first weights of each block's expert. -/
def wb (w : FVec F S32x2048x4096 .f32) (e : IVec S288 32) : FVec F S288x2048x4096 .f32 :=
  Host.gather gather_S32x2048x4096_S288x1_S288x2048x4096_12_0_n_n_0_1_120484096 w (wrap 32#32 e)

/-- The first biases of each block's expert. -/
def bb (b : FVec F S32x4096 .f32) (e : IVec S288 32) : FVec F S288x4096 .f32 :=
  Host.gather gather_S32x4096_S288x1_S288x4096_1_0_n_n_0_1_14096 b (wrap 32#32 e)

/-- The second weights of each block's expert. -/
def vb (w : FVec F S32x2048x2048 .f32) (e : IVec S288 32) : FVec F S288x2048x2048 .f32 :=
  Host.gather gather_S32x2048x2048_S288x1_S288x2048x2048_12_0_n_n_0_1_120482048 w (wrap 32#32 e)

/-- The second biases of each block's expert. -/
def cb (b : FVec F S32x2048 .f32) (e : IVec S288 32) : FVec F S288x2048 .f32 :=
  Host.gather gather_S32x2048_S288x1_S288x2048_1_0_n_n_0_1_12048 b (wrap 32#32 e)

/-- The first product with its bias. -/
def hid (x : FVec F S288x512x2048 .f32) (w : FVec F S288x2048x4096 .f32) (b : FVec F S288x4096 .f32) : FVec F S288x512x4096 .f32 :=
  addf (Host.dotGeneral dot_S288x512x2048_S288x2048x4096_S288x512x4096_2_1_1_2_0_0 none x w) (broadcastInDim S288x512x4096 ![0, 1, 2] bcast_S288x1x4096_S288x512x4096_0_1_2 (broadcastInDim S288x1x4096 ![0, 2] bcast_S288x4096_S288x1x4096_0_2 b))

/-- The gates: the even lanes, at most 7. -/
def gate (h : FVec F S288x512x4096 .f32) : FVec F S288x512x2048 .f32 :=
  minimumf (Host.slice S288x512x2048 ![0, 0, 0] ![1, 1, 2] h slicesBy_S288x512x4096_S288x512x2048_0s1_0s1_0s2) (broadcastInDim S288x512x2048 ![] bcast_S_S288x512x2048 (constant S_ .f32 0x40E00000#32))

/-- The activation of the first product's lanes. -/
def acts (h : FVec F S288x512x4096 .f32) : FVec F S288x512x2048 .f32 :=
  mulf (mulf (gate h) (Host.divf (broadcastInDim S288x512x2048 ![] bcast_S_S288x512x2048 (constant S_ .f32 0x3F800000#32)) (addf (broadcastInDim S288x512x2048 ![] bcast_S_S288x512x2048 (constant S_ .f32 0x3F800000#32)) (Host.exp (Host.negf (mulf (broadcastInDim S288x512x2048 ![] bcast_S_S288x512x2048 (constant S_ .f32 0x3FD9DB23#32)) (gate h)))))))
    (addf (minimumf (broadcastInDim S288x512x2048 ![] bcast_S_S288x512x2048 (id (constant S_ .f32 0x40E00000#32))) (maximumf (broadcastInDim S288x512x2048 ![] bcast_S_S288x512x2048 (id (constant S_ .f32 0xC0E00000#32))) (Host.slice S288x512x2048 ![0, 0, 1] ![1, 1, 2] h slicesBy_S288x512x4096_S288x512x2048_0s1_0s1_1s2))) (broadcastInDim S288x512x2048 ![] bcast_S_S288x512x2048 (constant S_ .f32 0x3F800000#32)))

/-- The second product with its bias. -/
def outs (a : FVec F S288x512x2048 .f32) (w : FVec F S288x2048x2048 .f32) (b : FVec F S288x2048 .f32) : FVec F S288x512x2048 .f32 :=
  addf (Host.dotGeneral dot_S288x512x2048_S288x2048x2048_S288x512x2048_2_1_1_2_0_0 none a w) (broadcastInDim S288x512x2048 ![0, 1, 2] bcast_S288x1x2048_S288x512x2048_0_1_2 (broadcastInDim S288x1x2048 ![0, 2] bcast_S288x2048_S288x1x2048_0_2 b))

/-- The blocks in use, zeros elsewhere, as rows. -/
def keep (u : IVec S288 32) (y : FVec F S288x512x2048 .f32) : FVec F S147456x2048 .f32 :=
  shapeCast _ (select (broadcastInDim S288x512x2048 ![0, 1, 2] bcast_S288x1x1_S288x512x2048_0_1_2 (cmpi .sgt (broadcastInDim S288x1x1 ![0] bcast_S288_S288x1x1_0 u) (broadcastInDim S288x1x1 ![] bcast_S_S288x1x1 (constantI S_ 32 0#32)))) y (broadcastInDim S288x512x2048 ![] bcast_S_S288x512x2048 (id (constant S_ .f32 0x00000000#32)))) shapeCasts_S288x512x2048_S147456x2048

/-- The experts' part of its arguments. -/
def whole (e s u : IVec S288 32) (x : FVec F S147456x2048 .bf16) (w : FVec F S32x2048x4096 .f32) (b : FVec F S32x4096 .f32) (v : FVec F S32x2048x2048 .f32) (c : FVec F S32x2048 .f32) : FVec F S147456x2048 .f32 :=
  keep u (outs (acts (hid (xb x s) (wb w e) (bb b e))) (vb v e) (cb c e))

/-- The run's result is the experts' part of the arguments. -/
theorem result_eq (m : (ℓ : Loc nD τ sig) → Buf (Elt F) ℓ) (c : Dev nD) :
    Value.res_main_v66 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-- A table's entry in range is its own index. -/
theorem wrap_at (n : BitVec 32) (a : IVec S288 32) (b : Fin 288) (h : (a (ix1 b)).toNat < 2 ^ 31) : wrap n a (ix2 b 0) = a (ix1 b) := by
  have h0 : IntOp.cmpi .slt (a (ix1 b)) 0#32 = 0#1 := by
    rw [WordCmp.cmpi_slt_eq, toInt_small _ h]
    rw [decide_eq_false (by simp)]
    rfl
  pointwise [wrap]
  rw [h0]
  rfl

/-- The rows in blocks of 512. -/
theorem rows_at (x : FVec Ideal S147456x2048 .bf16) (n : Fin 288) (r : Fin 512) (k : Fin 2048) :
    (shapeCast S288x512x2048 (extf (F := Ideal) .f32 x bitsLt_bf16_f32) shapeCasts_S147456x2048_S288x512x2048 (ix3 n r k) : EReal) = x (ix2 ⟨n.val * 512 + r.val, by omega⟩ k) := by
  pointwise []

/-- A row of a block. -/
theorem xb_at (x : FVec Ideal S147456x2048 .bf16) (s : IVec S288 32) (b : Fin 288) (r : Fin 512) (k : Fin 2048) (h : (s (ix1 b)).toNat < 288) :
    (xb (F := Ideal) x s (ix3 b r k) : EReal) = x (ix2 ⟨(s (ix1 b)).toNat * 512 + r.val, by omega⟩ k) := by
  have hw := wrap_at 288#32 s b (by omega)
  refine (block_at (N := 288) (n := 288) (A := 512) (B := 2048) _ _ (wrap 288#32 s) b r k (by rw [hw]; exact h) (by norm_num)).trans ?_
  have he : (⟨(wrap 288#32 s (ix2 b 0)).toNat, by rw [hw]; exact h⟩ : Fin 288) = ⟨(s (ix1 b)).toNat, h⟩ := Fin.ext (congrArg BitVec.toNat hw)
  rw [he]
  exact rows_at x ⟨(s (ix1 b)).toNat, h⟩ r k

/-- A first weight of a block's expert. -/
theorem wb_at (w : FVec Ideal S32x2048x4096 .f32) (e : IVec S288 32) (b : Fin 288) (k : Fin 2048) (j : Fin 4096) (h : (e (ix1 b)).toNat < 32) :
    wb (F := Ideal) w e (ix3 b k j) = w (ix3 ⟨(e (ix1 b)).toNat, h⟩ k j) := by
  have hw := wrap_at 32#32 e b (by omega)
  refine (block_at (N := 32) (n := 288) (A := 2048) (B := 4096) _ w (wrap 32#32 e) b k j (by rw [hw]; exact h) (by norm_num)).trans ?_
  exact congrArg (fun n => w (ix3 n k j)) (Fin.ext (congrArg BitVec.toNat hw))

/-- A first bias of a block's expert. -/
theorem bb_at (w : FVec Ideal S32x4096 .f32) (e : IVec S288 32) (b : Fin 288) (j : Fin 4096) (h : (e (ix1 b)).toNat < 32) :
    bb (F := Ideal) w e (ix2 b j) = w (ix2 ⟨(e (ix1 b)).toNat, h⟩ j) := by
  have hw := wrap_at 32#32 e b (by omega)
  refine (row_at (N := 32) (n := 288) (A := 4096) _ w (wrap 32#32 e) b j (by rw [hw]; exact h) (by norm_num)).trans ?_
  exact congrArg (fun n => w (ix2 n j)) (Fin.ext (congrArg BitVec.toNat hw))

/-- A second weight of a block's expert. -/
theorem vb_at (w : FVec Ideal S32x2048x2048 .f32) (e : IVec S288 32) (b : Fin 288) (k : Fin 2048) (j : Fin 2048) (h : (e (ix1 b)).toNat < 32) :
    vb (F := Ideal) w e (ix3 b k j) = w (ix3 ⟨(e (ix1 b)).toNat, h⟩ k j) := by
  have hw := wrap_at 32#32 e b (by omega)
  refine (block_at (N := 32) (n := 288) (A := 2048) (B := 2048) _ w (wrap 32#32 e) b k j (by rw [hw]; exact h) (by norm_num)).trans ?_
  exact congrArg (fun n => w (ix3 n k j)) (Fin.ext (congrArg BitVec.toNat hw))

/-- A second bias of a block's expert. -/
theorem cb_at (w : FVec Ideal S32x2048 .f32) (e : IVec S288 32) (b : Fin 288) (j : Fin 2048) (h : (e (ix1 b)).toNat < 32) :
    cb (F := Ideal) w e (ix2 b j) = w (ix2 ⟨(e (ix1 b)).toNat, h⟩ j) := by
  have hw := wrap_at 32#32 e b (by omega)
  refine (row_at (N := 32) (n := 288) (A := 2048) _ w (wrap 32#32 e) b j (by rw [hw]; exact h) (by norm_num)).trans ?_
  exact congrArg (fun n => w (ix2 n j)) (Fin.ext (congrArg BitVec.toNat hw))

/-- The first product at an index. -/
theorem hid_at (x : FVec Ideal S288x512x2048 .f32) (w : FVec Ideal S288x2048x4096 .f32) (b : FVec Ideal S288x4096 .f32) (n : Fin 288) (r : Fin 512) (j : Fin 4096) :
    hid (F := Ideal) x w b (ix3 n r j) = ∑ k : Fin 2048, x (ix3 n r k) * w (ix3 n k j) + b (ix2 n j) := by
  pointwise [hid]

/-- The activation at an index. -/
theorem acts_at (h : FVec Ideal S288x512x4096 .f32) (n : Fin 288) (r : Fin 512) (f : Fin 2048) :
    acts (F := Ideal) h (ix3 n r f) = act (h (ix3 n r ⟨2 * f.val, by omega⟩)) (h (ix3 n r ⟨1 + 2 * f.val, by omega⟩)) := by
  pointwise [acts, gate, act, Ideal.logistic, id]

/-- The second product at an index. -/
theorem outs_at (x : FVec Ideal S288x512x2048 .f32) (w : FVec Ideal S288x2048x2048 .f32) (b : FVec Ideal S288x2048 .f32) (n : Fin 288) (r : Fin 512) (j : Fin 2048) :
    outs (F := Ideal) x w b (ix3 n r j) = ∑ k : Fin 2048, x (ix3 n r k) * w (ix3 n k j) + b (ix2 n j) := by
  pointwise [outs]

/-- The result at a row and a lane. -/
theorem keep_at (u : IVec S288 32) (y : FVec Ideal S288x512x2048 .f32) (r : Fin 147456) (d : Fin 2048) :
    keep (F := Ideal) u y (ix2 r d) = if 0 < (u (ix1 ⟨r.val / 512, by omega⟩)).toInt then y (ix3 ⟨r.val / 512, by omega⟩ ⟨r.val % 512, by omega⟩ d) else 0 := by
  pointwise [keep, id]
  rw [WordCmp.cmpi_sgt_eq]
  by_cases h : 0 < (u (ix1 ⟨r.val / 512, by omega⟩)).toInt
  · rw [decide_eq_true (by simpa using h), if_pos h]; rfl
  · rw [decide_eq_false (by simpa using h), if_neg h]; rfl

/-- The experts' part at a row and a lane, its tables in range. -/
theorem whole_at (e s u : IVec S288 32) (x : FVec Ideal S147456x2048 .bf16) (w : FVec Ideal S32x2048x4096 .f32) (b : FVec Ideal S32x4096 .f32) (v : FVec Ideal S32x2048x2048 .f32) (c : FVec Ideal S32x2048 .f32)
    (n : Fin 288) (r : Fin 512) (d : Fin 2048) (he : (e (ix1 n)).toNat < 32) (hs : (s (ix1 n)).toNat < 288) :
    (whole (F := Ideal) e s u x w b v c (ix2 ⟨n.val * 512 + r.val, by omega⟩ d) : EReal)
      = if 0 < (u (ix1 n)).toInt then ∑ f : Fin 2048, mid x w b ⟨(s (ix1 n)).toNat * 512 + r.val, by omega⟩ ⟨(e (ix1 n)).toNat, he⟩ f * v (ix3 ⟨(e (ix1 n)).toNat, he⟩ f d) + c (ix2 ⟨(e (ix1 n)).toNat, he⟩ d) else 0 := by
  unfold whole
  refine (keep_at u _ ⟨n.val * 512 + r.val, by omega⟩ d).trans ?_
  have h1 : (⟨(n.val * 512 + r.val) / 512, by omega⟩ : Fin 288) = n := Fin.ext (by show (n.val * 512 + r.val) / 512 = n.val; omega)
  have h2 : (⟨(n.val * 512 + r.val) % 512, by omega⟩ : Fin 512) = r := Fin.ext (by show (n.val * 512 + r.val) % 512 = r.val; omega)
  rw [h1, h2]
  refine congrArg (fun z : EReal => if 0 < (u (ix1 n)).toInt then z else 0) ?_
  refine (outs_at _ _ _ n r d).trans ?_
  refine congrArg₂ (fun a b : EReal => a + b) (Finset.sum_congr rfl fun f _ => ?_) (cb_at c e n d he)
  refine congrArg₂ (fun a b : EReal => a * b) ?_ (vb_at v e n f d he)
  refine (acts_at _ n r f).trans ?_
  unfold mid
  have hl : ∀ j : Fin 4096, (hid (F := Ideal) (xb x s) (wb w e) (bb b e) (ix3 n r j) : EReal) = lane x w b ⟨(s (ix1 n)).toNat * 512 + r.val, by omega⟩ ⟨(e (ix1 n)).toNat, he⟩ j := fun j => by
    refine (hid_at _ _ _ n r j).trans ?_
    unfold lane
    exact congrArg₂ (fun a b : EReal => a + b) (Finset.sum_congr rfl fun k _ => congrArg₂ (fun a b : EReal => a * b) (xb_at x s n r k hs) (wb_at w e n k j he)) (bb_at b e n j he)
  exact congrArg₂ act (hl _) (hl _)

end Cert.Reference2Ideal.Ffn

end
-- ==== Proof.Kernel2IdealVal.lean ====
/-
  The values of the experts' call: its payloads and blocks read at indices.
-/
module

public import proofs.«01_k».proof.Proof.Kernel2IdealTables
public import proofs.«01_k».proof.Proof.Ref2Val
public import Idealize.ShloMosaic.Lib.Pipeline.ValueKit

@[expose] public section

set_option maxRecDepth 16384

noncomputable section

namespace Cert.Kernel2Ideal.Ffn

open Cert.Kernel2Ideal Cert.Kernel2Ideal.Gen Cert.Experts
open Idealize.ShloMosaic Idealize.ShloMosaic.TcCoe Idealize.SL.Sem

/-- A quarter's part of the second product, at a row and a lane. -/
theorem pay4_at (x : FVec Ideal S512x2048 .bf16) (wg : FVec Ideal S1x2048x512 .bf16) (bg : FVec Ideal S1x1x512 .f32) (wl : FVec Ideal S1x2048x512 .bf16) (bl : FVec Ideal S1x1x512 .f32) (v : FVec Ideal S1x512x2048 .bf16)
    (r : Fin 512) (d : Fin 2048) :
    (k0_pay4 (F := Ideal) x wg bg wl bl v (ix2 r d) : EReal)
      = ∑ j : Fin 512, act (∑ k : Fin 2048, x (ix2 r k) * wg (ix3 0 k j) + bg (ix3 0 0 j)) (∑ k : Fin 2048, x (ix2 r k) * wl (ix3 0 k j) + bl (ix3 0 0 j)) * v (ix3 0 j d) := by
  pointwise [k0_pay4, act, Ideal.logistic]

/-- The first quarter's store adds the bias. -/
theorem pay1_at (p : FVec Ideal S512x2048 .f32) (c : FVec Ideal S1x1x2048 .f32) (r : Fin 512) (d : Fin 2048) :
    (k0_pay1 (F := Ideal) p c (ix2 r d) : EReal) = p (ix2 r d) + c (ix3 0 0 d) := by
  pointwise [k0_pay1]

/-- A later quarter's store adds to the block. -/
theorem pay2_at (p y : FVec Ideal S512x2048 .f32) (r : Fin 512) (d : Fin 2048) :
    (k0_pay2 (F := Ideal) p y (ix2 r d) : EReal) = y (ix2 r d) + p (ix2 r d) := by
  pointwise [k0_pay2]

/-- An unused block's store is zero. -/
theorem pay3_at (r : Fin 512) (d : Fin 2048) : (k0_pay3 (F := Ideal) (ix2 r d) : EReal) = 0 := by
  pointwise [k0_pay3]

variable (m : (ℓ : Loc nD τ sig) → Buf (Elt Ideal) ℓ)

/-- The gate columns of the first weights. -/
theorem gates (c : Dev nD) (e : Fin 32) (k f : Fin 2048) : ((V m c main_v1 : FVec Ideal S32x2048x2048 .bf16) (ix3 e k f) : EReal) = (m ((c.tc : Thread nD τ).loc main_arg4) : FVec Ideal S32x2048x4096 .f32) (ix3 e k ⟨2 * f.val, by omega⟩) := by
  entry_read
  pointwise []

/-- The linear columns of the first weights. -/
theorem lines (c : Dev nD) (e : Fin 32) (k f : Fin 2048) : ((V m c main_v3 : FVec Ideal S32x2048x2048 .bf16) (ix3 e k f) : EReal) = (m ((c.tc : Thread nD τ).loc main_arg4) : FVec Ideal S32x2048x4096 .f32) (ix3 e k ⟨1 + 2 * f.val, by omega⟩) := by
  entry_read
  pointwise []

/-- The gate lanes of the first biases. -/
theorem gateb (c : Dev nD) (e : Fin 32) (f : Fin 2048) : ((V m c main_v5 : FVec Ideal S32x1x2048 .f32) (ix3 e 0 f) : EReal) = (m ((c.tc : Thread nD τ).loc main_arg5) : FVec Ideal S32x4096 .f32) (ix2 e ⟨2 * f.val, by omega⟩) := by
  entry_read
  pointwise []

/-- The linear lanes of the first biases. -/
theorem lineb (c : Dev nD) (e : Fin 32) (f : Fin 2048) : ((V m c main_v7 : FVec Ideal S32x1x2048 .f32) (ix3 e 0 f) : EReal) = (m ((c.tc : Thread nD τ).loc main_arg5) : FVec Ideal S32x4096 .f32) (ix2 e ⟨1 + 2 * f.val, by omega⟩) := by
  entry_read
  pointwise []

/-- The second weights. -/
theorem downs (c : Dev nD) (e : Fin 32) (f d : Fin 2048) : ((V m c main_v8 : FVec Ideal S32x2048x2048 .bf16) (ix3 e f d) : EReal) = (m ((c.tc : Thread nD τ).loc main_arg6) : FVec Ideal S32x2048x2048 .f32) (ix3 e f d) := by
  entry_read
  pointwise []

/-- The second biases. -/
theorem downb (c : Dev nD) (e : Fin 32) (d : Fin 2048) : ((V m c main_v9 : FVec Ideal S32x1x2048 .f32) (ix3 e 0 d) : EReal) = (m ((c.tc : Thread nD τ).loc main_arg7) : FVec Ideal S32x2048 .f32) (ix2 e d) := by
  entry_read
  pointwise []

variable (hO : Ok m) (c : Dev nD) (t : Fin (cfgM m hO).N)

/-- The block tables' entries of a point's row block. -/
abbrev eAt (t : Fin grid0.N) : ℕ := (T0 (tbl m) (rb (grid0.coords t))).toNat
/-- The source block of a point. -/
abbrev sAt (t : Fin grid0.N) : ℕ := (T1 (tbl m) (rb (grid0.coords t))).toNat
/-- The quarter of a point. -/
abbrev qAt (t : Fin grid0.N) : ℕ := qtr (T2 (tbl m) (rb (grid0.coords t))) (grid0.coords t)

/-- A block's place in its array, a row block of the rows. -/
theorem at_rows (S : ℕ) (hS : S < 288) (r : Fin 512) (k : Fin 2048) : ∀ a : Fin 2, (![S, 0] : Fin 2 → ℕ) a * S512x2048.size a + 1 * ((ix2 r k : S512x2048.Idx) a).val
    = ((ix2 ⟨S * 512 + r.val, by omega⟩ k : S147456x2048.Idx) a).val := by
  intro a
  fin_cases a
  · show S * 512 + 1 * r.val = S * 512 + r.val; omega
  · show 0 * 2048 + 1 * k.val = k.val; omega

/-- A quarter of the columns of an expert's first weights. -/
theorem at_cols (E Q : ℕ) (hE : E < 32) (hQ : Q < 4) (k : Fin 2048) (j : Fin 512) : ∀ a : Fin 3, (![E, 0, Q] : Fin 3 → ℕ) a * S1x2048x512.size a + 1 * ((ix3 0 k j : S1x2048x512.Idx) a).val
    = ((ix3 ⟨E, hE⟩ k ⟨Q * 512 + j.val, by omega⟩ : S32x2048x2048.Idx) a).val := by
  intro a
  fin_cases a
  · show E * 1 + 1 * 0 = E; omega
  · show 0 * 2048 + 1 * k.val = k.val; omega
  · show Q * 512 + 1 * j.val = Q * 512 + j.val; omega

/-- A quarter of an expert's first biases. -/
theorem at_lanes (E Q : ℕ) (hE : E < 32) (hQ : Q < 4) (j : Fin 512) : ∀ a : Fin 3, (![E, 0, Q] : Fin 3 → ℕ) a * S1x1x512.size a + 1 * ((ix3 0 0 j : S1x1x512.Idx) a).val
    = ((ix3 ⟨E, hE⟩ 0 ⟨Q * 512 + j.val, by omega⟩ : S32x1x2048.Idx) a).val := by
  intro a
  fin_cases a
  · show E * 1 + 1 * 0 = E; omega
  · show 0 * 1 + 1 * 0 = 0; omega
  · show Q * 512 + 1 * j.val = Q * 512 + j.val; omega

/-- A quarter of the rows of an expert's second weights. -/
theorem at_downs (E Q : ℕ) (hE : E < 32) (hQ : Q < 4) (j : Fin 512) (d : Fin 2048) : ∀ a : Fin 3, (![E, Q, 0] : Fin 3 → ℕ) a * S1x512x2048.size a + 1 * ((ix3 0 j d : S1x512x2048.Idx) a).val
    = ((ix3 ⟨E, hE⟩ ⟨Q * 512 + j.val, by omega⟩ d : S32x2048x2048.Idx) a).val := by
  intro a
  fin_cases a
  · show E * 1 + 1 * 0 = E; omega
  · show Q * 512 + 1 * j.val = Q * 512 + j.val; omega
  · show 0 * 2048 + 1 * d.val = d.val; omega

/-- An expert's second biases. -/
theorem at_downb (E : ℕ) (hE : E < 32) (d : Fin 2048) : ∀ a : Fin 3, (![E, 0, 0] : Fin 3 → ℕ) a * S1x1x2048.size a + 1 * ((ix3 0 0 d : S1x1x2048.Idx) a).val
    = ((ix3 ⟨E, hE⟩ 0 d : S32x1x2048.Idx) a).val := by
  intro a
  fin_cases a
  · show E * 1 + 1 * 0 = E; omega
  · show 0 * 1 + 1 * 0 = 0; omega
  · show 0 * 2048 + 1 * d.val = d.val; omega

/-- Where window 0's block lies. -/
theorem emb0 (y : S512x2048.Idx) (a : Fin S147456x2048.rank) : ((((cfgM m hO).win 0).blk t).view.emb y a : ℕ) = cc0_transform_0 k0_off1_inb numel1_S1 (tbl m) (grid0.coords t) a * S512x2048.size a + 1 * (y a).val := rfl

/-- The rows' block. -/
theorem blk0 (hs : sAt m t < 288) (r : Fin 512) (k : Fin 2048) : ((iblk m hO c 0 t : FVec Ideal S512x2048 .bf16) (ix2 r k) : EReal)
    = (V m c main_arg3 : FVec Ideal S147456x2048 .bf16) (ix2 ⟨sAt m t * 512 + r.val, by omega⟩ k) := by
  refine congrArg (V m c main_arg3 : FVec Ideal S147456x2048 .bf16) (funext fun a => Fin.ext ?_)
  refine (emb0 m hO t (ix2 r k) a).trans ?_
  rw [tr0 (tbl m) (grid0.coords t)]
  exact at_rows _ hs r k a

/-- Where window 1's block lies. -/
theorem emb1 (y : S1x2048x512.Idx) (a : Fin S32x2048x2048.rank) : ((((cfgM m hO).win 1).blk t).view.emb y a : ℕ) = cc0_transform_1 k0_off1_inb numel1_S1 (tbl m) (grid0.coords t) a * S1x2048x512.size a + 1 * (y a).val := rfl

/-- The gate columns' block. -/
theorem blk1 (he : eAt m t < 32) (hq : qAt m t < 4) (k : Fin 2048) (j : Fin 512) : ((iblk m hO c 1 t : FVec Ideal S1x2048x512 .bf16) (ix3 0 k j) : EReal)
    = (V m c main_v1 : FVec Ideal S32x2048x2048 .bf16) (ix3 ⟨eAt m t, he⟩ k ⟨qAt m t * 512 + j.val, by omega⟩) := by
  refine congrArg (V m c main_v1 : FVec Ideal S32x2048x2048 .bf16) (funext fun a => Fin.ext ?_)
  refine (emb1 m hO t (ix3 0 k j) a).trans ?_
  rw [tr1 (tbl m) (grid0.coords t)]
  exact at_cols _ _ he hq k j a

/-- Where window 2's block lies. -/
theorem emb2 (y : S1x2048x512.Idx) (a : Fin S32x2048x2048.rank) : ((((cfgM m hO).win 2).blk t).view.emb y a : ℕ) = cc0_transform_2 k0_off1_inb numel1_S1 (tbl m) (grid0.coords t) a * S1x2048x512.size a + 1 * (y a).val := rfl

/-- The linear columns' block. -/
theorem blk2 (he : eAt m t < 32) (hq : qAt m t < 4) (k : Fin 2048) (j : Fin 512) : ((iblk m hO c 2 t : FVec Ideal S1x2048x512 .bf16) (ix3 0 k j) : EReal)
    = (V m c main_v3 : FVec Ideal S32x2048x2048 .bf16) (ix3 ⟨eAt m t, he⟩ k ⟨qAt m t * 512 + j.val, by omega⟩) := by
  refine congrArg (V m c main_v3 : FVec Ideal S32x2048x2048 .bf16) (funext fun a => Fin.ext ?_)
  refine (emb2 m hO t (ix3 0 k j) a).trans ?_
  rw [tr2 (tbl m) (grid0.coords t)]
  exact at_cols _ _ he hq k j a

/-- Where window 3's block lies. -/
theorem emb3 (y : S1x1x512.Idx) (a : Fin S32x1x2048.rank) : ((((cfgM m hO).win 3).blk t).view.emb y a : ℕ) = cc0_transform_3 k0_off1_inb numel1_S1 (tbl m) (grid0.coords t) a * S1x1x512.size a + 1 * (y a).val := rfl

/-- The gate lanes' block of the first biases. -/
theorem blk3 (he : eAt m t < 32) (hq : qAt m t < 4) (j : Fin 512) : ((iblk m hO c 3 t : FVec Ideal S1x1x512 .f32) (ix3 0 0 j) : EReal)
    = (V m c main_v5 : FVec Ideal S32x1x2048 .f32) (ix3 ⟨eAt m t, he⟩ 0 ⟨qAt m t * 512 + j.val, by omega⟩) := by
  refine congrArg (V m c main_v5 : FVec Ideal S32x1x2048 .f32) (funext fun a => Fin.ext ?_)
  refine (emb3 m hO t (ix3 0 0 j) a).trans ?_
  rw [tr3 (tbl m) (grid0.coords t)]
  exact at_lanes _ _ he hq j a

/-- Where window 4's block lies. -/
theorem emb4 (y : S1x1x512.Idx) (a : Fin S32x1x2048.rank) : ((((cfgM m hO).win 4).blk t).view.emb y a : ℕ) = cc0_transform_4 k0_off1_inb numel1_S1 (tbl m) (grid0.coords t) a * S1x1x512.size a + 1 * (y a).val := rfl

/-- The linear lanes' block of the first biases. -/
theorem blk4 (he : eAt m t < 32) (hq : qAt m t < 4) (j : Fin 512) : ((iblk m hO c 4 t : FVec Ideal S1x1x512 .f32) (ix3 0 0 j) : EReal)
    = (V m c main_v7 : FVec Ideal S32x1x2048 .f32) (ix3 ⟨eAt m t, he⟩ 0 ⟨qAt m t * 512 + j.val, by omega⟩) := by
  refine congrArg (V m c main_v7 : FVec Ideal S32x1x2048 .f32) (funext fun a => Fin.ext ?_)
  refine (emb4 m hO t (ix3 0 0 j) a).trans ?_
  rw [tr4 (tbl m) (grid0.coords t)]
  exact at_lanes _ _ he hq j a

/-- Where window 5's block lies. -/
theorem emb5 (y : S1x512x2048.Idx) (a : Fin S32x2048x2048.rank) : ((((cfgM m hO).win 5).blk t).view.emb y a : ℕ) = cc0_transform_5 k0_off1_inb numel1_S1 (tbl m) (grid0.coords t) a * S1x512x2048.size a + 1 * (y a).val := rfl

/-- The second weights' block. -/
theorem blk5 (he : eAt m t < 32) (hq : qAt m t < 4) (j : Fin 512) (d : Fin 2048) : ((iblk m hO c 5 t : FVec Ideal S1x512x2048 .bf16) (ix3 0 j d) : EReal)
    = (V m c main_v8 : FVec Ideal S32x2048x2048 .bf16) (ix3 ⟨eAt m t, he⟩ ⟨qAt m t * 512 + j.val, by omega⟩ d) := by
  refine congrArg (V m c main_v8 : FVec Ideal S32x2048x2048 .bf16) (funext fun a => Fin.ext ?_)
  refine (emb5 m hO t (ix3 0 j d) a).trans ?_
  rw [tr5 (tbl m) (grid0.coords t)]
  exact at_downs _ _ he hq j d a

/-- Where window 6's block lies. -/
theorem emb6 (y : S1x1x2048.Idx) (a : Fin S32x1x2048.rank) : ((((cfgM m hO).win 6).blk t).view.emb y a : ℕ) = cc0_transform_6 k0_off1_inb numel1_S1 (tbl m) (grid0.coords t) a * S1x1x2048.size a + 1 * (y a).val := rfl

/-- The second biases' block. -/
theorem blk6 (he : eAt m t < 32) (d : Fin 2048) : ((iblk m hO c 6 t : FVec Ideal S1x1x2048 .f32) (ix3 0 0 d) : EReal)
    = (V m c main_v9 : FVec Ideal S32x1x2048 .f32) (ix3 ⟨eAt m t, he⟩ 0 d) := by
  refine congrArg (V m c main_v9 : FVec Ideal S32x1x2048 .f32) (funext fun a => Fin.ext ?_)
  refine (emb6 m hO t (ix3 0 0 d) a).trans ?_
  rw [tr6 (tbl m) (grid0.coords t)]
  exact at_downb _ he d a

/-- The quarter of the hidden axis a point adds, of its arguments. -/
theorem part_at (hs : sAt m t < 288) (he : eAt m t < 32) (hq : qAt m t < 4) (r : Fin 512) (d : Fin 2048) :
    (partAt m hO c t (ix2 r d) : EReal) = ∑ j : Fin 512,
      mid (m ((c.tc : Thread nD τ).loc main_arg3)) (m ((c.tc : Thread nD τ).loc main_arg4)) (m ((c.tc : Thread nD τ).loc main_arg5)) ⟨sAt m t * 512 + r.val, by omega⟩ ⟨eAt m t, he⟩ ⟨qAt m t * 512 + j.val, by omega⟩
        * (m ((c.tc : Thread nD τ).loc main_arg6) : FVec Ideal S32x2048x2048 .f32) (ix3 ⟨eAt m t, he⟩ ⟨qAt m t * 512 + j.val, by omega⟩ d) := by
  unfold partAt part
  refine (pay4_at _ _ _ _ _ _ r d).trans (Finset.sum_congr rfl fun j _ => ?_)
  refine congrArg₂ (fun a b : EReal => a * b) ?_ ((blk5 m hO c t he hq j d).trans (downs m c _ _ d))
  unfold mid lane
  refine congrArg₂ act ?_ ?_
  · refine congrArg₂ (fun a b : EReal => a + b) (Finset.sum_congr rfl fun k _ => ?_) ((blk3 m hO c t he hq j).trans (gateb m c _ _))
    exact congrArg₂ (fun a b : EReal => a * b) ((blk0 m hO c t hs r k).trans (congrFun (V_main_arg3 m c) _)) ((blk1 m hO c t he hq k j).trans (gates m c _ k _))
  · refine congrArg₂ (fun a b : EReal => a + b) (Finset.sum_congr rfl fun k _ => ?_) ((blk4 m hO c t he hq j).trans (lineb m c _ _))
    exact congrArg₂ (fun a b : EReal => a * b) ((blk0 m hO c t hs r k).trans (congrFun (V_main_arg3 m c) _)) ((blk2 m hO c t he hq k j).trans (lines m c _ k _))

end Cert.Kernel2Ideal.Ffn

end
-- ==== Proof.Kernel2IdealFinal.lean ====
/-
  The result array of the experts' call: the reference's experts' part of the arguments.
-/
module

public import proofs.«01_k».proof.Proof.Kernel2IdealVal

@[expose] public section

set_option maxRecDepth 16384

noncomputable section

namespace Cert.Kernel2Ideal.Ffn

open Cert.Kernel2Ideal Cert.Kernel2Ideal.Gen Cert.Experts
open Idealize.ShloMosaic Idealize.ShloMosaic.TcCoe Idealize.SL.Sem
open Idealize.ShloMosaic.Pipeline (Dat)

variable (m : (ℓ : Loc nD τ sig) → Buf (Elt Ideal) ℓ) (hO : Ok m) (c : Dev nD)

/-- The grid has 1152 points. -/
theorem points : grid0.N = 1152 := by decide +kernel

/-- The point of row block `b` and quarter `q`. -/
def pt (b : Fin 288) (q : Fin 4) : Fin grid0.N := ⟨4 * b.val + q.val, by rw [points]; omega⟩

/-- The point of block `b` and quarter `q` lies in row block `b`. -/
theorem pt_rb (b : Fin 288) (q : Fin 4) : rb (grid0.coords (pt b q)) = b := by
  refine Fin.ext ((coord0 (pt b q)).trans ?_)
  show (4 * b.val + q.val) / 4 % 288 = b.val
  omega

/-- Its second coordinate is the quarter. -/
theorem pt_qtr (b : Fin 288) (q : Fin 4) : (grid0.coords (pt b q) 1).val = q.val := by
  refine (coord1 (pt b q)).trans ?_
  show (4 * b.val + q.val) % 4 = q.val
  omega

/-- The quarter a point of a used block fetches. -/
theorem qAt_pt (b : Fin 288) (q : Fin 4) (hu : 0 < (T2 (tbl m) b).toInt) : qAt m (pt b q) = q.val := by
  unfold qAt qtr
  rw [pt_rb, if_pos hu, pt_qtr]

/-- A lane of a row's second product before its sum over the hidden axis. -/
def term (b : Fin 288) (r : Fin 512) (d : Fin 2048) (hs : (T1 (tbl m) b).toNat < 288) (he : (T0 (tbl m) b).toNat < 32) (f : Fin 2048) : EReal :=
  mid (m ((c.tc : Thread nD τ).loc main_arg3)) (m ((c.tc : Thread nD τ).loc main_arg4)) (m ((c.tc : Thread nD τ).loc main_arg5)) ⟨(T1 (tbl m) b).toNat * 512 + r.val, by omega⟩ ⟨(T0 (tbl m) b).toNat, he⟩ f
    * (m ((c.tc : Thread nD τ).loc main_arg6) : FVec Ideal S32x2048x2048 .f32) (ix3 ⟨(T0 (tbl m) b).toNat, he⟩ f d)

/-- A used block's quarter. -/
theorem part_pt (b : Fin 288) (q : Fin 4) (r : Fin 512) (d : Fin 2048) (hs : (T1 (tbl m) b).toNat < 288) (he : (T0 (tbl m) b).toNat < 32) (hu : 0 < (T2 (tbl m) b).toInt) :
    (partAt m hO c (pt b q) (ix2 r d) : EReal) = ∑ j : Fin 512, term m c b r d hs he ⟨q.val * 512 + j.val, by omega⟩ := by
  have e0 : eAt m (pt b q) = (T0 (tbl m) b).toNat := by unfold eAt; rw [pt_rb]
  have e1 : sAt m (pt b q) = (T1 (tbl m) b).toNat := by unfold sAt; rw [pt_rb]
  have e2 := qAt_pt m b q hu
  refine (part_at m hO c (pt b q) (by omega) (by omega) (by omega) r d).trans (Finset.sum_congr rfl fun j _ => ?_)
  unfold term
  have i1 : (⟨sAt m (pt b q) * 512 + r.val, by omega⟩ : Fin 147456) = ⟨(T1 (tbl m) b).toNat * 512 + r.val, by omega⟩ := Fin.ext (by show sAt m (pt b q) * 512 + r.val = _; rw [e1])
  have i2 : (⟨eAt m (pt b q), by omega⟩ : Fin 32) = ⟨(T0 (tbl m) b).toNat, he⟩ := Fin.ext e0
  have i3 : (⟨qAt m (pt b q) * 512 + j.val, by omega⟩ : Fin 2048) = ⟨q.val * 512 + j.val, by omega⟩ := Fin.ext (by show qAt m (pt b q) * 512 + j.val = _; rw [e2])
  rw [i1, i2, i3]

/-- A used block's bias. -/
theorem bias_pt (b : Fin 288) (q : Fin 4) (d : Fin 2048) (he : (T0 (tbl m) b).toNat < 32) :
    ((iblk m hO c 6 (pt b q) : FVec Ideal S1x1x2048 .f32) (ix3 0 0 d) : EReal) = (m ((c.tc : Thread nD τ).loc main_arg7) : FVec Ideal S32x2048 .f32) (ix2 ⟨(T0 (tbl m) b).toNat, he⟩ d) := by
  have e0 : eAt m (pt b q) = (T0 (tbl m) b).toNat := by unfold eAt; rw [pt_rb]
  have i2 : (⟨eAt m (pt b q), by omega⟩ : Fin 32) = ⟨(T0 (tbl m) b).toNat, he⟩ := Fin.ext e0
  refine (blk6 m hO c (pt b q) (by omega) d).trans ((downb m c _ d).trans ?_)
  rw [i2]

/-- The mark that the point reads is the entry of its block. -/
theorem word_pt (b : Fin 288) (q : Fin 4) : word (tbl m 2) (grid0.coords (pt b q)) = T2 (tbl m) b :=
  (word_eq (tbl m) (grid0.coords (pt b q))).trans (by rw [pt_rb])

/-- The bias may be added last. -/
theorem add_four (p q r s z : EReal) : p + z + q + r + s = p + q + r + s + z := by abel

/-- Four quarters and a bias, in the order the points add them. -/
theorem quarters (f : Fin 2048 → EReal) (z : EReal) :
    (∑ j : Fin 512, f ⟨(0 : Fin 4).val * 512 + j.val, by omega⟩) + z + (∑ j : Fin 512, f ⟨(1 : Fin 4).val * 512 + j.val, by omega⟩) + (∑ j : Fin 512, f ⟨(2 : Fin 4).val * 512 + j.val, by omega⟩)
      + (∑ j : Fin 512, f ⟨(3 : Fin 4).val * 512 + j.val, by omega⟩) = (∑ k : Fin 2048, f k) + z :=
  (add_four _ _ _ _ z).trans (congrArg (· + z) ((Fin.sum_univ_four fun q : Fin 4 => ∑ j : Fin 512, f ⟨q.val * 512 + j.val, by omega⟩).symm.trans (Fin.sum_univ_tiles 4 512 (by norm_num) f).symm))

/-- A used block after its four quarters. -/
theorem used (b : Fin 288) (r : Fin 512) (d : Fin 2048) (hs : (T1 (tbl m) b).toNat < 288) (he : (T0 (tbl m) b).toNat < 32) (hu : 0 < (T2 (tbl m) b).toInt) :
    (outsN m hO c (pt b 3).val (ix2 r d) : EReal) = ∑ f : Fin 2048, term m c b r d hs he f + (m ((c.tc : Thread nD τ).loc main_arg7) : FVec Ideal S32x2048 .f32) (ix2 ⟨(T0 (tbl m) b).toNat, he⟩ d) := by
  have hw : ∀ q, 0 < (word (tbl m 2) (grid0.coords (pt b q))).toInt := fun q => by rw [word_pt]; exact hu
  have hm : ∀ q : Fin 4, (pt b q).val % 4 = q.val := fun q => by show (4 * b.val + q.val) % 4 = q.val; omega
  have s0 : (outsN m hO c (pt b 0).val (ix2 r d) : EReal) = partAt m hO c (pt b 0) (ix2 r d) + (m ((c.tc : Thread nD τ).loc main_arg7) : FVec Ideal S32x2048 .f32) (ix2 ⟨(T0 (tbl m) b).toNat, he⟩ d) :=
    (congrFun (outs_first m hO c (pt b 0) (hw 0) (hm 0)) (ix2 r d)).trans ((pay1_at _ _ r d).trans (congrArg (fun z : EReal => (partAt m hO c (pt b 0) (ix2 r d) : EReal) + z) (bias_pt m hO c b 0 d he)))
  have s1 : (outsN m hO c (pt b 1).val (ix2 r d) : EReal) = outsN m hO c (pt b 0).val (ix2 r d) + partAt m hO c (pt b 1) (ix2 r d) :=
    (congrFun (outs_later m hO c (pt b 1) (hw 1) (by rw [hm]; decide)) (ix2 r d)).trans (pay2_at _ _ r d)
  have s2 : (outsN m hO c (pt b 2).val (ix2 r d) : EReal) = outsN m hO c (pt b 1).val (ix2 r d) + partAt m hO c (pt b 2) (ix2 r d) :=
    (congrFun (outs_later m hO c (pt b 2) (hw 2) (by rw [hm]; decide)) (ix2 r d)).trans (pay2_at _ _ r d)
  have s3 : (outsN m hO c (pt b 3).val (ix2 r d) : EReal) = outsN m hO c (pt b 2).val (ix2 r d) + partAt m hO c (pt b 3) (ix2 r d) :=
    (congrFun (outs_later m hO c (pt b 3) (hw 3) (by rw [hm]; decide)) (ix2 r d)).trans (pay2_at _ _ r d)
  rw [s3, s2, s1, s0]
  refine Eq.trans ?_ (quarters (term m c b r d hs he) _)
  exact congrArg₂ (fun a b : EReal => a + b) (congrArg₂ (fun a b : EReal => a + b) (congrArg₂ (fun a b : EReal => a + b) (congrArg (fun a : EReal => a + _) (part_pt m hO c b 0 r d hs he hu))
    (part_pt m hO c b 1 r d hs he hu)) (part_pt m hO c b 2 r d hs he hu)) (part_pt m hO c b 3 r d hs he hu)

/-- An unused block after its four points. -/
theorem unused (b : Fin 288) (r : Fin 512) (d : Fin 2048) (hu : T2 (tbl m) b = 0#32) : (outsN m hO c (pt b 3).val (ix2 r d) : EReal) = 0 := by
  have hw : ∀ q, word (tbl m 2) (grid0.coords (pt b q)) = 0#32 := fun q => (word_pt m b q).trans hu
  have hm : ∀ q : Fin 4, (pt b q).val % 4 = q.val := fun q => by show (4 * b.val + q.val) % 4 = q.val; omega
  have s0 := outs_zero m hO c (pt b 0) (hw 0) (hm 0)
  have s1 : outsN m hO c (pt b 1).val = outsN m hO c (pt b 0).val := outs_idle m hO c (pt b 1) (hw 1) (by rw [hm]; decide)
  have s2 : outsN m hO c (pt b 2).val = outsN m hO c (pt b 1).val := outs_idle m hO c (pt b 2) (hw 2) (by rw [hm]; decide)
  have s3 : outsN m hO c (pt b 3).val = outsN m hO c (pt b 2).val := outs_idle m hO c (pt b 3) (hw 3) (by rw [hm]; decide)
  rw [s3, s2, s1, s0]
  exact pay3_at r d

/-- Where the result's block lies. -/
theorem emb7 (t : Fin (cfgM m hO).N) (y : S512x2048.Idx) (a : Fin S147456x2048.rank) : ((((cfgM m hO).win 7).blk t).view.emb y a : ℕ) = cc0_transform_7 (grid0.coords t) a * S512x2048.size a + 1 * (y a).val := rfl

/-- The result's index map names the row block. -/
theorem tr7 (i : grid0.Coords) : cc0_transform_7 i = ![(i 0).val, 0] := by
  have h : (i 0).val < 288 := (i 0).isLt
  change ![(BitVec.ofNat 32 (i 0).val).toNat, 0] = _
  rw [BitVec.toNat_ofNat, Nat.mod_eq_of_lt (by omega)]

/-- A row of the block that the last point writes, in the result. -/
theorem emb7_pt (b : Fin 288) (r : Fin 512) (d : Fin 2048) :
    (((cfgM m hO).win 7).blk (pt b 3)).view.emb (ix2 r d : S512x2048.Idx) = (ix2 ⟨b.val * 512 + r.val, by omega⟩ d : S147456x2048.Idx) := by
  refine funext fun a => Fin.ext ((emb7 m hO (pt b 3) (ix2 r d) a).trans ?_)
  have e : (grid0.coords (pt b 3) 0).val = b.val := congrArg Fin.val (pt_rb b 3)
  rw [tr7, e]
  exact at_rows b.val b.isLt r d a

/-- A block's row lies in the result. -/
theorem row_lt (b : Fin 288) (r : Fin 512) : b.val * 512 + r.val < 147456 := by omega

/-- Every entry of a block's rows lies in the block that its last point writes. -/
theorem in_blk (b : Fin 288) (r : Fin 512) (d : Fin 2048) :
    (ix2 ⟨b.val * 512 + r.val, by omega⟩ d : S147456x2048.Idx) ∈ (((cfgM m hO).win 7).blk (pt b 3)).view.set := by
  have h := View.emb_mem_set (((cfgM m hO).win 7).blk (pt b 3)).view (ix2 r d : S512x2048.Idx)
  rw [emb7_pt] at h
  exact h

open Cert.Reference2Ideal.Ffn in
/-- The result array after the run, the tables in range. -/
theorem final (hR : InRange (tbl m)) : (dats m hO 0 c).arrAt 7 (cfgM m hO).N
    = whole (F := Ideal) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  obtain rfl : c = 0 := Subsingleton.elim _ _
  have e0 : ∀ b, T0 (tbl m) b = (m ((0 : Dev nD).tc.loc main_arg0) : S288.Idx → BitVec 32) (ix1 b) := fun b => congrFun (V_main_arg0 m 0) (ix1 b)
  have e1 : ∀ b, T1 (tbl m) b = (m ((0 : Dev nD).tc.loc main_arg1) : S288.Idx → BitVec 32) (ix1 b) := fun b => congrFun (V_main_arg1 m 0) (ix1 b)
  have e2 : ∀ b, T2 (tbl m) b = (m ((0 : Dev nD).tc.loc main_arg2) : S288.Idx → BitVec 32) (ix1 b) := fun b => congrFun (V_main_arg2 m 0) (ix1 b)
  refine (dats m hO 0 0).arrAt_eq_of_emb 7 _ (fun t hf y => ?_) (fun i => ?_)
  · have ht := (flush7 (adm m hO) t).mp hf
    have hlt : t.val < 1152 := t.isLt.trans_eq points
    obtain ⟨b, rfl⟩ : ∃ b : Fin 288, t = pt b 3 := ⟨⟨t.val / 4, by omega⟩, Fin.ext (by show t.val = 4 * (t.val / 4) + 3; omega)⟩
    change S512x2048.Idx at y
    obtain ⟨r, d, rfl⟩ : ∃ (r : Fin 512) (d : Fin 2048), y = ix2 r d := ⟨y 0, y 1, funext fun a => by fin_cases a <;> rfl⟩
    rw [emb7_pt]
    refine Eq.trans (b := (outsN m hO 0 (pt b 3).val (ix2 r d) : EReal)) (congrFun (after7 m hO 0 (pt b 3)) (ix2 r d)) ?_
    have hs := hR.s b; have he := hR.e b; have hu := hR.u b
    refine Eq.trans ?_ (whole_at _ _ _ _ _ _ _ _ b r d (by rw [← e0]; exact he) (by rw [← e1]; exact hs)).symm
    rw [← e2]
    by_cases h : 0 < (T2 (tbl m) b).toInt
    · rw [if_pos h]
      refine (used m hO 0 b r d hs he h).trans ?_
      unfold term
      simp only [e0, e1]
    · rw [if_neg h]
      exact unused m hO 0 b r d ((zero_iff _ hu).mpr h)
  · change S147456x2048.Idx at i
    have h0 : (i 0).val < 147456 := (i 0).isLt
    obtain ⟨b, r, d, rfl⟩ : ∃ (b : Fin 288) (r : Fin 512) (d : Fin 2048), i = (ix2 ⟨b.val * 512 + r.val, row_lt b r⟩ d : S147456x2048.Idx) := by
      refine ⟨⟨(i 0).val / 512, by omega⟩, ⟨(i 0).val % 512, by omega⟩, i 1, funext fun a => ?_⟩
      fin_cases a
      · exact Fin.ext (by show (i 0).val = (i 0).val / 512 * 512 + (i 0).val % 512; omega)
      · rfl
    exact ⟨pt b 3, (flush7 (adm m hO) _).mpr (by show (4 * b.val + 3) % 4 = 3; omega), in_blk m hO b r d⟩

end Cert.Kernel2Ideal.Ffn

end
-- ==== Proof.Ref3Val.lean ====
/-
  The reference of the output projection: its two results read at a row and a lane.
-/
module

public import proofs.«01_k».proof.Proof.Gen.Reference3Ideal.Run
public import Idealize.ShloMosaic.Lib.Pointwise
public import Idealize.ShloMosaic.Lib.Pipeline.Value

@[expose] public section

set_option maxRecDepth 16384

noncomputable section

namespace Cert.Projection

open Idealize.ShloMosaic Idealize.SL.Sem

/-- A row of the first half's lanes lies in the projection's rows. -/
theorem low_lt (k : Fin 1024) : k.val < 2048 := by omega
/-- A row of the second half's lanes lies in the projection's rows. -/
theorem high_lt (k : Fin 1024) : 1024 + k.val < 2048 := by omega

/-- Lane `d` of row `r`: the residual and the two mixers' lanes through the projection. -/
def proj {n : ℕ} (f a : FVec Ideal ⟨2, ![n, 1024]⟩ .bf16) (x : FVec Ideal ⟨2, ![n, 2048]⟩ .f32) (w : Fin 2048 → Fin 2048 → EReal) (r : Fin n) (d : Fin 2048) : EReal :=
  x (ix2 r d) + (∑ k : Fin 1024, f (ix2 r k) * w ⟨k.val, low_lt k⟩ d + ∑ k : Fin 1024, a (ix2 r k) * w ⟨1024 + k.val, high_lt k⟩ d)

/-- Lane `d` of a row over its root mean square, times the gain. -/
def scaled (y : Fin 2048 → EReal) (g : EReal) (d : Fin 2048) : EReal :=
  y d * Ideal.rsqrt (Ideal.div (∑ k : Fin 2048, y k * y k) (Ideal.ofBits .f32 0x45000000#32) + Ideal.ofBits .f32 0x3727C5AC#32) * g

end Cert.Projection

namespace Cert.Reference3Ideal.Out

open Cert.Reference3Ideal Cert.Reference3Ideal.Gen Cert.Projection
open Idealize.ShloMosaic Idealize.ShloMosaic.TcCoe Idealize.SL.Sem

variable {F : FTy → Type} [FloatOps F]

/-- The two mixers' lanes side by side. -/
def joined (f a : FVec F S32768x1024 .bf16) : FVec F S32768x2048 .bf16 :=
  concatenate S32768x2048 1 [⟨S32768x1024, f⟩, ⟨S32768x1024, a⟩] concatenates_S32768x1024_S32768x1024_S32768x2048_d1

/-- The residual and the projection of the joined lanes. -/
def resid (j : FVec F S32768x2048 .bf16) (x : FVec F S32768x2048 .f32) (w : FVec F S2048x2048 .f32) : FVec F S32768x2048 .f32 :=
  addf x (Host.dotGeneral dot_S32768x2048_S2048x2048_S32768x2048_1_0_0_1_n_n none (extf .f32 j bitsLt_bf16_f32) w)

/-- The rows over their root mean squares, times the gain. -/
def rows (y : FVec F S32768x2048 .f32) (g : FVec F S2048 .f32) : FVec F S32768x2048 .bf16 :=
  truncf .bf16 (mulf (mulf y (broadcastInDim S32768x2048 ![0, 1] bcast_S32768x1_S32768x2048_0_1 (Host.rsqrt (addf (Host.divf (broadcastInDim S32768x1 ![0] bcast_S32768_S32768x1_0 (Host.reduceAdd (mulf y y) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 g))) bitsLt_bf16_f32

/-- The first half of the joined lanes. -/
theorem joined_left (f a : FVec Ideal S32768x1024 .bf16) (r : Fin 32768) (k : Fin 1024) : joined (F := Ideal) f a (ix2 r ⟨k.val, low_lt k⟩) = f (ix2 r k) := by
  refine concatenate_pair_apply_left (t := S32768x2048) 1 f a concatenates_S32768x1024_S32768x1024_S32768x2048_d1 (ix2 r ⟨k.val, low_lt k⟩) rfl (ix2 r k) fun b => ?_
  fin_cases b <;> rfl

/-- The second half of the joined lanes. -/
theorem joined_right (f a : FVec Ideal S32768x1024 .bf16) (r : Fin 32768) (k : Fin 1024) : joined (F := Ideal) f a (ix2 r ⟨1024 + k.val, high_lt k⟩) = a (ix2 r k) := by
  refine concatenate_pair_apply_right (t := S32768x2048) 1 f a concatenates_S32768x1024_S32768x1024_S32768x2048_d1 (ix2 r ⟨1024 + k.val, high_lt k⟩) rfl rfl (ix2 r k) (fun b hb => ?_) ?_
  · fin_cases b
    · rfl
    · exact absurd rfl hb
  · show k.val + 1024 = 1024 + k.val; omega

/-- The residual row, over the joined lanes. -/
theorem resid_at (j : FVec Ideal S32768x2048 .bf16) (x : FVec Ideal S32768x2048 .f32) (w : FVec Ideal S2048x2048 .f32) (r : Fin 32768) (d : Fin 2048) :
    (resid (F := Ideal) j x w (ix2 r d) : EReal) = x (ix2 r d) + ∑ k : Fin 2048, j (ix2 r k) * w (ix2 k d) := by
  pointwise [resid]

/-- A sum over both halves of the lanes. -/
theorem halves (g : Fin 2048 → EReal) : ∑ k : Fin 2048, g k = ∑ k : Fin 1024, g ⟨k.val, low_lt k⟩ + ∑ k : Fin 1024, g ⟨1024 + k.val, high_lt k⟩ :=
  Fin.sum_univ_add (a := 1024) (b := 1024) g

/-- The first result, at a row and a lane. -/
theorem first_at (f a : FVec Ideal S32768x1024 .bf16) (x : FVec Ideal S32768x2048 .f32) (w : FVec Ideal S2048x2048 .f32) (r : Fin 32768) (d : Fin 2048) :
    (resid (F := Ideal) (joined f a) x w (ix2 r d) : EReal) = proj f a x (fun k d => w (ix2 k d)) r d := by
  refine (resid_at _ x w r d).trans ((congrArg (fun z : EReal => (x (ix2 r d) : EReal) + z) (halves _)).trans ?_)
  unfold proj
  refine congrArg (fun z : EReal => (x (ix2 r d) : EReal) + z) (congrArg₂ (fun p q : EReal => p + q) (Finset.sum_congr rfl fun k _ => ?_) (Finset.sum_congr rfl fun k _ => ?_))
  · exact congrArg (fun z : EReal => z * w (ix2 ⟨k.val, low_lt k⟩ d)) (joined_left f a r k)
  · exact congrArg (fun z : EReal => z * w (ix2 ⟨1024 + k.val, high_lt k⟩ d)) (joined_right f a r k)

/-- The second result, at a row and a lane. -/
theorem rows_at (y : FVec Ideal S32768x2048 .f32) (g : FVec Ideal S2048 .f32) (r : Fin 32768) (d : Fin 2048) :
    (rows (F := Ideal) y g (ix2 r d) : EReal) = scaled (fun k => y (ix2 r k)) (g (ix1 d)) d := by
  pointwise [rows, scaled]

end Cert.Reference3Ideal.Out

end
-- ==== Proof.Kernel3IdealVal.lean ====
/-
  The values of the output projection's call: its payloads and blocks read at indices.
-/
module

public import proofs.«01_k».proof.Proof.Gen.Kernel3Ideal.Value
public import proofs.«01_k».proof.Proof.Ref3Val
public import Idealize.ShloMosaic.Lib.Pipeline.ValueKit

@[expose] public section

set_option maxRecDepth 16384

noncomputable section

namespace Cert.Kernel3Ideal.Out

open Cert.Kernel3Ideal Cert.Kernel3Ideal.Gen Cert.Projection
open Idealize.ShloMosaic Idealize.ShloMosaic.TcCoe Idealize.SL.Sem

/-- The stored sum, at a row and a lane of the block. -/
theorem pay3_at (f : FVec Ideal S512x1024 .bf16) (w : FVec Ideal S1024x2048 .bf16) (a : FVec Ideal S512x1024 .bf16) (u : FVec Ideal S1024x2048 .bf16) (x : FVec Ideal S512x2048 .f32) (r : Fin 512) (d : Fin 2048) :
    (k0_pay3 (F := Ideal) f w a u x (ix2 r d) : EReal) = x (ix2 r d) + (∑ k : Fin 1024, f (ix2 r k) * w (ix2 k d) + ∑ k : Fin 1024, a (ix2 r k) * u (ix2 k d)) := by
  pointwise [k0_pay3]

/-- The stored rows over their root mean squares, from the stored sum. -/
def rowsOf (y : FVec Ideal S512x2048 .f32) (g : FVec Ideal S1x2048 .f32) : FVec Ideal S512x2048 .bf16 :=
  truncf .bf16 (mulf (mulf y (broadcastTo S512x2048 (rsqrt (addf (divf (shapeCast S512x1 (multiReduction .add [1] S512 (mulf y y) 0x00000000#32 reduces_S512x2048_S512 (.inl rfl) rfl) shapeCasts_S512_S512x1)
    (broadcast S512x1 (Scalar.ofBits .f32 0x45000000#32))) (broadcast S512x1 (Scalar.ofBits .f32 0x3727C5AC#32)))) broadcasts_S512x1_S512x2048))
    (broadcastTo S512x2048 (shapeCast S1x2048 g shapeCasts_S1x2048_S1x2048) broadcasts_S1x2048_S512x2048)) bitsLt_bf16_f32

/-- The stored rows are of the stored sum. -/
theorem pay4_eq (f : FVec Ideal S512x1024 .bf16) (w : FVec Ideal S1024x2048 .bf16) (a : FVec Ideal S512x1024 .bf16) (u : FVec Ideal S1024x2048 .bf16) (x : FVec Ideal S512x2048 .f32) (g : FVec Ideal S1x2048 .f32) :
    k0_pay4 (F := Ideal) f w a u x g = rowsOf (k0_pay3 (F := Ideal) f w a u x) g := rfl

/-- The stored rows, at a row and a lane of the block. -/
theorem rowsOf_at (y : FVec Ideal S512x2048 .f32) (g : FVec Ideal S1x2048 .f32) (r : Fin 512) (d : Fin 2048) :
    (rowsOf y g (ix2 r d) : EReal) = scaled (fun k => y (ix2 r k)) (g (ix2 0 d)) d := by
  pointwise [rowsOf, scaled]

variable (m : (ℓ : Loc nD τ sig) → Buf (Elt Ideal) ℓ) (c : Dev nD)

/-- The projection's weights as the call reads them. -/
theorem weights (k d : Fin 2048) : ((V m c main_v0 : FVec Ideal S2048x2048 .bf16) (ix2 k d) : EReal) = (m ((c.tc : Thread nD τ).loc main_arg3) : FVec Ideal S2048x2048 .f32) (ix2 k d) := by
  entry_read
  pointwise []

/-- The gain as the call reads it. -/
theorem gain (d : Fin 2048) : ((V m c main_v1 : FVec Ideal S1x2048 .f32) (ix2 0 d) : EReal) = (m ((c.tc : Thread nD τ).loc main_arg4) : FVec Ideal S2048 .f32) (ix1 d) := by
  entry_read
  pointwise []

/-- The grid has 64 points. -/
theorem points : grid0.N = 64 := by decide +kernel

/-- The row block of a point. -/
theorem coord0 (t : Fin grid0.N) : (grid0.coords t 0).val = t.val := by
  have h : t.val < 64 := t.isLt.trans_eq points
  have e : (grid0.coords t 0).val = t.val / 1 % 64 := Pipeline.Grid.coords_val t 0 (by decide) rfl
  omega

/-- An index map over the row blocks. -/
theorem tr_rows (i : grid0.Coords) : (![(BitVec.ofNat 32 (i 0).val).toNat, 0] : Fin 2 → ℕ) = ![(i 0).val, 0] := by
  have h : (i 0).val < 64 := (i 0).isLt
  rw [BitVec.toNat_ofNat, Nat.mod_eq_of_lt (by omega)]

/-- A row of a block lies in the array. -/
theorem row_lt (S : ℕ) (hS : S < 64) (r : Fin 512) : S * 512 + r.val < 32768 := by omega

/-- A block's place in an array of wide rows. -/
theorem at_wide (S : ℕ) (hS : S < 64) (r : Fin 512) (k : Fin 2048) : ∀ a : Fin 2, (![S, 0] : Fin 2 → ℕ) a * S512x2048.size a + 1 * ((ix2 r k : S512x2048.Idx) a).val
    = ((ix2 ⟨S * 512 + r.val, row_lt S hS r⟩ k : S32768x2048.Idx) a).val := by
  intro a
  fin_cases a
  · show S * 512 + 1 * r.val = S * 512 + r.val; omega
  · show 0 * 2048 + 1 * k.val = k.val; omega

/-- A block's place in an array of a mixer's rows. -/
theorem at_half (S : ℕ) (hS : S < 64) (r : Fin 512) (k : Fin 1024) : ∀ a : Fin 2, (![S, 0] : Fin 2 → ℕ) a * S512x1024.size a + 1 * ((ix2 r k : S512x1024.Idx) a).val
    = ((ix2 ⟨S * 512 + r.val, row_lt S hS r⟩ k : S32768x1024.Idx) a).val := by
  intro a
  fin_cases a
  · show S * 512 + 1 * r.val = S * 512 + r.val; omega
  · show 0 * 1024 + 1 * k.val = k.val; omega

/-- The whole weights' place. -/
theorem at_weights (k d : Fin 2048) : ∀ a : Fin 2, (![0, 0] : Fin 2 → ℕ) a * S2048x2048.size a + 1 * ((ix2 k d : S2048x2048.Idx) a).val = ((ix2 k d : S2048x2048.Idx) a).val := by
  intro a
  fin_cases a
  · show 0 * 2048 + 1 * k.val = k.val; omega
  · show 0 * 2048 + 1 * d.val = d.val; omega

/-- The whole gain's place. -/
theorem at_gain (d : Fin 2048) : ∀ a : Fin 2, (![0, 0] : Fin 2 → ℕ) a * S1x2048.size a + 1 * ((ix2 0 d : S1x2048.Idx) a).val = ((ix2 0 d : S1x2048.Idx) a).val := by
  intro a
  fin_cases a
  · show 0 * 1 + 1 * 0 = 0; omega
  · show 0 * 2048 + 1 * d.val = d.val; omega

variable (t : Fin cfg0.N)

/-- A point's number. -/
theorem pt_lt : t.val < 64 := t.isLt.trans_eq points

/-- Where window 0's block lies. -/
theorem emb0 (y : S512x1024.Idx) (a : Fin S32768x1024.rank) : (((cfg0.win 0).blk t).view.emb y a : ℕ) = cc0_transform_0 (grid0.coords t) a * S512x1024.size a + 1 * (y a).val := rfl
/-- Where window 1's block lies. -/
theorem emb1 (y : S512x1024.Idx) (a : Fin S32768x1024.rank) : (((cfg0.win 1).blk t).view.emb y a : ℕ) = cc0_transform_1 (grid0.coords t) a * S512x1024.size a + 1 * (y a).val := rfl
/-- Where window 2's block lies. -/
theorem emb2 (y : S512x2048.Idx) (a : Fin S32768x2048.rank) : (((cfg0.win 2).blk t).view.emb y a : ℕ) = cc0_transform_2 (grid0.coords t) a * S512x2048.size a + 1 * (y a).val := rfl
/-- Where window 3's block lies. -/
theorem emb3 (y : S2048x2048.Idx) (a : Fin S2048x2048.rank) : (((cfg0.win 3).blk t).view.emb y a : ℕ) = cc0_transform_3 (grid0.coords t) a * S2048x2048.size a + 1 * (y a).val := rfl
/-- Where window 4's block lies. -/
theorem emb4 (y : S1x2048.Idx) (a : Fin S1x2048.rank) : (((cfg0.win 4).blk t).view.emb y a : ℕ) = cc0_transform_4 (grid0.coords t) a * S1x2048.size a + 1 * (y a).val := rfl
/-- Where window 7's block lies. -/
theorem emb7 (y : S512x2048.Idx) (a : Fin S32768x2048.rank) : (((cfg0.win 7).blk t).view.emb y a : ℕ) = cc0_transform_7 (grid0.coords t) a * S512x2048.size a + 1 * (y a).val := rfl
/-- Where window 8's block lies. -/
theorem emb8 (y : S512x2048.Idx) (a : Fin S32768x2048.rank) : (((cfg0.win 8).blk t).view.emb y a : ℕ) = cc0_transform_8 (grid0.coords t) a * S512x2048.size a + 1 * (y a).val := rfl

/-- The row block's index map at a point. -/
theorem tr_pt : (![(BitVec.ofNat 32 (grid0.coords t 0).val).toNat, 0] : Fin 2 → ℕ) = ![t.val, 0] := by
  rw [tr_rows, coord0]

/-- The first mixer's block. -/
theorem blk0 (r : Fin 512) (k : Fin 1024) : ((iblk m c 0 t : FVec Ideal S512x1024 .bf16) (ix2 r k) : EReal)
    = (V m c main_arg0 : FVec Ideal S32768x1024 .bf16) (ix2 ⟨t.val * 512 + r.val, row_lt _ (pt_lt t) r⟩ k) := by
  refine congrArg (V m c main_arg0 : FVec Ideal S32768x1024 .bf16) (funext fun a => Fin.ext ?_)
  refine (emb0 t (ix2 r k) a).trans ?_
  rw [show cc0_transform_0 (grid0.coords t) = ![t.val, 0] from tr_pt t]
  exact at_half _ (pt_lt t) r k a

/-- The second mixer's block. -/
theorem blk1 (r : Fin 512) (k : Fin 1024) : ((iblk m c 1 t : FVec Ideal S512x1024 .bf16) (ix2 r k) : EReal)
    = (V m c main_arg1 : FVec Ideal S32768x1024 .bf16) (ix2 ⟨t.val * 512 + r.val, row_lt _ (pt_lt t) r⟩ k) := by
  refine congrArg (V m c main_arg1 : FVec Ideal S32768x1024 .bf16) (funext fun a => Fin.ext ?_)
  refine (emb1 t (ix2 r k) a).trans ?_
  rw [show cc0_transform_1 (grid0.coords t) = ![t.val, 0] from tr_pt t]
  exact at_half _ (pt_lt t) r k a

/-- The residual's block. -/
theorem blk2 (r : Fin 512) (k : Fin 2048) : ((iblk m c 2 t : FVec Ideal S512x2048 .f32) (ix2 r k) : EReal)
    = (V m c main_arg2 : FVec Ideal S32768x2048 .f32) (ix2 ⟨t.val * 512 + r.val, row_lt _ (pt_lt t) r⟩ k) := by
  refine congrArg (V m c main_arg2 : FVec Ideal S32768x2048 .f32) (funext fun a => Fin.ext ?_)
  refine (emb2 t (ix2 r k) a).trans ?_
  rw [show cc0_transform_2 (grid0.coords t) = ![t.val, 0] from tr_pt t]
  exact at_wide _ (pt_lt t) r k a

/-- The weights' block. -/
theorem blk3 (k d : Fin 2048) : ((iblk m c 3 t : FVec Ideal S2048x2048 .bf16) (ix2 k d) : EReal) = (m ((c.tc : Thread nD τ).loc main_arg3) : FVec Ideal S2048x2048 .f32) (ix2 k d) := by
  refine Eq.trans (congrArg (V m c main_v0 : FVec Ideal S2048x2048 .bf16) (funext fun a => Fin.ext ?_)) (weights m c k d)
  refine (emb3 t (ix2 k d) a).trans ?_
  rw [show cc0_transform_3 (grid0.coords t) = ![0, 0] from rfl]
  exact at_weights k d a

/-- The gain's block. -/
theorem blk4 (d : Fin 2048) : ((iblk m c 4 t : FVec Ideal S1x2048 .f32) (ix2 0 d) : EReal) = (m ((c.tc : Thread nD τ).loc main_arg4) : FVec Ideal S2048 .f32) (ix1 d) := by
  refine Eq.trans (congrArg (V m c main_v1 : FVec Ideal S1x2048 .f32) (funext fun a => Fin.ext ?_)) (gain m c d)
  refine (emb4 t (ix2 0 d) a).trans ?_
  rw [show cc0_transform_4 (grid0.coords t) = ![0, 0] from rfl]
  exact at_gain d a

/-- A row of a point's block, in the first result. -/
theorem emb7_pt (r : Fin 512) (d : Fin 2048) : ((cfg0.win 7).blk t).view.emb (ix2 r d : S512x2048.Idx) = (ix2 ⟨t.val * 512 + r.val, row_lt _ (pt_lt t) r⟩ d : S32768x2048.Idx) := by
  refine funext fun a => Fin.ext ((emb7 t (ix2 r d) a).trans ?_)
  rw [show cc0_transform_7 (grid0.coords t) = ![t.val, 0] from tr_pt t]
  exact at_wide _ (pt_lt t) r d a

/-- A row of a point's block, in the second result. -/
theorem emb8_pt (r : Fin 512) (d : Fin 2048) : ((cfg0.win 8).blk t).view.emb (ix2 r d : S512x2048.Idx) = (ix2 ⟨t.val * 512 + r.val, row_lt _ (pt_lt t) r⟩ d : S32768x2048.Idx) := by
  refine funext fun a => Fin.ext ((emb8 t (ix2 r d) a).trans ?_)
  rw [show cc0_transform_8 (grid0.coords t) = ![t.val, 0] from tr_pt t]
  exact at_wide _ (pt_lt t) r d a

/-- The loads of a whole block are the block. -/
theorem ld_half (x : Vec Ideal S512x1024 .bf16) (r : Fin 512) (k : Fin 1024) : (View.ld (Val := Elt Ideal) x r0_0 : Vec Ideal S512x1024 .bf16) (ix2 r k) = x (ix2 r k) := by
  refine congrArg x (funext fun a => Fin.ext ?_)
  fin_cases a
  · show 0 + 1 * r.val = r.val; omega
  · show 0 + 1 * k.val = k.val; omega

/-- The load of a whole block of wide rows is the block. -/
theorem ld_wide (x : Vec Ideal S512x2048 .f32) (r : Fin 512) (k : Fin 2048) : (View.ld (Val := Elt Ideal) x r0_3 : Vec Ideal S512x2048 .f32) (ix2 r k) = x (ix2 r k) := by
  refine congrArg x (funext fun a => Fin.ext ?_)
  fin_cases a
  · show 0 + 1 * r.val = r.val; omega
  · show 0 + 1 * k.val = k.val; omega

/-- The load of the weights' first half. -/
theorem ld_low (x : Vec Ideal S2048x2048 .bf16) (k : Fin 1024) (d : Fin 2048) : (View.ld (Val := Elt Ideal) x r0_1 : Vec Ideal S1024x2048 .bf16) (ix2 k d) = x (ix2 ⟨k.val, low_lt k⟩ d) := by
  refine congrArg x (funext fun a => Fin.ext ?_)
  fin_cases a
  · show 0 + 1 * k.val = k.val; omega
  · show 0 + 1 * d.val = d.val; omega

/-- The load of the weights' second half. -/
theorem ld_high (x : Vec Ideal S2048x2048 .bf16) (k : Fin 1024) (d : Fin 2048) : (View.ld (Val := Elt Ideal) x r0_2 : Vec Ideal S1024x2048 .bf16) (ix2 k d) = x (ix2 ⟨1024 + k.val, high_lt k⟩ d) := by
  refine congrArg x (funext fun a => Fin.ext ?_)
  fin_cases a
  · show 1024 + 1 * k.val = 1024 + k.val; omega
  · show 0 + 1 * d.val = d.val; omega

/-- The load of the gain. -/
theorem ld_gain (x : Vec Ideal S1x2048 .f32) (d : Fin 2048) : (View.ld (Val := Elt Ideal) x r0_4 : Vec Ideal S1x2048 .f32) (ix2 0 d) = x (ix2 0 d) := by
  refine congrArg x (funext fun a => Fin.ext ?_)
  fin_cases a
  · rfl
  · show 0 + 1 * d.val = d.val; omega

/-- Where a whole block's store puts an entry. -/
theorem whole_idx (x : r0_3.shape.Idx) : r0_3.idx x = (x : S512x2048.Idx) := by
  refine funext fun a => Fin.ext ?_
  fin_cases a
  · show 0 + 1 * (x 0).val = (x 0).val; omega
  · show 0 + 1 * (x 1).val = (x 1).val; omega

/-- A block after one whole store of wide rows is what was stored. -/
theorem canon_whole {e : EltTy} (p : Vec Ideal S512x2048 e) (y : S512x2048.Idx) (hc : ∃ pc ∈ ([⟨r0_3, p⟩] : List (View.Piece (Elt Ideal) S512x2048 e)), y ∈ pc.1.set) :
    View.canon (Val := Elt Ideal) [⟨r0_3, p⟩] y = p y := by
  refine View.canon_apply_of_pieces p _ ?_ y hc
  intro pc hpc
  rcases List.mem_cons.mp hpc with rfl | hpc
  · exact fun x => congrArg p (whole_idx x).symm
  nomatch hpc

end Cert.Kernel3Ideal.Out

end
-- ==== Proof.Kernel3IdealFinal.lean ====
/-
  The result arrays of the output projection's call: the reference's of the same arguments.
-/
module

public import proofs.«01_k».proof.Proof.Kernel3IdealVal

@[expose] public section

set_option maxRecDepth 16384

noncomputable section

namespace Cert.Kernel3Ideal.Out

open Cert.Kernel3Ideal Cert.Kernel3Ideal.Gen Cert.Projection
open Idealize.ShloMosaic Idealize.ShloMosaic.TcCoe Idealize.SL.Sem
open Idealize.ShloMosaic.Pipeline (Dat)

variable (m : (ℓ : Loc nD τ sig) → Buf (Elt Ideal) ℓ) (c : Dev nD)

/-- Lane `d` of row `r` of the first result, from the call's arguments. -/
def sumAt (r : Fin 32768) (d : Fin 2048) : EReal :=
  proj (m ((c.tc : Thread nD τ).loc main_arg0)) (m ((c.tc : Thread nD τ).loc main_arg1)) (m ((c.tc : Thread nD τ).loc main_arg2))
    (fun k d => (m ((c.tc : Thread nD τ).loc main_arg3) : FVec Ideal S2048x2048 .f32) (ix2 k d)) r d

/-- The sum that a point stores, of its block's loads. -/
abbrev sumBlk (t : Fin cfg0.N) : FVec Ideal S512x2048 .f32 :=
  k0_pay3 (F := Ideal) (View.ld (iblk m c 0 t) r0_0) (View.ld (iblk m c 3 t) r0_1) (View.ld (iblk m c 1 t) r0_0) (View.ld (iblk m c 3 t) r0_2) (View.ld (iblk m c 2 t) r0_3)

/-- The sum that a point stores is of its rows. -/
theorem sumBlk_at (t : Fin cfg0.N) (r : Fin 512) (d : Fin 2048) : (sumBlk m c t (ix2 r d) : EReal) = sumAt m c ⟨t.val * 512 + r.val, row_lt _ (pt_lt t) r⟩ d := by
  refine (pay3_at _ _ _ _ _ r d).trans ?_
  unfold sumAt proj
  refine congrArg₂ (fun p q : EReal => p + q) ?_ (congrArg₂ (fun p q : EReal => p + q) (Finset.sum_congr rfl fun k _ => ?_) (Finset.sum_congr rfl fun k _ => ?_))
  · exact (ld_wide _ r d).trans ((blk2 m c t r d).trans (congrFun (V_main_arg2 m c) _))
  · exact congrArg₂ (fun p q : EReal => p * q) ((ld_half _ r k).trans ((blk0 m c t r k).trans (congrFun (V_main_arg0 m c) _))) ((ld_low _ k d).trans (blk3 m c t _ d))
  · exact congrArg₂ (fun p q : EReal => p * q) ((ld_half _ r k).trans ((blk1 m c t r k).trans (congrFun (V_main_arg1 m c) _))) ((ld_high _ k d).trans (blk3 m c t _ d))

/-- The first window after a point. -/
theorem stored7 (t : Fin cfg0.N) (r : Fin 512) (d : Fin 2048) :
    (out0_7 (F := Ideal) (iblk m c 0 t) (iblk m c 1 t) (iblk m c 2 t) (iblk m c 3 t) (iblk m c 4 t) (iblk m c 5 t) (iblk m c 6 t) (ix2 r d) : EReal) = sumAt m c ⟨t.val * 512 + r.val, row_lt _ (pt_lt t) r⟩ d := by
  refine Eq.trans ?_ (sumBlk_at m c t r d)
  unfold out0_7
  exact canon_whole (e := .f32) (sumBlk m c t) (ix2 r d) (cover0_7 (F := Ideal) (sumBlk m c t) (ix2 r d))

/-- The gain that a point loads. -/
abbrev gainBlk (t : Fin cfg0.N) : FVec Ideal S1x2048 .f32 := View.ld (Val := Elt Ideal) (iblk m c 4 t) r0_4

/-- The rows that a point stores are of the sum that it stores. -/
theorem rowsBlk_at (t : Fin cfg0.N) (r : Fin 512) (d : Fin 2048) :
    (out0_8 (F := Ideal) (iblk m c 0 t) (iblk m c 1 t) (iblk m c 2 t) (iblk m c 3 t) (iblk m c 4 t) (iblk m c 5 t) (iblk m c 6 t) (ix2 r d) : EReal) = rowsOf (sumBlk m c t) (gainBlk m c t) (ix2 r d) := by
  unfold out0_8
  exact (canon_whole (e := .bf16) (k0_pay4 (F := Ideal) (View.ld (iblk m c 0 t) r0_0) (View.ld (iblk m c 3 t) r0_1) (View.ld (iblk m c 1 t) r0_0) (View.ld (iblk m c 3 t) r0_2) (View.ld (iblk m c 2 t) r0_3) (View.ld (iblk m c 4 t) r0_4)) (ix2 r d) (cover0_8 (F := Ideal) (k0_pay4 (F := Ideal) (View.ld (iblk m c 0 t) r0_0) (View.ld (iblk m c 3 t) r0_1) (View.ld (iblk m c 1 t) r0_0) (View.ld (iblk m c 3 t) r0_2) (View.ld (iblk m c 2 t) r0_3) (View.ld (iblk m c 4 t) r0_4)) (ix2 r d))).trans (congrFun (pay4_eq _ _ _ _ _ _) (ix2 r d))

/-- The second window after a point. -/
theorem stored8 (t : Fin cfg0.N) (r : Fin 512) (d : Fin 2048) :
    (out0_8 (F := Ideal) (iblk m c 0 t) (iblk m c 1 t) (iblk m c 2 t) (iblk m c 3 t) (iblk m c 4 t) (iblk m c 5 t) (iblk m c 6 t) (ix2 r d) : EReal)
      = scaled (fun k => sumAt m c ⟨t.val * 512 + r.val, row_lt _ (pt_lt t) r⟩ k) ((m ((c.tc : Thread nD τ).loc main_arg4) : FVec Ideal S2048 .f32) (ix1 d)) d := by
  refine Eq.trans (rowsBlk_at m c t r d) ?_
  refine (rowsOf_at _ _ r d).trans ?_
  exact congrArg₂ (fun y g => scaled y g d) (funext fun k => sumBlk_at m c t r k) ((ld_gain _ d).trans (blk4 m c t d))

/-- Every point writes the first result's block back. -/
theorem flush7 : ∀ t : Fin cfg0.N, (cfg0.win 7).flush t = true :=
  (by decide +kernel : ∀ t : Fin grid0.N, win0_7.flush t = true)

/-- Every point writes the second result's block back. -/
theorem flush8 : ∀ t : Fin cfg0.N, (cfg0.win 8).flush t = true :=
  (by decide +kernel : ∀ t : Fin grid0.N, win0_8.flush t = true)

/-- The point of a row block. -/
def pt (b : Fin 64) : Fin cfg0.N := ⟨b.val, by show b.val < grid0.N; rw [points]; exact b.isLt⟩

/-- Every entry of an array of wide rows lies in one row block. -/
theorem split (i : S32768x2048.Idx) : ∃ (b : Fin 64) (r : Fin 512) (d : Fin 2048), i = (ix2 ⟨(pt b).val * 512 + r.val, row_lt _ (pt_lt (pt b)) r⟩ d : S32768x2048.Idx) := by
  have h0 : (i 0).val < 32768 := (i 0).isLt
  refine ⟨⟨(i 0).val / 512, by omega⟩, ⟨(i 0).val % 512, by omega⟩, i 1, funext fun a => ?_⟩
  fin_cases a
  · exact Fin.ext (by show (i 0).val = (i 0).val / 512 * 512 + (i 0).val % 512; omega)
  · rfl

/-- A row of a point's block lies in what the point writes of the first result. -/
theorem in_blk7 (t : Fin cfg0.N) (r : Fin 512) (d : Fin 2048) : (ix2 ⟨t.val * 512 + r.val, row_lt _ (pt_lt t) r⟩ d : S32768x2048.Idx) ∈ ((cfg0.win 7).blk t).view.set := by
  have h := View.emb_mem_set ((cfg0.win 7).blk t).view (ix2 r d : S512x2048.Idx)
  rw [emb7_pt] at h
  exact h

/-- A row of a point's block lies in what the point writes of the second result. -/
theorem in_blk8 (t : Fin cfg0.N) (r : Fin 512) (d : Fin 2048) : (ix2 ⟨t.val * 512 + r.val, row_lt _ (pt_lt t) r⟩ d : S32768x2048.Idx) ∈ ((cfg0.win 8).blk t).view.set := by
  have h := View.emb_mem_set ((cfg0.win 8).blk t).view (ix2 r d : S512x2048.Idx)
  rw [emb8_pt] at h
  exact h

open Cert.Reference3Ideal.Out in
/-- The first result after the run. -/
theorem final7 : (dats m 0 c).arrAt 7 cfg0.N
    = resid (F := Ideal) (joined (m ((c.tc : Thread nD τ).loc main_arg0)) (m ((c.tc : Thread nD τ).loc main_arg1))) (m ((c.tc : Thread nD τ).loc main_arg2)) (m ((c.tc : Thread nD τ).loc main_arg3)) := by
  refine (dats m 0 c).arrAt_eq_of_emb 7 _ (fun t hf y => ?_) (fun i => ?_)
  · change S512x2048.Idx at y
    obtain ⟨r, d, rfl⟩ : ∃ (r : Fin 512) (d : Fin 2048), y = ix2 r d := ⟨y 0, y 1, funext fun a => by fin_cases a <;> rfl⟩
    rw [emb7_pt]
    exact Eq.trans (b := (out0_7 (F := Ideal) (iblk m c 0 t) (iblk m c 1 t) (iblk m c 2 t) (iblk m c 3 t) (iblk m c 4 t) (iblk m c 5 t) (iblk m c 6 t) (ix2 r d) : EReal)) (congrFun (after0_7 m c t) (ix2 r d)) ((stored7 m c t r d).trans (first_at _ _ _ _ _ d).symm)
  · change S32768x2048.Idx at i
    obtain ⟨b, r, d, rfl⟩ := split i
    exact ⟨pt b, flush7 _, in_blk7 (pt b) r d⟩

open Cert.Reference3Ideal.Out in
/-- The second result after the run. -/
theorem final8 : (dats m 0 c).arrAt 8 cfg0.N
    = rows (F := Ideal) (resid (F := Ideal) (joined (m ((c.tc : Thread nD τ).loc main_arg0)) (m ((c.tc : Thread nD τ).loc main_arg1))) (m ((c.tc : Thread nD τ).loc main_arg2)) (m ((c.tc : Thread nD τ).loc main_arg3)))
      (m ((c.tc : Thread nD τ).loc main_arg4)) := by
  refine (dats m 0 c).arrAt_eq_of_emb 8 _ (fun t hf y => ?_) (fun i => ?_)
  · change S512x2048.Idx at y
    obtain ⟨r, d, rfl⟩ : ∃ (r : Fin 512) (d : Fin 2048), y = ix2 r d := ⟨y 0, y 1, funext fun a => by fin_cases a <;> rfl⟩
    rw [emb8_pt]
    refine Eq.trans (b := (out0_8 (F := Ideal) (iblk m c 0 t) (iblk m c 1 t) (iblk m c 2 t) (iblk m c 3 t) (iblk m c 4 t) (iblk m c 5 t) (iblk m c 6 t) (ix2 r d) : EReal)) (congrFun (after0_8 m c t) (ix2 r d)) ((stored8 m c t r d).trans (Eq.trans ?_ (rows_at _ _ _ d).symm))
    exact congrArg (fun y => scaled y ((m ((c.tc : Thread nD τ).loc main_arg4) : FVec Ideal S2048 .f32) (ix1 d)) d) (funext fun k => (first_at _ _ _ _ _ k).symm)
  · change S32768x2048.Idx at i
    obtain ⟨b, r, d, rfl⟩ := split i
    exact ⟨pt b, flush8 _, in_blk8 (pt b) r d⟩

end Cert.Kernel3Ideal.Out

end
-- ==== Proof.Kernel4IdealBody.lean ====
/-
  The input projection's body at each of the four columns of its grid: what it keeps and what it stores.
-/
module

public import proofs.«01_k».proof.Proof.Gen.Kernel4Ideal.Frame
public import proofs.«01_k».proof.Proof.Gen.Kernel4Ideal.Skeleton
public import Idealize.ShloMosaic.Lib.VecWindow
public import Idealize.ShloMosaic.Lib.Pipeline.TableIdle

@[expose] public section

set_option maxRecDepth 16384

noncomputable section

namespace Cert.Kernel4Ideal.Inp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The condition of column 0 holds exactly there. -/
theorem cond2_iff (i : grid0.Coords) : k0_cond2 i = 1#1 ↔ (i 1).val = 0 := by
  have h : (i 1).val < 4 := (i 1).isLt
  unfold k0_cond2
  generalize (i 1).val = n at h ⊢
  rcases (by omega : n = 0 ∨ n = 1 ∨ n = 2 ∨ n = 3) with rfl | rfl | rfl | rfl <;> decide
/-- The condition of column 1 holds exactly there. -/
theorem cond3_iff (i : grid0.Coords) : k0_cond3 i = 1#1 ↔ (i 1).val = 1 := by
  have h : (i 1).val < 4 := (i 1).isLt
  unfold k0_cond3
  generalize (i 1).val = n at h ⊢
  rcases (by omega : n = 0 ∨ n = 1 ∨ n = 2 ∨ n = 3) with rfl | rfl | rfl | rfl <;> decide
/-- The condition of column 2 holds exactly there. -/
theorem cond4_iff (i : grid0.Coords) : k0_cond4 i = 1#1 ↔ (i 1).val = 2 := by
  have h : (i 1).val < 4 := (i 1).isLt
  unfold k0_cond4
  generalize (i 1).val = n at h ⊢
  rcases (by omega : n = 0 ∨ n = 1 ∨ n = 2 ∨ n = 3) with rfl | rfl | rfl | rfl <;> decide
/-- The condition of column 3 holds exactly there. -/
theorem cond5_iff (i : grid0.Coords) : k0_cond5 i = 1#1 ↔ (i 1).val = 3 := by
  have h : (i 1).val < 4 := (i 1).isLt
  unfold k0_cond5
  generalize (i 1).val = n at h ⊢
  rcases (by omega : n = 0 ∨ n = 1 ∨ n = 2 ∨ n = 3) with rfl | rfl | rfl | rfl <;> decide

/-- Equal blocks give equal normalized rows. -/
theorem pay1_congr {a a' : Vec F S512x2048 .f32} {b b' : Vec F S1x2048 .f32} (ha : a = a') (hb : b = b') : k0_pay1 a b = k0_pay1 a' b' := by
  subst ha hb; rfl
/-- Equal blocks give equal products. -/
theorem pay8_congr {a a' : Vec F S512x2048 .bf16} {b b' : Vec F S2048x1024 .bf16} (ha : a = a') (hb : b = b') : k0_pay8 a b = k0_pay8 a' b' := by
  subst ha hb; rfl

set_option maxHeartbeats 1000000 in
/-- Column 0: the normalized rows are kept for the later columns, and their product with the weights is stored as the first result. -/
theorem body0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x2048 .bf16) (harg13 : arg13.IsWhole)
    (x2 : Vec F S512x2048 .f32) (x3 : Vec F S1x2048 .f32) (x4 : Vec F S2048x1024 .bf16) (x5 : Vec F S512x128 .f32) (x6 : Vec F S512x128 .f32) (x7 : Vec F S1x128 .f32) (x8 : Vec F S1x128 .f32) (x9 : Vec F S512x1024 .bf16) (x12 : Vec F S512x1024 .bf16) (x13 : Vec F S512x2048 .bf16) (hj : (i 1).val = 0) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay3 (k0_pay1 x2 x3) x4) ∗ (∃ d, owns (c : Thread nD τ) arg10 fullShare d) ∗ (∃ d, owns (c : Thread nD τ) arg11 fullShare d) ∗ owns (c : Thread nD τ) arg12 fullShare x12 ∗ owns (c : Thread nD τ) arg13 fullShare (k0_pay1 x2 x3)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13) K := by
  have h2 : k0_cond2 i = 1#1 := (cond2_iff i).mpr hj
  have h3 : ¬ k0_cond3 i = 1#1 := fun h => absurd (hj.symm.trans ((cond3_iff i).mp h)) (by decide)
  have h4 : ¬ k0_cond4 i = 1#1 := fun h => absurd (hj.symm.trans ((cond4_iff i).mp h)) (by decide)
  have h5 : ¬ k0_cond5 i = 1#1 := fun h => absurd (hj.symm.trans ((cond5_iff i).mp h)) (by decide)
  have h1 : Scalar.cmpi .ne (Scalar.extui (Scalar.cmpi .eq (BitVec.ofNat 32 (i 1).val) 0#32) : BitVec 32) 0#32 = 1#1 := h2
  simp only [cc0_inproj_eq_skeleton]; unfold cc0_inproj_skel
  simp only [owns_eq_rep (c : Thread nD τ) arg2 fullShare x2, owns_eq_rep (c : Thread nD τ) arg3 fullShare x3, owns_eq_rep (c : Thread nD τ) arg4 fullShare x4, owns_eq_rep (c : Thread nD τ) arg5 fullShare x5, owns_eq_rep (c : Thread nD τ) arg6 fullShare x6, owns_eq_rep (c : Thread nD τ) arg7 fullShare x7, owns_eq_rep (c : Thread nD τ) arg8 fullShare x8, owns_eq_rep (c : Thread nD τ) arg9 fullShare x9, owns_eq_rep (c : Thread nD τ) arg12 fullShare x12, owns_eq_rep (c : Thread nD τ) arg13 fullShare x13]
  simp only [owns]
  iintro ⟨H2, H3, H4, H5, H6, H7, H8, H9, ⟨%d10, %f10, -, H10⟩, ⟨%d11, %f11, -, H11⟩, H12, H13, Hk⟩
  sl_exec
  sl_step
  have e2 : arg2.view.readAt (Elt F) (Rect.unit (s := S512x2048) ![0, 0] ![512, 2048] inb_S512x2048_S512x2048_0_0).toLoadRect (arg2.view.rep x2) = x2 := View.readAt_rep_full _ _ _
  have e3 : arg3.view.readAt (Elt F) (Rect.unit (s := S1x2048) ![0, 0] ![1, 2048] inb_S1x2048_S1x2048_0_0).toLoadRect (arg3.view.rep x3) = x3 := View.readAt_rep_full _ _ _
  have e4 : arg4.view.readAt (Elt F) (Rect.unit (s := S2048x1024) ![0, 0] ![2048, 1024] inb_S2048x1024_S2048x1024_0_0).toLoadRect (arg4.view.rep x4) = x4 := View.readAt_rep_full _ _ _
  have e13 : arg13.view.readAt (Elt F) (Rect.unit (s := S512x2048) ![0, 0] ![512, 2048] inb_S512x2048_S512x2048_0_0).toLoadRect (arg13.view.rep x13) = x13 := View.readAt_rep_full _ _ _
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _; isplitr; swap; · iexact H9
    ipureintro
    refine (View.read_writes_full _ _ _ _ _).trans ?_
    rw [show body0.sl.v3 arg2 arg3 arg13 x2 x3 = k0_pay1 x2 x3 from (View.readAt_full _ _ _).trans ((View.read_writes_full _ _ _ _ _).trans (pay1_congr e2 e3))]; exact congrArg _ e4
  isplitl [H10]
  · iexists _, _; isplitr; swap; · iexact H10
    ipureintro; rfl
  isplitl [H11]
  · iexists _, _; isplitr; swap; · iexact H11
    ipureintro; rfl
  isplitl [H12]
  · iexact H12
  iexists _; isplitr; swap; · iexact H13
  ipureintro
  refine (View.read_writes_full _ _ _ _ _).trans ?_
  exact pay1_congr e2 e3

set_option maxHeartbeats 1000000 in
/-- Column 1: only the second result is written. -/
theorem body1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x2048 .bf16) (harg13 : arg13.IsWhole)
    (x2 : Vec F S512x2048 .f32) (x3 : Vec F S1x2048 .f32) (x4 : Vec F S2048x1024 .bf16) (x5 : Vec F S512x128 .f32) (x6 : Vec F S512x128 .f32) (x7 : Vec F S1x128 .f32) (x8 : Vec F S1x128 .f32) (x9 : Vec F S512x1024 .bf16) (x12 : Vec F S512x1024 .bf16) (x13 : Vec F S512x2048 .bf16) (hj : (i 1).val = 1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13) K := by
  have h2 : ¬ k0_cond2 i = 1#1 := fun h => absurd (hj.symm.trans ((cond2_iff i).mp h)) (by decide)
  have h3 : k0_cond3 i = 1#1 := (cond3_iff i).mpr hj
  have h4 : ¬ k0_cond4 i = 1#1 := fun h => absurd (hj.symm.trans ((cond4_iff i).mp h)) (by decide)
  have h5 : ¬ k0_cond5 i = 1#1 := fun h => absurd (hj.symm.trans ((cond5_iff i).mp h)) (by decide)
  have h1 : ¬ Scalar.cmpi .ne (Scalar.extui (Scalar.cmpi .eq (BitVec.ofNat 32 (i 1).val) 0#32) : BitVec 32) 0#32 = 1#1 := h2
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [owns_eq_rep (c : Thread nD τ) arg2 fullShare x2, owns_eq_rep (c : Thread nD τ) arg3 fullShare x3, owns_eq_rep (c : Thread nD τ) arg4 fullShare x4, owns_eq_rep (c : Thread nD τ) arg5 fullShare x5, owns_eq_rep (c : Thread nD τ) arg6 fullShare x6, owns_eq_rep (c : Thread nD τ) arg7 fullShare x7, owns_eq_rep (c : Thread nD τ) arg8 fullShare x8, owns_eq_rep (c : Thread nD τ) arg9 fullShare x9, owns_eq_rep (c : Thread nD τ) arg12 fullShare x12, owns_eq_rep (c : Thread nD τ) arg13 fullShare x13]
  simp only [owns]
  iintro ⟨H2, H3, H4, H5, H6, H7, H8, H9, ⟨%d10, %f10, -, H10⟩, ⟨%d11, %f11, -, H11⟩, H12, H13, Hk⟩
  sl_exec
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _, _; isplitr; swap; · iexact H10
    ipureintro; rfl
  isplitl [H11]
  · iexists _, _; isplitr; swap; · iexact H11
    ipureintro; rfl
  isplitl [H12]
  · iexact H12
  iexact H13

set_option maxHeartbeats 1000000 in
/-- Column 2: only the third result is written. -/
theorem body2 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x2048 .bf16) (harg13 : arg13.IsWhole)
    (x2 : Vec F S512x2048 .f32) (x3 : Vec F S1x2048 .f32) (x4 : Vec F S2048x1024 .bf16) (x5 : Vec F S512x128 .f32) (x6 : Vec F S512x128 .f32) (x7 : Vec F S1x128 .f32) (x8 : Vec F S1x128 .f32) (x9 : Vec F S512x1024 .bf16) (x12 : Vec F S512x1024 .bf16) (x13 : Vec F S512x2048 .bf16) (hj : (i 1).val = 2) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13) K := by
  have h2 : ¬ k0_cond2 i = 1#1 := fun h => absurd (hj.symm.trans ((cond2_iff i).mp h)) (by decide)
  have h3 : ¬ k0_cond3 i = 1#1 := fun h => absurd (hj.symm.trans ((cond3_iff i).mp h)) (by decide)
  have h4 : k0_cond4 i = 1#1 := (cond4_iff i).mpr hj
  have h5 : ¬ k0_cond5 i = 1#1 := fun h => absurd (hj.symm.trans ((cond5_iff i).mp h)) (by decide)
  have h1 : ¬ Scalar.cmpi .ne (Scalar.extui (Scalar.cmpi .eq (BitVec.ofNat 32 (i 1).val) 0#32) : BitVec 32) 0#32 = 1#1 := h2
  simp only [cc0_inproj_eq_skeleton]; unfold cc0_inproj_skel
  simp only [k0_part7_eq_skeleton, k0_part8_eq_skeleton, k0_part9_eq_skeleton, k0_part10_eq_skeleton, k0_part11_eq_skeleton, k0_part12_eq_skeleton]
  unfold k0_part7_skel k0_part8_skel k0_part9_skel k0_part10_skel k0_part11_skel k0_part12_skel
  simp only [owns_eq_rep (c : Thread nD τ) arg2 fullShare x2, owns_eq_rep (c : Thread nD τ) arg3 fullShare x3, owns_eq_rep (c : Thread nD τ) arg4 fullShare x4, owns_eq_rep (c : Thread nD τ) arg5 fullShare x5, owns_eq_rep (c : Thread nD τ) arg6 fullShare x6, owns_eq_rep (c : Thread nD τ) arg7 fullShare x7, owns_eq_rep (c : Thread nD τ) arg8 fullShare x8, owns_eq_rep (c : Thread nD τ) arg9 fullShare x9, owns_eq_rep (c : Thread nD τ) arg12 fullShare x12, owns_eq_rep (c : Thread nD τ) arg13 fullShare x13]
  simp only [owns]
  iintro ⟨H2, H3, H4, H5, H6, H7, H8, H9, ⟨%d10, %f10, -, H10⟩, ⟨%d11, %f11, -, H11⟩, H12, H13, Hk⟩
  sl_exec
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _, _; isplitr; swap; · iexact H10
    ipureintro; rfl
  isplitl [H11]
  · iexists _, _; isplitr; swap; · iexact H11
    ipureintro; rfl
  isplitl [H12]
  · iexact H12
  iexact H13

set_option maxHeartbeats 1000000 in
/-- Column 3: the product of the kept rows with the weights is stored as the last result. -/
theorem body3 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x2048 .bf16) (harg13 : arg13.IsWhole)
    (x2 : Vec F S512x2048 .f32) (x3 : Vec F S1x2048 .f32) (x4 : Vec F S2048x1024 .bf16) (x5 : Vec F S512x128 .f32) (x6 : Vec F S512x128 .f32) (x7 : Vec F S1x128 .f32) (x8 : Vec F S1x128 .f32) (x9 : Vec F S512x1024 .bf16) (x12 : Vec F S512x1024 .bf16) (x13 : Vec F S512x2048 .bf16) (hj : (i 1).val = 3) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare (k0_pay8 x13 x4) ∗ owns (c : Thread nD τ) arg13 fullShare x13) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13) K := by
  have h2 : ¬ k0_cond2 i = 1#1 := fun h => absurd (hj.symm.trans ((cond2_iff i).mp h)) (by decide)
  have h3 : ¬ k0_cond3 i = 1#1 := fun h => absurd (hj.symm.trans ((cond3_iff i).mp h)) (by decide)
  have h4 : ¬ k0_cond4 i = 1#1 := fun h => absurd (hj.symm.trans ((cond4_iff i).mp h)) (by decide)
  have h5 : k0_cond5 i = 1#1 := (cond5_iff i).mpr hj
  have h1 : ¬ Scalar.cmpi .ne (Scalar.extui (Scalar.cmpi .eq (BitVec.ofNat 32 (i 1).val) 0#32) : BitVec 32) 0#32 = 1#1 := h2
  simp only [cc0_inproj_eq_skeleton]; unfold cc0_inproj_skel
  simp only [owns_eq_rep (c : Thread nD τ) arg2 fullShare x2, owns_eq_rep (c : Thread nD τ) arg3 fullShare x3, owns_eq_rep (c : Thread nD τ) arg4 fullShare x4, owns_eq_rep (c : Thread nD τ) arg5 fullShare x5, owns_eq_rep (c : Thread nD τ) arg6 fullShare x6, owns_eq_rep (c : Thread nD τ) arg7 fullShare x7, owns_eq_rep (c : Thread nD τ) arg8 fullShare x8, owns_eq_rep (c : Thread nD τ) arg9 fullShare x9, owns_eq_rep (c : Thread nD τ) arg12 fullShare x12, owns_eq_rep (c : Thread nD τ) arg13 fullShare x13]
  simp only [owns]
  iintro ⟨H2, H3, H4, H5, H6, H7, H8, H9, ⟨%d10, %f10, -, H10⟩, ⟨%d11, %f11, -, H11⟩, H12, H13, Hk⟩
  sl_exec
  sl_step
  have e2 : arg2.view.readAt (Elt F) (Rect.unit (s := S512x2048) ![0, 0] ![512, 2048] inb_S512x2048_S512x2048_0_0).toLoadRect (arg2.view.rep x2) = x2 := View.readAt_rep_full _ _ _
  have e3 : arg3.view.readAt (Elt F) (Rect.unit (s := S1x2048) ![0, 0] ![1, 2048] inb_S1x2048_S1x2048_0_0).toLoadRect (arg3.view.rep x3) = x3 := View.readAt_rep_full _ _ _
  have e4 : arg4.view.readAt (Elt F) (Rect.unit (s := S2048x1024) ![0, 0] ![2048, 1024] inb_S2048x1024_S2048x1024_0_0).toLoadRect (arg4.view.rep x4) = x4 := View.readAt_rep_full _ _ _
  have e13 : arg13.view.readAt (Elt F) (Rect.unit (s := S512x2048) ![0, 0] ![512, 2048] inb_S512x2048_S512x2048_0_0).toLoadRect (arg13.view.rep x13) = x13 := View.readAt_rep_full _ _ _
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _, _; isplitr; swap; · iexact H10
    ipureintro; rfl
  isplitl [H11]
  · iexists _, _; isplitr; swap; · iexact H11
    ipureintro; rfl
  isplitl [H12]
  · iexists _; isplitr; swap; · iexact H12
    ipureintro
    refine (View.read_writes_full _ _ _ _ _).trans ?_
    exact pay8_congr e13 e4
  iexact H13

end Cert.Kernel4Ideal.Inp

end
-- ==== Proof.Kernel4IdealRun.lean ====
/-
  The input projection's launch: the pipeline's data, the body at every point, the run, the frame and the two result arrays.
-/
module

public import proofs.«01_k».proof.Proof.Kernel4IdealBody
public import Idealize.ShloMosaic.Lib.Pipeline.FrameBody
public import Idealize.ShloMosaic.Lib.Pipeline.Frame
public import Idealize.ShloMosaic.Lib.Pipeline.Cells
public import Idealize.ShloMosaic.Lib.Claim

@[expose] public section

set_option maxRecDepth 16384

noncomputable section

namespace Cert.Kernel4Ideal.Inp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of the normalized rows. -/
abbrev sc0 : Memref sig .tc .vmem S512x2048 .bf16 := Memref.whole cc0_scratch0

/-- What the launch lends the body besides the windows: the row buffer at something, and the generator register. -/
theorem phi_eq (c : Dev nD) :
    (Pipeline.ΦA spec0 c : sProp 𝕄) = iprop((∃ d, owns (c : Thread nD τ) sc0 fullShare d) ∗ (∃ r, prngReg c r)) := by
  unfold Pipeline.ΦA; rw [scopedRest0_eq]; simp only [sc0, owns_whole]; try rfl

/-- The column of a point. -/
theorem coord1 (t : Fin grid0.N) : (grid0.coords t 1).val = t.val % 4 := by
  have h := Pipeline.Grid.coords_val t 1 (S := 1) (B := 4) (by decide) rfl
  rwa [Nat.div_one] at h

/-- The first point of the row block that point `n` belongs to. -/
def pt (n : ℕ) : Fin cfg0.N := ⟨4 * (n / 4) % 256, Nat.mod_lt _ (by decide)⟩

/-- A point of column 0 is the first point of its row block. -/
theorem pt_self (t : Fin cfg0.N) (ht : t.val % 4 = 0) : pt t.val = t := by
  have h : t.val < 256 := t.isLt
  exact Fin.ext (show 4 * (t.val / 4) % 256 = t.val by omega)

/-- The next point of the same row block has the same first point. -/
theorem pt_next (n : ℕ) (hn : (n + 1) % 4 ≠ 0) : pt (n + 1) = pt n :=
  Fin.ext (show 4 * ((n + 1) / 4) % 256 = 4 * (n / 4) % 256 by congr 2; omega)

/-- The normalized rows of a row block, from its first point's blocks. -/
def hAt (c : Dev nD) (n : ℕ) : Vec F S512x2048 .bf16 := k0_pay1 (iblk m c 0 (pt n)) (iblk m c 1 (pt n))

/-- The first result's block: the normalized rows times the weights of column 0. -/
def uAt (c : Dev nD) (n : ℕ) : Vec F S512x1024 .bf16 := k0_pay3 (hAt m c n) (iblk m c 2 (pt n))

/-- The last result's block at a point: the normalized rows times the point's weights. -/
def vAt (c : Dev nD) (t : Fin cfg0.N) : Vec F S512x1024 .bf16 := k0_pay8 (hAt m c t.val) (iblk m c 2 t)

/-- The normalized rows at a point of column 0. -/
theorem hAt_first (c : Dev nD) (t : Fin cfg0.N) (ht : t.val % 4 = 0) : hAt m c t.val = k0_pay1 (iblk m c 0 t) (iblk m c 1 t) := by
  unfold hAt; rw [pt_self t ht]
/-- The normalized rows do not change within a row block. -/
theorem hAt_next (c : Dev nD) (n : ℕ) (hn : (n + 1) % 4 ≠ 0) : hAt m c (n + 1) = hAt m c n := by
  unfold hAt; rw [pt_next n hn]
/-- The first result's block does not change within a row block. -/
theorem uAt_next (c : Dev nD) (n : ℕ) (hn : (n + 1) % 4 ≠ 0) : uAt m c (n + 1) = uAt m c n := by
  unfold uAt; rw [hAt_next m c n hn, pt_next n hn]

/-- Before point `n` the row buffer holds its row block's normalized rows, except before a row block's first point. -/
def inv (c : Dev nD) (n : ℕ) : sProp 𝕄 :=
  iprop((∃ d, ⌜n % 4 ≠ 0 → d = hAt m c n⌝ ∗ owns (c : Thread nD τ) sc0 fullShare d) ∗ (∃ r, prngReg c r))

/-- The windows whose contents are not named: the second and third results. -/
def fgt : Fin cfg0.W → Bool := fun w => decide (w.val = 8 ∨ w.val = 9)

/-- The pipeline's data on core `c`: arrays as found, inputs left in place, the first and last results named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => uAt m c t.val
    | ⟨8, _⟩ => vAt m c t
    | ⟨9, _⟩ => vAt m c t
    | ⟨10, _⟩ => vAt m c t
  Φ t := inv m c t.val
  q _ := fullShare
  owed _ := 0

/-- The data's arrays are what the region finds. -/
theorem A_eq (c : Dev nD) (w : Fin cfg0.W) : (dats m 0 c).A w = V m c (Pipeline.arrRef spec0 w) := by
  dsimp only [dats]

/-- What the body leaves in window 0's buffer. -/
theorem after_0 (c : Dev nD) (t : Fin cfg0.N) : (dats m 0 c).after 0 t = iblk m c 0 t := by dsimp only [dats]
/-- What the body leaves in window 1's buffer. -/
theorem after_1 (c : Dev nD) (t : Fin cfg0.N) : (dats m 0 c).after 1 t = iblk m c 1 t := by dsimp only [dats]
/-- What the body leaves in window 2's buffer. -/
theorem after_2 (c : Dev nD) (t : Fin cfg0.N) : (dats m 0 c).after 2 t = iblk m c 2 t := by dsimp only [dats]
/-- What the body leaves in window 3's buffer. -/
theorem after_3 (c : Dev nD) (t : Fin cfg0.N) : (dats m 0 c).after 3 t = iblk m c 3 t := by dsimp only [dats]
/-- What the body leaves in window 4's buffer. -/
theorem after_4 (c : Dev nD) (t : Fin cfg0.N) : (dats m 0 c).after 4 t = iblk m c 4 t := by dsimp only [dats]
/-- What the body leaves in window 5's buffer. -/
theorem after_5 (c : Dev nD) (t : Fin cfg0.N) : (dats m 0 c).after 5 t = iblk m c 5 t := by dsimp only [dats]
/-- What the body leaves in window 6's buffer. -/
theorem after_6 (c : Dev nD) (t : Fin cfg0.N) : (dats m 0 c).after 6 t = iblk m c 6 t := by dsimp only [dats]
/-- What the first result's buffer holds after a point. -/
theorem after_7 (c : Dev nD) (t : Fin cfg0.N) : (dats m 0 c).after 7 t = uAt m c t.val := by dsimp only [dats]
/-- What the last result's buffer holds after a point. -/
theorem after_10 (c : Dev nD) (t : Fin cfg0.N) : (dats m 0 c).after 10 t = vAt m c t := by dsimp only [dats]
/-- Window 0's buffer holds its block when the body starts. -/
theorem before_0 (c : Dev nD) (t : Fin cfg0.N) (d) : (dats m 0 c).before 0 t d = iblk m c 0 t :=
  before0_0_of m (dats m 0 c) (A_eq m c 0) (after_0 m c) t d
/-- Window 1's buffer holds its block when the body starts. -/
theorem before_1 (c : Dev nD) (t : Fin cfg0.N) (d) : (dats m 0 c).before 1 t d = iblk m c 1 t :=
  before0_1_of m (dats m 0 c) (A_eq m c 1) (after_1 m c) t d
/-- Window 2's buffer holds its block when the body starts. -/
theorem before_2 (c : Dev nD) (t : Fin cfg0.N) (d) : (dats m 0 c).before 2 t d = iblk m c 2 t :=
  before0_2_of m (dats m 0 c) (A_eq m c 2) (after_2 m c) t d
/-- Window 3's buffer holds its block when the body starts. -/
theorem before_3 (c : Dev nD) (t : Fin cfg0.N) (d) : (dats m 0 c).before 3 t d = iblk m c 3 t :=
  before0_3_of m (dats m 0 c) (A_eq m c 3) (after_3 m c) t d
/-- Window 4's buffer holds its block when the body starts. -/
theorem before_4 (c : Dev nD) (t : Fin cfg0.N) (d) : (dats m 0 c).before 4 t d = iblk m c 4 t :=
  before0_4_of m (dats m 0 c) (A_eq m c 4) (after_4 m c) t d
/-- Window 5's buffer holds its block when the body starts. -/
theorem before_5 (c : Dev nD) (t : Fin cfg0.N) (d) : (dats m 0 c).before 5 t d = iblk m c 5 t :=
  before0_5_of m (dats m 0 c) (A_eq m c 5) (after_5 m c) t d
/-- Window 6's buffer holds its block when the body starts. -/
theorem before_6 (c : Dev nD) (t : Fin cfg0.N) (d) : (dats m 0 c).before 6 t d = iblk m c 6 t :=
  before0_6_of m (dats m 0 c) (A_eq m c 6) (after_6 m c) t d

/-- The body leaves the first result's buffer alone off column 0. -/
theorem idle7 (t : Fin cfg0.N) : cfg0.idle 7 (cfg0.grid.coords t) = true ↔ t.val % 4 ≠ 0 := by
  have h := cond2_iff (grid0.coords t)
  rw [coord1] at h
  have e : cfg0.idle 7 (cfg0.grid.coords t) = !(k0_cond2 (grid0.coords t) == 1#1) := rfl
  rw [e, Bool.not_eq_true', beq_eq_false_iff_ne]
  exact not_congr h
/-- The body leaves the last result's buffer alone off column 3. -/
theorem idle10 (t : Fin cfg0.N) : cfg0.idle 10 (cfg0.grid.coords t) = true ↔ t.val % 4 ≠ 3 := by
  have h := cond5_iff (grid0.coords t)
  rw [coord1] at h
  have e : cfg0.idle 10 (cfg0.grid.coords t) = !(k0_cond5 (grid0.coords t) == 1#1) := rfl
  rw [e, Bool.not_eq_true', beq_eq_false_iff_ne]
  exact not_congr h

/-- The first result's buffer holds nothing of the block yet exactly at the first point of a row block. -/
theorem fresh7 : ∀ n, n ≤ cfg0.N → cfg0.fresh 7 n = decide (n % 4 = 0) :=
  cfg0.fresh_tab 7 (fun n => decide (n % 4 = 0)) rfl fun t => by
    have hf := flush0_7 t
    have hi := idle7 t
    by_cases h3 : t.val % 4 = 3
    · rw [hf.mpr h3, Bool.true_or, decide_eq_true_iff]; omega
    · rw [Bool.eq_false_iff.mpr (fun h => h3 (hf.mp h)), Bool.false_or]
      by_cases h0 : t.val % 4 = 0
      · rw [Bool.eq_false_iff.mpr (fun h => (hi.mp h) h0), Bool.false_and, decide_eq_false_iff_not]; omega
      · rw [decide_eq_false h0, Bool.and_false, decide_eq_false_iff_not]; omega

/-- After a row block's first point the first result's buffer holds its block. -/
theorem before_7 (c : Dev nD) (t : Fin cfg0.N) (ht : t.val % 4 ≠ 0) (d) : (dats m 0 c).before 7 t d = uAt m c t.val := by
  have hs : ∀ t : Fin cfg0.N, t.val % 4 ≠ 0 → uAt m c t.val = uAt m c (t.val - 1) := fun t ht => by
    have h := uAt_next m c (t.val - 1) (by omega)
    rwa [show t.val - 1 + 1 = t.val by omega] at h
  rw [(dats m 0 c).before_out_traj 7 rfl (fun _ _ => rfl) (fun t h0 hi hf => ?_) t.val t rfl d, fresh7 t.val t.isLt.le, decide_eq_false ht, if_neg Bool.false_ne_true, after_7]
  · exact (hs t ht).symm
  · rw [after_7, after_7]
    exact hs t ((idle7 t).mp hi)

/-- What the first result's buffer must be left at follows from its holding its block. -/
theorem leaves_7 (c : Dev nD) (t : Fin cfg0.N) :
    owns (c : Thread nD τ) (st0_7 t) fullShare (uAt m c t.val) ⊢ ((dats m 0 c).leavesExact 7 t : sProp 𝕄) := by
  unfold Dat.leavesExact
  by_cases ht : t.val % 4 = 0
  · rw [Bool.eq_false_iff.mpr (fun h => (idle7 t).mp h ht)]
    dsimp only; rw [after_7]
  · rw [(idle7 t).mpr ht]
    by_cases h3 : t.val % 4 = 3
    · rw [(flush0_7 t).mpr h3]; dsimp only; rw [after_7]
    · rw [Bool.eq_false_iff.mpr (fun h => h3 ((flush0_7 t).mp h))]; dsimp only
      iintro H; iexists (uAt m c t.val); rw [before_7 m c t ht]; iexact H

/-- Off column 3 the last result's buffer may be left as it was. -/
theorem leaves_10 (c : Dev nD) (t : Fin cfg0.N) (h3 : t.val % 4 ≠ 3) (d) :
    owns (c : Thread nD τ) (st0_10 t) fullShare ((dats m 0 c).before 10 t d) ⊢ ((dats m 0 c).leavesExact 10 t : sProp 𝕄) := by
  unfold Dat.leavesExact
  rw [(idle10 t).mpr h3, Bool.eq_false_iff.mpr (fun h => h3 ((flush0_10 t).mp h))]; dsimp only
  iintro H; iexists d; iexact H

/-- At column 3 the last result's buffer is left at the point's product. -/
theorem leaves_10_last (c : Dev nD) (t : Fin cfg0.N) (h3 : t.val % 4 = 3) :
    owns (c : Thread nD τ) (st0_10 t) fullShare (vAt m c t) ⊢ ((dats m 0 c).leavesExact 10 t : sProp 𝕄) := by
  unfold Dat.leavesExact
  rw [Bool.eq_false_iff.mpr (fun h => (idle10 t).mp h h3)]; dsimp only; rw [after_10]

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X)
    ∗ (∃ d, owns (c : Thread nD τ) (st0_10 t) fullShare ((dats m 0 c).before 10 t d)))

/-- What the body returns at point `t`. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (∃ X, owns (c : Thread nD τ) (st0_8 t) fullShare X)
    ∗ (∃ X, owns (c : Thread nD τ) (st0_9 t) fullShare X)
    ∗ (dats m 0 c).leavesExact 10 t)

set_option maxHeartbeats 800000 in
/-- The body at any point takes `pre` to `post`. -/
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.castSucc = inv m c t.val from rfl, show (dats m 0 c).Φ t.succ = inv m c (t.val + 1) from rfl]
  unfold inv
  have h4 : t.val % 4 < 4 := Nat.mod_lt _ (by decide)
  iintro ⟨⟨⟨%dh, %hh, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rcases (by omega : t.val % 4 = 0 ∨ t.val % 4 = 1 ∨ t.val % 4 = 2 ∨ t.val % 4 = 3) with ht | ht | ht | ht
  · iapply (body0 (F := F) c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ dh ((coord1 t).trans ht) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS]; · iexact HS
    iintro ⟨H0, H1, H2, H3, H4, H5, H6, H7, H8, H9, H10, HS⟩
    isplitl [HS Hg]
    · isplitl [HS]
      · iexists _; isplitr; swap; · iexact HS
        ipureintro; intro h; rw [hAt_next m c t.val h, hAt_first m c t ht]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (leaves_7 m c t); unfold uAt; rw [hAt_first m c t ht, pt_self t ht]; iexact H7
    isplitl [H8]; · iexact H8
    isplitl [H9]; · iexact H9
    iapply (leaves_10 m c t (by omega) d10); iexact H10
  · obtain rfl := hh (by omega)
    rw [before_7 m c t (by omega) d7]
    iapply (body1 (F := F) c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (uAt m c t.val) _ (hAt m c t.val) ((coord1 t).trans ht) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS]; · iexact HS
    iintro ⟨H0, H1, H2, H3, H4, H5, H6, H7, H8, H9, H10, HS⟩
    isplitl [HS Hg]
    · isplitl [HS]
      · iexists _; isplitr; swap; · iexact HS
        ipureintro; intro h; exact (hAt_next m c t.val h).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves_7 m c t); iexact H7
    isplitl [H8]; · iexact H8
    isplitl [H9]; · iexact H9
    iapply (leaves_10 m c t (by omega) d10); iexact H10
  · obtain rfl := hh (by omega)
    rw [before_7 m c t (by omega) d7]
    iapply (body2 (F := F) c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (uAt m c t.val) _ (hAt m c t.val) ((coord1 t).trans ht) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS]; · iexact HS
    iintro ⟨H0, H1, H2, H3, H4, H5, H6, H7, H8, H9, H10, HS⟩
    isplitl [HS Hg]
    · isplitl [HS]
      · iexists _; isplitr; swap; · iexact HS
        ipureintro; intro h; exact (hAt_next m c t.val h).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves_7 m c t); iexact H7
    isplitl [H8]; · iexact H8
    isplitl [H9]; · iexact H9
    iapply (leaves_10 m c t (by omega) d10); iexact H10
  · obtain rfl := hh (by omega)
    rw [before_7 m c t (by omega) d7]
    iapply (body3 (F := F) c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (uAt m c t.val) _ (hAt m c t.val) ((coord1 t).trans ht) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS]; · iexact HS
    iintro ⟨H0, H1, H2, H3, H4, H5, H6, H7, H8, H9, H10, HS⟩
    isplitl [HS Hg]
    · isplitl [HS]
      · iexists _; isplitr; swap; · iexact HS
        ipureintro; intro h; exact absurd (by omega) h
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves_7 m c t); iexact H7
    isplitl [H8]; · iexact H8
    isplitl [H9]; · iexact H9
    iapply (leaves_10_last m c t ht); iexact H10

/-- The body table's row at point `t` is the body at the point's buffers. -/
theorem row (t : Fin cfg0.N) :
    defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ fgt := fun t => by
  rw [bigSep_W0, bigSep_W0, row]
  exact triple_restated (sound_body m c t) rfl .rfl fun _ => .rfl

/-- The launch's loan is the data's invariant before the first point, -/
theorem inv_in (c : Dev nD) : (Pipeline.ΦA spec0 c : sProp 𝕄) ⊢ inv m c 0 := by
  rw [phi_eq]; unfold inv
  iintro ⟨⟨%d, H⟩, Hg⟩
  isplitl [H]
  · iexists d; isplitr; swap; · iexact H
    ipureintro; intro h; exact absurd rfl h
  iexact Hg
/-- and is given back after any point. -/
theorem inv_out (c : Dev nD) (n : ℕ) : inv m c n ⊢ (Pipeline.ΦA spec0 c : sProp 𝕄) := by
  rw [phi_eq]; unfold inv
  iintro ⟨⟨%d, -, H⟩, Hg⟩
  isplitl [H]
  · iexists d; iexact H
  iexact Hg

set_option backward.isDefEq.respectTransparency.types false in
/-- The launch terminates, with every array at what the data say and every counter at zero. -/
theorem launch : θ_run defs (onTc (τ := τ) (main (F := F))) (s₀ m ρ) (fun r => RDat.FramePost cfg0 (fun c => (dats m 0 c).toRForget fgt) (V m) r ∧ r.2.sem = fun _ => 0) :=
  Pipeline.θ_run_frame_track_forget cfgs (dats m) (0 : Fin 1) launch0 defs₀ Variants.none fgt m ρ main
    (hbody := fun c => (obligation m c).loose) (hshare := fun c => (dats m 0 c).share_full fun _ => rfl)
    (howed := fun _ _ => rfl) (V := V m) (hmain := hmain m Variants.none) (hA := A_eq m) (hin := inv_in m) (hout := fun c => inv_out m c _)
    (Q' := _) (hQ' := fun _ h => h)

/-- The arguments end as launched and every counter ends at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (launch m ρ)

/-- The launch with the first and last result arrays named. -/
theorem result : θ_run defs (onTc (τ := τ) (main (F := F))) ⟨m, fun _ => 0, ρ⟩ (fun r => ∀ c : Dev nD,
      r.2.mem ((c.tc : Thread nD τ).loc main_v30_0) = (dats m 0 c).arrAt 7 cfg0.N
      ∧ r.2.mem ((c.tc : Thread nD τ).loc main_v30_3) = (dats m 0 c).arrAt 10 cfg0.N) :=
  (θ_run defs _ _).mono (fun r h c => ⟨((dats m 0 c).toRForget_arrAt_iff (w := 7) rfl _ _).mp ((h.1 c).1 7), ((dats m 0 c).toRForget_arrAt_iff (w := 10) rfl _ _).mp ((h.1 c).1 10)⟩) (launch m ρ)

end Cert.Kernel4Ideal.Inp

end
-- ==== Proof.Ref4Val.lean ====
/-
  The reference of the input projection: its two results read at a row and a lane.
-/
module

public import proofs.«01_k».proof.Proof.Gen.Reference4Ideal.Run
public import proofs.«01_k».proof.Proof.Ref3Val
public import Idealize.ShloMosaic.Lib.Pointwise
public import Idealize.ShloMosaic.Lib.Pipeline.Value

@[expose] public section

set_option maxRecDepth 16384

noncomputable section

namespace Cert.Reference4Ideal.Inp

open Cert.Reference4Ideal Cert.Reference4Ideal.Gen Cert.Projection
open Idealize.ShloMosaic Idealize.ShloMosaic.TcCoe Idealize.SL.Sem

/-- A lane of the first group lies in the projection's columns. -/
theorem first_lt (d : Fin 1024) : d.val < 4096 := by omega
/-- A lane of the last group lies in the projection's columns. -/
theorem last_lt (d : Fin 1024) : 3072 + d.val < 4096 := by omega

/-- Column `d` of a row over its root mean square, times the gains, through the projection. -/
def through (x g : Fin 2048 → EReal) (w : Fin 2048 → EReal) : EReal :=
  ∑ k : Fin 2048, scaled x (g k) k * w k

variable {F : FTy → Type} [FloatOps F]

/-- The rows over their root mean squares, times the gain. -/
def rows (x : FVec F S32768x2048 .f32) (g : FVec F S2048 .f32) : FVec F S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 g))

/-- The rows through the projection. -/
def cols (h : FVec F S32768x2048 .f32) (w : FVec F S2048x4096 .f32) : FVec F S32768x4096 .f32 :=
  Host.dotGeneral dot_S32768x2048_S2048x4096_S32768x4096_1_0_0_1_n_n none h w

/-- The first group of columns. -/
def first (p : FVec F S32768x4096 .f32) : FVec F S32768x1024 .bf16 :=
  truncf .bf16 (extractStridedSlice S32768x1024 ![0, 0] p slices_S32768x4096_S32768x1024_0_0) bitsLt_bf16_f32

/-- The last group of columns. -/
def last (p : FVec F S32768x4096 .f32) : FVec F S32768x1024 .bf16 :=
  truncf .bf16 (extractStridedSlice S32768x1024 ![0, 3072] p slices_S32768x4096_S32768x1024_0_3072) bitsLt_bf16_f32

/-- A normalized row, at a lane. -/
theorem rows_at (x : FVec Ideal S32768x2048 .f32) (g : FVec Ideal S2048 .f32) (r : Fin 32768) (d : Fin 2048) :
    (rows (F := Ideal) x g (ix2 r d) : EReal) = scaled (fun k => x (ix2 r k)) (g (ix1 d)) d := by
  pointwise [rows, scaled]

/-- A column of a row, over the rows. -/
theorem cols_at (h : FVec Ideal S32768x2048 .f32) (w : FVec Ideal S2048x4096 .f32) (r : Fin 32768) (d : Fin 4096) :
    (cols (F := Ideal) h w (ix2 r d) : EReal) = ∑ k : Fin 2048, h (ix2 r k) * w (ix2 k d) := by
  pointwise [cols]

/-- A lane of the first group is the column of that number. -/
theorem first_col (p : FVec Ideal S32768x4096 .f32) (r : Fin 32768) (d : Fin 1024) :
    (first (F := Ideal) p (ix2 r d) : EReal) = p (ix2 r ⟨d.val, first_lt d⟩) := by
  refine congrArg p (funext fun a => Fin.ext ?_)
  fin_cases a
  · show 0 + r.val = r.val; omega
  · show 0 + d.val = d.val; omega

/-- A lane of the last group is the column 3072 further on. -/
theorem last_col (p : FVec Ideal S32768x4096 .f32) (r : Fin 32768) (d : Fin 1024) :
    (last (F := Ideal) p (ix2 r d) : EReal) = p (ix2 r ⟨3072 + d.val, last_lt d⟩) := by
  refine congrArg p (funext fun a => Fin.ext ?_)
  fin_cases a
  · show 0 + r.val = r.val; omega
  · show 3072 + d.val = 3072 + d.val; omega

/-- A column of the projection, from the arguments. -/
theorem cols_through (x : FVec Ideal S32768x2048 .f32) (g : FVec Ideal S2048 .f32) (w : FVec Ideal S2048x4096 .f32) (r : Fin 32768) (d : Fin 4096) :
    (cols (F := Ideal) (rows x g) w (ix2 r d) : EReal) = through (fun k => x (ix2 r k)) (fun k => g (ix1 k)) (fun k => w (ix2 k d)) := by
  refine (cols_at _ w r d).trans ?_
  exact Finset.sum_congr rfl fun k _ => congrArg (fun z : EReal => z * w (ix2 k d)) (rows_at x g r k)

/-- The first result, at a row and a lane. -/
theorem first_at (x : FVec Ideal S32768x2048 .f32) (g : FVec Ideal S2048 .f32) (w : FVec Ideal S2048x4096 .f32) (r : Fin 32768) (d : Fin 1024) :
    (first (F := Ideal) (cols (rows x g) w) (ix2 r d) : EReal) = through (fun k => x (ix2 r k)) (fun k => g (ix1 k)) (fun k => w (ix2 k ⟨d.val, first_lt d⟩)) :=
  (first_col _ r d).trans (cols_through x g w r _)

/-- The second result, at a row and a lane. -/
theorem last_at (x : FVec Ideal S32768x2048 .f32) (g : FVec Ideal S2048 .f32) (w : FVec Ideal S2048x4096 .f32) (r : Fin 32768) (d : Fin 1024) :
    (last (F := Ideal) (cols (rows x g) w) (ix2 r d) : EReal) = through (fun k => x (ix2 r k)) (fun k => g (ix1 k)) (fun k => w (ix2 k ⟨3072 + d.val, last_lt d⟩)) :=
  (last_col _ r d).trans (cols_through x g w r _)

end Cert.Reference4Ideal.Inp

end
-- ==== Proof.Kernel4IdealVal.lean ====
/-
  The values of the input projection's call: its payloads and blocks read at indices.
-/
module

public import proofs.«01_k».proof.Proof.Kernel4IdealRun
public import proofs.«01_k».proof.Proof.Ref4Val
public import Idealize.ShloMosaic.Lib.Pipeline.ValueKit

@[expose] public section

set_option maxRecDepth 16384

noncomputable section

namespace Cert.Kernel4Ideal.Inp

open Cert.Kernel4Ideal Cert.Kernel4Ideal.Gen Cert.Projection
open Idealize.ShloMosaic Idealize.ShloMosaic.TcCoe Idealize.SL.Sem

/-- The kept rows, at a row and a lane of the block. -/
theorem pay1_at (x : FVec Ideal S512x2048 .f32) (g : FVec Ideal S1x2048 .f32) (r : Fin 512) (d : Fin 2048) :
    (k0_pay1 (F := Ideal) x g (ix2 r d) : EReal) = scaled (fun k => x (ix2 r k)) (g (ix2 0 d)) d := by
  pointwise [k0_pay1, scaled]

/-- The first group's stored columns, at a row and a lane of the block. -/
theorem pay3_at (h : FVec Ideal S512x2048 .bf16) (w : FVec Ideal S2048x1024 .bf16) (r : Fin 512) (d : Fin 1024) :
    (k0_pay3 (F := Ideal) h w (ix2 r d) : EReal) = ∑ k : Fin 2048, h (ix2 r k) * w (ix2 k d) := by
  pointwise [k0_pay3, k0_pay2]

/-- The last group's stored columns, at a row and a lane of the block. -/
theorem pay8_at (h : FVec Ideal S512x2048 .bf16) (w : FVec Ideal S2048x1024 .bf16) (r : Fin 512) (d : Fin 1024) :
    (k0_pay8 (F := Ideal) h w (ix2 r d) : EReal) = ∑ k : Fin 2048, h (ix2 r k) * w (ix2 k d) := by
  pointwise [k0_pay8, k0_pay2]

variable (m : (ℓ : Loc nD τ sig) → Buf (Elt Ideal) ℓ) (c : Dev nD)

/-- The projection's weights as the call reads them. -/
theorem weights (k : Fin 2048) (d : Fin 4096) : ((V m c main_v21 : FVec Ideal S2048x4096 .bf16) (ix2 k d) : EReal) = (m ((c.tc : Thread nD τ).loc main_arg2) : FVec Ideal S2048x4096 .f32) (ix2 k d) := by
  entry_read
  pointwise []

/-- The gain as the call reads it. -/
theorem gain (d : Fin 2048) : ((V m c main_v20 : FVec Ideal S1x2048 .f32) (ix2 0 d) : EReal) = (m ((c.tc : Thread nD τ).loc main_arg1) : FVec Ideal S2048 .f32) (ix1 d) := by
  entry_read
  pointwise []

/-- The row block of a point. -/
theorem coord0 (t : Fin grid0.N) : (grid0.coords t 0).val = t.val / 4 := by
  have h : t.val < 256 := t.isLt
  have e : (grid0.coords t 0).val = t.val / 4 % 64 := Pipeline.Grid.coords_val t 0 (by decide) rfl
  omega

/-- A point's row block is one of 64. -/
theorem blk_lt (t : Fin cfg0.N) : t.val / 4 < 64 := by
  have h : t.val < 256 := t.isLt
  omega

/-- An index map over the row blocks. -/
theorem tr_rows (t : Fin grid0.N) : (![(BitVec.ofNat 32 (grid0.coords t 0).val).toNat, 0] : Fin 2 → ℕ) = ![t.val / 4, 0] := by
  have h : t.val < 256 := t.isLt
  rw [coord0, BitVec.toNat_ofNat, Nat.mod_eq_of_lt (by omega)]

/-- An index map over the column blocks. -/
theorem tr_cols (t : Fin grid0.N) : (![0, (BitVec.ofNat 32 (grid0.coords t 1).val).toNat] : Fin 2 → ℕ) = ![0, t.val % 4] := by
  rw [coord1, BitVec.toNat_ofNat, Nat.mod_eq_of_lt (by omega)]

/-- A row of a block lies in the array. -/
theorem row_lt (S : ℕ) (hS : S < 64) (r : Fin 512) : S * 512 + r.val < 32768 := by omega

/-- A column of a block of the weights lies in the array. -/
theorem col_lt (j : ℕ) (hj : j < 4) (d : Fin 1024) : j * 1024 + d.val < 4096 := by omega

/-- A block's place in the array of wide rows. -/
theorem at_wide (S : ℕ) (hS : S < 64) (r : Fin 512) (k : Fin 2048) : ∀ a : Fin 2, (![S, 0] : Fin 2 → ℕ) a * S512x2048.size a + 1 * ((ix2 r k : S512x2048.Idx) a).val
    = ((ix2 ⟨S * 512 + r.val, row_lt S hS r⟩ k : S32768x2048.Idx) a).val := by
  intro a
  fin_cases a
  · show S * 512 + 1 * r.val = S * 512 + r.val; omega
  · show 0 * 2048 + 1 * k.val = k.val; omega

/-- A block's place in a result array. -/
theorem at_half (S : ℕ) (hS : S < 64) (r : Fin 512) (k : Fin 1024) : ∀ a : Fin 2, (![S, 0] : Fin 2 → ℕ) a * S512x1024.size a + 1 * ((ix2 r k : S512x1024.Idx) a).val
    = ((ix2 ⟨S * 512 + r.val, row_lt S hS r⟩ k : S32768x1024.Idx) a).val := by
  intro a
  fin_cases a
  · show S * 512 + 1 * r.val = S * 512 + r.val; omega
  · show 0 * 1024 + 1 * k.val = k.val; omega

/-- A column block's place in the weights. -/
theorem at_weights (j : ℕ) (hj : j < 4) (k : Fin 2048) (d : Fin 1024) : ∀ a : Fin 2, (![0, j] : Fin 2 → ℕ) a * S2048x1024.size a + 1 * ((ix2 k d : S2048x1024.Idx) a).val
    = ((ix2 k ⟨j * 1024 + d.val, col_lt j hj d⟩ : S2048x4096.Idx) a).val := by
  intro a
  fin_cases a
  · show 0 * 2048 + 1 * k.val = k.val; omega
  · show j * 1024 + 1 * d.val = j * 1024 + d.val; omega

/-- The whole gain's place. -/
theorem at_gain (d : Fin 2048) : ∀ a : Fin 2, (![0, 0] : Fin 2 → ℕ) a * S1x2048.size a + 1 * ((ix2 0 d : S1x2048.Idx) a).val = ((ix2 0 d : S1x2048.Idx) a).val := by
  intro a
  fin_cases a
  · show 0 * 1 + 1 * 0 = 0; omega
  · show 0 * 2048 + 1 * d.val = d.val; omega

variable (t : Fin cfg0.N)

/-- Where window 0's block lies. -/
theorem emb0 (y : S512x2048.Idx) (a : Fin S32768x2048.rank) : (((cfg0.win 0).blk t).view.emb y a : ℕ) = cc0_transform_0 (grid0.coords t) a * S512x2048.size a + 1 * (y a).val := rfl
/-- Where window 1's block lies. -/
theorem emb1 (y : S1x2048.Idx) (a : Fin S1x2048.rank) : (((cfg0.win 1).blk t).view.emb y a : ℕ) = cc0_transform_1 (grid0.coords t) a * S1x2048.size a + 1 * (y a).val := rfl
/-- Where window 2's block lies. -/
theorem emb2 (y : S2048x1024.Idx) (a : Fin S2048x4096.rank) : (((cfg0.win 2).blk t).view.emb y a : ℕ) = cc0_transform_2 (grid0.coords t) a * S2048x1024.size a + 1 * (y a).val := rfl
/-- Where window 7's block lies. -/
theorem emb7 (y : S512x1024.Idx) (a : Fin S32768x1024.rank) : (((cfg0.win 7).blk t).view.emb y a : ℕ) = cc0_transform_7 (grid0.coords t) a * S512x1024.size a + 1 * (y a).val := rfl
/-- Where window 10's block lies. -/
theorem emb10 (y : S512x1024.Idx) (a : Fin S32768x1024.rank) : (((cfg0.win 10).blk t).view.emb y a : ℕ) = cc0_transform_10 (grid0.coords t) a * S512x1024.size a + 1 * (y a).val := rfl

/-- The rows' block. -/
theorem blk0 (r : Fin 512) (k : Fin 2048) : ((iblk m c 0 t : FVec Ideal S512x2048 .f32) (ix2 r k) : EReal)
    = (m ((c.tc : Thread nD τ).loc main_arg0) : FVec Ideal S32768x2048 .f32) (ix2 ⟨t.val / 4 * 512 + r.val, row_lt _ (blk_lt t) r⟩ k) := by
  refine Eq.trans (congrArg (V m c main_arg0 : FVec Ideal S32768x2048 .f32) (funext fun a => Fin.ext ?_)) (congrFun (V_main_arg0 m c) _)
  refine (emb0 t (ix2 r k) a).trans ?_
  rw [show cc0_transform_0 (grid0.coords t) = ![t.val / 4, 0] from tr_rows t]
  exact at_wide _ (blk_lt t) r k a

/-- The gain's block. -/
theorem blk1 (d : Fin 2048) : ((iblk m c 1 t : FVec Ideal S1x2048 .f32) (ix2 0 d) : EReal) = (m ((c.tc : Thread nD τ).loc main_arg1) : FVec Ideal S2048 .f32) (ix1 d) := by
  refine Eq.trans (congrArg (V m c main_v20 : FVec Ideal S1x2048 .f32) (funext fun a => Fin.ext ?_)) (gain m c d)
  refine (emb1 t (ix2 0 d) a).trans ?_
  rw [show cc0_transform_1 (grid0.coords t) = ![0, 0] from rfl]
  exact at_gain d a

/-- The weights' block. -/
theorem blk2 (k : Fin 2048) (d : Fin 1024) : ((iblk m c 2 t : FVec Ideal S2048x1024 .bf16) (ix2 k d) : EReal)
    = (m ((c.tc : Thread nD τ).loc main_arg2) : FVec Ideal S2048x4096 .f32) (ix2 k ⟨t.val % 4 * 1024 + d.val, col_lt _ (Nat.mod_lt _ (by decide)) d⟩) := by
  refine Eq.trans (congrArg (V m c main_v21 : FVec Ideal S2048x4096 .bf16) (funext fun a => Fin.ext ?_)) (weights m c k _)
  refine (emb2 t (ix2 k d) a).trans ?_
  rw [show cc0_transform_2 (grid0.coords t) = ![0, t.val % 4] from tr_cols t]
  exact at_weights _ (Nat.mod_lt _ (by decide)) k d a

/-- A row of a point's block, in the first result. -/
theorem emb7_pt (r : Fin 512) (d : Fin 1024) : ((cfg0.win 7).blk t).view.emb (ix2 r d : S512x1024.Idx) = (ix2 ⟨t.val / 4 * 512 + r.val, row_lt _ (blk_lt t) r⟩ d : S32768x1024.Idx) := by
  refine funext fun a => Fin.ext ((emb7 t (ix2 r d) a).trans ?_)
  rw [show cc0_transform_7 (grid0.coords t) = ![t.val / 4, 0] from tr_rows t]
  exact at_half _ (blk_lt t) r d a

/-- A row of a point's block, in the last result. -/
theorem emb10_pt (r : Fin 512) (d : Fin 1024) : ((cfg0.win 10).blk t).view.emb (ix2 r d : S512x1024.Idx) = (ix2 ⟨t.val / 4 * 512 + r.val, row_lt _ (blk_lt t) r⟩ d : S32768x1024.Idx) := by
  refine funext fun a => Fin.ext ((emb10 t (ix2 r d) a).trans ?_)
  rw [show cc0_transform_10 (grid0.coords t) = ![t.val / 4, 0] from tr_rows t]
  exact at_half _ (blk_lt t) r d a

end Cert.Kernel4Ideal.Inp

end
-- ==== Proof.Kernel4IdealFinal.lean ====
/-
  The first and last result arrays of the input projection's call: the reference's of the same arguments.
-/
module

public import proofs.«01_k».proof.Proof.Kernel4IdealVal

@[expose] public section

set_option maxRecDepth 16384

noncomputable section

namespace Cert.Kernel4Ideal.Inp

open Cert.Kernel4Ideal Cert.Kernel4Ideal.Gen Cert.Projection
open Cert.Reference4Ideal.Inp (through first_lt last_lt rows cols first last first_at last_at)
open Idealize.ShloMosaic Idealize.ShloMosaic.TcCoe Idealize.SL.Sem
open Idealize.ShloMosaic.Pipeline (Dat)

variable (m : (ℓ : Loc nD τ sig) → Buf (Elt Ideal) ℓ) (c : Dev nD)

/-- Column `d` of row `r` of the projection, from the call's arguments. -/
def colAt (r : Fin 32768) (d : Fin 4096) : EReal :=
  through (fun k => (m ((c.tc : Thread nD τ).loc main_arg0) : FVec Ideal S32768x2048 .f32) (ix2 r k)) (fun k => (m ((c.tc : Thread nD τ).loc main_arg1) : FVec Ideal S2048 .f32) (ix1 k))
    (fun k => (m ((c.tc : Thread nD τ).loc main_arg2) : FVec Ideal S2048x4096 .f32) (ix2 k d))

/-- The first point of a point's row block is of the same row block. -/
theorem pt_blk (t : Fin cfg0.N) : (pt t.val).val / 4 = t.val / 4 := by
  have h : t.val < 256 := t.isLt
  show 4 * (t.val / 4) % 256 / 4 = t.val / 4
  omega

/-- The first point of a row block is of column block 0. -/
theorem pt_col (t : Fin cfg0.N) : (pt t.val).val % 4 = 0 := by
  have h : t.val < 256 := t.isLt
  show 4 * (t.val / 4) % 256 % 4 = 0
  omega

/-- The kept rows at a point are the normalized rows of its row block. -/
theorem kept_at (t : Fin cfg0.N) (r : Fin 512) (k : Fin 2048) : (hAt m c t.val (ix2 r k) : EReal)
    = scaled (fun k => (m ((c.tc : Thread nD τ).loc main_arg0) : FVec Ideal S32768x2048 .f32) (ix2 ⟨t.val / 4 * 512 + r.val, row_lt _ (blk_lt t) r⟩ k)) ((m ((c.tc : Thread nD τ).loc main_arg1) : FVec Ideal S2048 .f32) (ix1 k)) k := by
  unfold hAt
  refine (pay1_at _ _ r k).trans ?_
  refine congrArg₂ (fun y g => scaled y g k) (funext fun l => (blk0 m c (pt t.val) r l).trans ?_) (blk1 m c (pt t.val) k)
  exact congrArg (fun R => (m ((c.tc : Thread nD τ).loc main_arg0) : FVec Ideal S32768x2048 .f32) (ix2 R l)) (Fin.ext (by show (pt t.val).val / 4 * 512 + r.val = t.val / 4 * 512 + r.val; rw [pt_blk]))

/-- What the first result's window holds at a point. -/
theorem first_blk (t : Fin cfg0.N) (r : Fin 512) (d : Fin 1024) : (uAt m c t.val (ix2 r d) : EReal) = colAt m c ⟨t.val / 4 * 512 + r.val, row_lt _ (blk_lt t) r⟩ ⟨d.val, first_lt d⟩ := by
  unfold uAt colAt through
  refine (pay3_at _ _ r d).trans (Finset.sum_congr rfl fun k _ => congrArg₂ (fun p q : EReal => p * q) (kept_at m c t r k) ((blk2 m c (pt t.val) k d).trans ?_))
  exact congrArg (fun D => (m ((c.tc : Thread nD τ).loc main_arg2) : FVec Ideal S2048x4096 .f32) (ix2 k D)) (Fin.ext (by show (pt t.val).val % 4 * 1024 + d.val = d.val; rw [pt_col]; omega))

/-- What the last result's window is given at a point of the last column. -/
theorem last_blk (t : Fin cfg0.N) (h3 : t.val % 4 = 3) (r : Fin 512) (d : Fin 1024) : (vAt m c t (ix2 r d) : EReal) = colAt m c ⟨t.val / 4 * 512 + r.val, row_lt _ (blk_lt t) r⟩ ⟨3072 + d.val, last_lt d⟩ := by
  unfold vAt colAt through
  refine (pay8_at _ _ r d).trans (Finset.sum_congr rfl fun k _ => congrArg₂ (fun p q : EReal => p * q) (kept_at m c t r k) ((blk2 m c t k d).trans ?_))
  exact congrArg (fun D => (m ((c.tc : Thread nD τ).loc main_arg2) : FVec Ideal S2048x4096 .f32) (ix2 k D)) (Fin.ext (by show t.val % 4 * 1024 + d.val = 3072 + d.val; rw [h3]))

/-- The first result's block is written back at the points of the last column. -/
theorem back7 : ∀ t : Fin cfg0.N, (cfg0.win 7).flush t = decide (t.val % 4 = 3) :=
  (by decide +kernel : ∀ t : Fin grid0.N, win0_7.flush t = decide (t.val % 4 = 3))

/-- The last result's block is written back at the points of the last column. -/
theorem back10 : ∀ t : Fin cfg0.N, (cfg0.win 10).flush t = decide (t.val % 4 = 3) :=
  (by decide +kernel : ∀ t : Fin grid0.N, win0_10.flush t = decide (t.val % 4 = 3))

/-- The last point of a row block. -/
def lastPt (b : Fin 64) : Fin cfg0.N := ⟨4 * b.val + 3, by show 4 * b.val + 3 < 256; omega⟩

/-- It is of the last column. -/
theorem lastPt_col (b : Fin 64) : (lastPt b).val % 4 = 3 := by show (4 * b.val + 3) % 4 = 3; omega

/-- Every entry of a result array lies in one row block. -/
theorem split (i : S32768x1024.Idx) : ∃ (b : Fin 64) (r : Fin 512) (d : Fin 1024), i = (ix2 ⟨(lastPt b).val / 4 * 512 + r.val, row_lt _ (blk_lt (lastPt b)) r⟩ d : S32768x1024.Idx) := by
  have h0 : (i 0).val < 32768 := (i 0).isLt
  refine ⟨⟨(i 0).val / 512, by omega⟩, ⟨(i 0).val % 512, by omega⟩, i 1, funext fun a => ?_⟩
  fin_cases a
  · exact Fin.ext (by show (i 0).val = (4 * ((i 0).val / 512) + 3) / 4 * 512 + (i 0).val % 512; omega)
  · rfl

/-- A row of a point's block lies in what the point writes of the first result. -/
theorem in_blk7 (t : Fin cfg0.N) (r : Fin 512) (d : Fin 1024) : (ix2 ⟨t.val / 4 * 512 + r.val, row_lt _ (blk_lt t) r⟩ d : S32768x1024.Idx) ∈ ((cfg0.win 7).blk t).view.set := by
  have h := View.emb_mem_set ((cfg0.win 7).blk t).view (ix2 r d : S512x1024.Idx)
  rw [emb7_pt] at h
  exact h

/-- A row of a point's block lies in what the point writes of the last result. -/
theorem in_blk10 (t : Fin cfg0.N) (r : Fin 512) (d : Fin 1024) : (ix2 ⟨t.val / 4 * 512 + r.val, row_lt _ (blk_lt t) r⟩ d : S32768x1024.Idx) ∈ ((cfg0.win 10).blk t).view.set := by
  have h := View.emb_mem_set ((cfg0.win 10).blk t).view (ix2 r d : S512x1024.Idx)
  rw [emb10_pt] at h
  exact h

/-- The first result after the run. -/
theorem final7 : (dats m 0 c).arrAt 7 cfg0.N
    = first (F := Ideal) (cols (rows (m ((c.tc : Thread nD τ).loc main_arg0)) (m ((c.tc : Thread nD τ).loc main_arg1))) (m ((c.tc : Thread nD τ).loc main_arg2))) := by
  refine (dats m 0 c).arrAt_eq_of_emb 7 _ (fun t hf y => ?_) (fun i => ?_)
  · change S512x1024.Idx at y
    obtain ⟨r, d, rfl⟩ : ∃ (r : Fin 512) (d : Fin 1024), y = ix2 r d := ⟨y 0, y 1, funext fun a => by fin_cases a <;> rfl⟩
    rw [emb7_pt]
    exact Eq.trans (b := (uAt m c t.val (ix2 r d) : EReal)) (congrFun (after_7 m c t) (ix2 r d)) ((first_blk m c t r d).trans (first_at _ _ _ _ d).symm)
  · change S32768x1024.Idx at i
    obtain ⟨b, r, d, rfl⟩ := split i
    exact ⟨lastPt b, (back7 _).trans (decide_eq_true (lastPt_col b)), in_blk7 (lastPt b) r d⟩

/-- The last result after the run. -/
theorem final10 : (dats m 0 c).arrAt 10 cfg0.N
    = last (F := Ideal) (cols (rows (m ((c.tc : Thread nD τ).loc main_arg0)) (m ((c.tc : Thread nD τ).loc main_arg1))) (m ((c.tc : Thread nD τ).loc main_arg2))) := by
  refine (dats m 0 c).arrAt_eq_of_emb 10 _ (fun t hf y => ?_) (fun i => ?_)
  · change S512x1024.Idx at y
    obtain ⟨r, d, rfl⟩ : ∃ (r : Fin 512) (d : Fin 1024), y = ix2 r d := ⟨y 0, y 1, funext fun a => by fin_cases a <;> rfl⟩
    rw [emb10_pt]
    exact Eq.trans (b := (vAt m c t (ix2 r d) : EReal)) (congrFun (after_10 m c t) (ix2 r d)) ((last_blk m c t (of_decide_eq_true ((back10 t).symm.trans hf)) r d).trans (last_at _ _ _ _ d).symm)
  · change S32768x1024.Idx at i
    obtain ⟨b, r, d, rfl⟩ := split i
    exact ⟨lastPt b, (back10 _).trans (decide_eq_true (lastPt_col b)), in_blk10 (lastPt b) r d⟩

end Cert.Kernel4Ideal.Inp

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2.Skeleton
public import proofs.«01_k».proof.Proof.Gen.Kernel2Ideal.Skeleton
public import proofs.«01_k».proof.Proof.Gen.Kernel2.Launch
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4.Skeleton
public import proofs.«01_k».proof.Proof.Gen.Kernel4Ideal.Skeleton
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Kernel5Run
public import proofs.«01_k».proof.Proof.Kernel5IdealRun
public import proofs.«01_k».proof.Proof.Kernel5Final
public import proofs.«01_k».proof.Proof.PreFin5
public import proofs.«01_k».proof.Proof.KernelRun
public import proofs.«01_k».proof.Proof.KernelIdealRun
public import proofs.«01_k».proof.Proof.KernelFinal
public import proofs.«01_k».proof.Proof.PreFin
public import proofs.«01_k».proof.Proof.Gen.Pre_table_ranges
public import proofs.«01_k».proof.Proof.Kernel2Tables
public import proofs.«01_k».proof.Proof.Kernel2IdealTables
public import proofs.«01_k».proof.Proof.Kernel2IdealFinal
public import proofs.«01_k».proof.Proof.Ref2Val
public import proofs.«01_k».proof.Proof.Kernel3IdealFinal
public import proofs.«01_k».proof.Proof.Ref3Val
public import proofs.«01_k».proof.Proof.Kernel4Run
public import proofs.«01_k».proof.Proof.Kernel4IdealFinal
public import proofs.«01_k».proof.Proof.Ref4Val
public import Idealize.ShloMosaic.Lib.Claim

@[expose] public section

namespace Cert.Proof

open Idealize.ShloMosaic Idealize.ShloMosaic.TcCoe Idealize.SL.Sem

/-- The predicate's shape facts, as an instance. -/
instance preFacts : Cert.Pre_finite_values.Facts := Cert.PreFin.facts

/-- The kernel terminates, keeps its arguments and leaves every counter at zero. -/
theorem frame_P : Cert.quiescent_Kernel := fun m g _ => Cert.Kernel.Attn.quiet m g

/-- So does the ideal kernel. -/
theorem frame_PI : Cert.quiescent_KernelIdeal := fun m g _ => Cert.KernelIdeal.Attn.quiet m g

/-- So does the ideal kernel under the precondition. -/
theorem frame_PI_pre : Cert.quiescent_KernelIdeal_pre_finite_values := fun m g _ => Cert.KernelIdeal.Attn.quiet m g

/-- So does the ideal reference, which declares no counter. -/
theorem frame_RI : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- So does the ideal reference under the precondition. -/
theorem frame_RI_pre : Cert.quiescent_ReferenceIdeal_pre_finite_values := fun m g _ => frame_RI m g trivial

/-- Over finite arguments the ideal kernel and the ideal reference compute the same array. -/
theorem algebraic : Cert.algebraic_KernelIdeal_ReferenceIdeal_pre_finite_values := by
  pair_intro
  · run_from Cert.KernelIdeal.Attn.result m g & Cert.KernelIdeal.Attn.quiet m g
  · refine (θ_run _ _ _).mono (fun r h c => ⟨(h c).1.trans ?_, (h c).2⟩) (Cert.ReferenceIdeal.Value.run (F := Ideal) m' g')
    obtain ⟨a0, a1, a2, a3, a4, a5, a6, a7⟩ := hagree c
    obtain ⟨p0, p1, p2, p3, p4, p5, p6⟩ := hpre c
    refine (Cert.ReferenceIdeal.Attn.result_eq m' c).trans ?_
    rw [a0, a1, a2, a3, a4, a5, a6, a7]
    exact (Cert.KernelIdeal.Attn.final m c (Cert.PreFin.rows_fin _ _ _ _ p0) (Cert.PreFin.rows_fin _ _ _ _ p1) (Cert.PreFin.rows_fin _ _ _ _ p2)
      (Cert.PreFin.vec_fin _ _ p3) (Cert.PreFin.vec_fin _ _ p4) (Cert.PreFin.vec_fin _ _ p5) (Cert.PreFin.vec_fin _ _ p6)).symm

/-- With the tables in range the experts' kernel terminates, keeps its arguments and leaves every counter at zero. -/
theorem frame_P2 : Cert.quiescent_Kernel2 := fun m g h => Cert.Kernel2.Ffn.quiet m g (Cert.Kernel2.Ffn.ok_of_pre m h) (Cert.Kernel2.Ffn.nonNeg_of_pre m h)

/-- So does the ideal experts' kernel. -/
theorem frame_PI2 : Cert.quiescent_Kernel2Ideal := fun m g h => Cert.Kernel2Ideal.Ffn.quiet m g (Cert.Kernel2Ideal.Ffn.ok_of_pre m h) (Cert.Kernel2Ideal.Ffn.nonNeg_of_pre m h)

/-- So does the ideal reference of the experts, which declares no counter. -/
theorem frame_RI2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- So does the ideal reference of the experts under the precondition. -/
theorem frame_RI2_pre : Cert.quiescent_Reference2Ideal_pre_table_ranges := fun m g _ => frame_RI2 m g trivial

/-- With the tables in range the ideal experts' kernel and the ideal reference compute the same array. -/
theorem algebraic2 : Cert.algebraic_Kernel2Ideal_Reference2Ideal := by
  pair_intro
  · run_from Cert.Kernel2Ideal.Ffn.result m g (Cert.Kernel2Ideal.Ffn.ok_of_pre m hpre) (Cert.Kernel2Ideal.Ffn.nonNeg_of_pre m hpre) & Cert.Kernel2Ideal.Ffn.quiet m g (Cert.Kernel2Ideal.Ffn.ok_of_pre m hpre) (Cert.Kernel2Ideal.Ffn.nonNeg_of_pre m hpre)
  · refine (θ_run _ _ _).mono (fun r h c => ⟨(h c).1.trans ?_, (h c).2⟩) (Cert.Reference2Ideal.Value.run (F := Ideal) m' g')
    obtain ⟨a0, a1, a2, a3, a4, a5, a6, a7⟩ := hagree c
    refine (Cert.Reference2Ideal.Ffn.result_eq m' c).trans ?_
    rw [a0, a1, a2, a3, a4, a5, a6, a7]
    exact (Cert.Kernel2Ideal.Ffn.final m _ c (Cert.Kernel2Ideal.Ffn.range_of_pre m hpre)).symm

/-- The output projection's kernel terminates, keeps its arguments and leaves every counter at zero. -/
theorem frame_P3 : Cert.quiescent_Kernel3 := fun m g _ => Cert.Kernel3.Gen.frame m g

/-- So does the ideal output projection's kernel. -/
theorem frame_PI3 : Cert.quiescent_Kernel3Ideal := fun m g _ => Cert.Kernel3Ideal.Gen.frame m g

/-- So does the ideal reference of the output projection, which declares no counter. -/
theorem frame_RI3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

/-- The output projection's kernel leaves its two claimed results and its arguments. -/
theorem result3 (m : (ℓ : Loc Cert.Kernel3Ideal.nD Cert.Kernel3Ideal.τ Cert.Kernel3Ideal.sig) → Buf (Elt Ideal) ℓ) (g : Dev Cert.Kernel3Ideal.nD → PrngReg) :
    θ_run Cert.Kernel3Ideal.defs (onTc (τ := Cert.Kernel3Ideal.τ) (Cert.Kernel3Ideal.main (F := Ideal))) ⟨m, fun _ => 0, g⟩ fun r => ∀ c : Dev Cert.Kernel3Ideal.nD,
      r.2.mem ((c.tc : Thread Cert.Kernel3Ideal.nD Cert.Kernel3Ideal.τ).loc Cert.Kernel3Ideal.main_v4_0) = (Cert.Kernel3Ideal.Gen.dats m 0 c).arrAt 7 Cert.Kernel3Ideal.cfg0.N
      ∧ r.2.mem ((c.tc : Thread Cert.Kernel3Ideal.nD Cert.Kernel3Ideal.τ).loc Cert.Kernel3Ideal.main_v4_1) = (Cert.Kernel3Ideal.Gen.dats m 0 c).arrAt 8 Cert.Kernel3Ideal.cfg0.N
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6) :=
  (θ_run _ _ _).mono (fun r h c => ⟨(h c).1, (h c).2.1, (h c).2.2.2.2⟩) (Cert.Kernel3Ideal.Value.run_blocks (F := Ideal) m g)

/-- The ideal output projection's kernel and the ideal reference compute the same two arrays. -/
theorem algebraic3 : Cert.algebraic_Kernel3Ideal_Reference3Ideal := by
  pair_intro
  · run_from result3 m g & Cert.Kernel3Ideal.Gen.frame m g
  · refine (θ_run _ _ _).mono (fun r h c => ⟨(h c).1.trans ?_, (h c).2.1.trans ?_, (h c).2.2⟩) (Cert.Reference3Ideal.Value.run (F := Ideal) m' g')
    · obtain ⟨a0, a1, a2, a3, a4, a5, a6⟩ := hagree c
      refine Eq.trans ?_ (Cert.Kernel3Ideal.Out.final7 m c).symm
      rw [← a0, ← a1, ← a2, ← a3]
      rfl
    · obtain ⟨a0, a1, a2, a3, a4, a5, a6⟩ := hagree c
      refine Eq.trans ?_ (Cert.Kernel3Ideal.Out.final8 m c).symm
      rw [← a0, ← a1, ← a2, ← a3, ← a4]
      rfl

/-- The input projection's kernel terminates, keeps its arguments and leaves every counter at zero. -/
theorem frame_P4 : Cert.quiescent_Kernel4 := fun m g _ => Cert.Kernel4.Inp.quiet m g

/-- So does the ideal input projection's kernel. -/
theorem frame_PI4 : Cert.quiescent_Kernel4Ideal := fun m g _ => Cert.Kernel4Ideal.Inp.quiet m g

/-- So does the ideal reference of the input projection, which declares no counter. -/
theorem frame_RI4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- The ideal input projection's kernel and the ideal reference compute the same two arrays. -/
theorem algebraic4 : Cert.algebraic_Kernel4Ideal_Reference4Ideal := by
  pair_intro
  · run_from Cert.Kernel4Ideal.Inp.result m g & Cert.Kernel4Ideal.Inp.quiet m g
  · refine (θ_run _ _ _).mono (fun r h c => ⟨(h c).1.trans ?_, (h c).2.1.trans ?_, (h c).2.2⟩) (Cert.Reference4Ideal.Value.run (F := Ideal) m' g')
    · obtain ⟨a0, a1, a2, a3, a4⟩ := hagree c
      refine Eq.trans ?_ (Cert.Kernel4Ideal.Inp.final7 m c).symm
      rw [← a0, ← a1, ← a2]
      rfl
    · obtain ⟨a0, a1, a2, a3, a4⟩ := hagree c
      refine Eq.trans ?_ (Cert.Kernel4Ideal.Inp.final10 m c).symm
      rw [← a0, ← a1, ← a2]
      rfl

/-- The predicate on the samples' shape facts, as an instance. -/
instance preFacts5 : Cert.Pre_finite_samples.Facts := Cert.PreFin5.facts

/-- The samples' attention terminates, keeps its arguments and leaves every counter at zero. -/
theorem frame_P5 : Cert.quiescent_Kernel5 := fun m g _ => Cert.Kernel5.Attn.quiet m g

/-- So does its ideal kernel. -/
theorem frame_PI5 : Cert.quiescent_Kernel5Ideal := fun m g _ => Cert.Kernel5Ideal.Attn.quiet m g

/-- So does its ideal kernel under the precondition. -/
theorem frame_PI5_pre : Cert.quiescent_Kernel5Ideal_pre_finite_samples := fun m g _ => Cert.Kernel5Ideal.Attn.quiet m g

/-- So does its ideal reference, which declares no counter. -/
theorem frame_RI5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- So does its ideal reference under the precondition. -/
theorem frame_RI5_pre : Cert.quiescent_Reference5Ideal_pre_finite_samples := fun m g _ => frame_RI5 m g trivial

/-- Over finite arguments the samples' ideal kernel and the ideal reference compute the same array. -/
theorem algebraic5 : Cert.algebraic_Kernel5Ideal_Reference5Ideal_pre_finite_samples := by
  pair_intro
  · run_from Cert.Kernel5Ideal.Attn.result m g & Cert.Kernel5Ideal.Attn.quiet m g
  · refine (θ_run _ _ _).mono (fun r h c => ⟨(h c).1.trans ?_, (h c).2⟩) (Cert.Reference5Ideal.Value.run (F := Ideal) m' g')
    obtain ⟨a0, a1, a2, a3, a4, a5, a6, a7⟩ := hagree c
    obtain ⟨p0, p1, p2, p3, p4, p5, p6⟩ := hpre c
    refine (Cert.Reference5Ideal.Attn.result_eq m' c).trans ?_
    rw [a0, a1, a2, a3, a4, a5, a6, a7]
    exact (Cert.Kernel5Ideal.Attn.final m c (Cert.PreFin5.rows_fin _ _ _ _ p0) (Cert.PreFin5.rows_fin _ _ _ _ p1) (Cert.PreFin5.rows_fin _ _ _ _ p2)
      (Cert.PreFin.vec_fin _ _ p3) (Cert.PreFin.vec_fin _ _ p4) (Cert.PreFin.vec_fin _ _ p5) (Cert.PreFin.vec_fin _ _ p6)).symm

/-- All of the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.PreFin.facts, Cert.Pre_table_ranges.Gen.facts, Cert.PreFin5.facts,
  frame_P, frame_PI, frame_PI_pre, frame_RI, frame_RI_pre, frame_P2, frame_PI2, frame_RI2, frame_RI2_pre, frame_P3, frame_PI3, frame_RI3, frame_P4, frame_PI4, frame_RI4, frame_P5, frame_PI5, frame_PI5_pre, frame_RI5, frame_RI5_pre,
  trivial, algebraic, trivial, algebraic2, trivial, algebraic3, trivial, algebraic4, trivial, algebraic5⟩

end Cert.Proof

end
